-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_QkviKernel (m : (ℓ : Loc Cert.QkviKernel.nD Cert.QkviKernel.τ Cert.QkviKernel.sig) → Buf (Elt Bits) ℓ) : Prop :=
  True

def Pre_QkviKernelIdeal (m : (ℓ : Loc Cert.QkviKernelIdeal.nD Cert.QkviKernelIdeal.τ Cert.QkviKernelIdeal.sig) → Buf (Elt Ideal) ℓ) : Prop :=
  True

def Pre_QkviReferenceIdeal (m : (ℓ : Loc Cert.QkviReferenceIdeal.nD Cert.QkviReferenceIdeal.τ Cert.QkviReferenceIdeal.sig) → Buf (Elt Ideal) ℓ) : Prop :=
  True

def Pre_IdxKernel (m : (ℓ : Loc Cert.IdxKernel.nD Cert.IdxKernel.τ Cert.IdxKernel.sig) → Buf (Elt Bits) ℓ) : Prop :=
  True

def Pre_IdxKernelIdeal (m : (ℓ : Loc Cert.IdxKernelIdeal.nD Cert.IdxKernelIdeal.τ Cert.IdxKernelIdeal.sig) → Buf (Elt Ideal) ℓ) : Prop :=
  True

def Pre_IdxReferenceIdeal (m : (ℓ : Loc Cert.IdxReferenceIdeal.nD Cert.IdxReferenceIdeal.τ Cert.IdxReferenceIdeal.sig) → Buf (Elt Ideal) ℓ) : Prop :=
  True

def Pre_DownKernel [hPre_items_of_blocks : Cert.Pre_items_of_blocks.Facts] (m : (ℓ : Loc Cert.DownKernel.nD Cert.DownKernel.τ Cert.DownKernel.sig) → Buf (Elt Bits) ℓ) : Prop :=
  ∀ c : Dev Cert.DownKernel.nD,
    (Cert.Pre_items_of_blocks.fn (F := Bits) (m ((c.tc : Thread Cert.DownKernel.nD Cert.DownKernel.τ).loc Cert.DownKernel.main_arg0)) (m ((c.tc : Thread Cert.DownKernel.nD Cert.DownKernel.τ).loc Cert.DownKernel.main_arg1)) (m ((c.tc : Thread Cert.DownKernel.nD Cert.DownKernel.τ).loc Cert.DownKernel.main_arg2)) (m ((c.tc : Thread Cert.DownKernel.nD Cert.DownKernel.τ).loc Cert.DownKernel.main_arg3)) (m ((c.tc : Thread Cert.DownKernel.nD Cert.DownKernel.τ).loc Cert.DownKernel.main_arg4)) (m ((c.tc : Thread Cert.DownKernel.nD Cert.DownKernel.τ).loc Cert.DownKernel.main_arg5)) (m ((c.tc : Thread Cert.DownKernel.nD Cert.DownKernel.τ).loc Cert.DownKernel.main_arg6)) (m ((c.tc : Thread Cert.DownKernel.nD Cert.DownKernel.τ).loc Cert.DownKernel.main_arg7)) (m ((c.tc : Thread Cert.DownKernel.nD Cert.DownKernel.τ).loc Cert.DownKernel.main_arg8)) (m ((c.tc : Thread Cert.DownKernel.nD Cert.DownKernel.τ).loc Cert.DownKernel.main_arg9))) = (fun _ => 1#1)

def Pre_DownKernelIdeal [hPre_items_of_blocks : Cert.Pre_items_of_blocks.Facts] (m : (ℓ : Loc Cert.DownKernelIdeal.nD Cert.DownKernelIdeal.τ Cert.DownKernelIdeal.sig) → Buf (Elt Ideal) ℓ) : Prop :=
  ∀ c : Dev Cert.DownKernelIdeal.nD,
    (Cert.Pre_items_of_blocks.fn (F := Ideal) (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)) (m ((c.tc : Thread Cert.DownKernelIdeal.nD Cert.DownKernelIdeal.τ).loc Cert.DownKernelIdeal.main_arg2)) (m ((c.tc : Thread Cert.DownKernelIdeal.nD Cert.DownKernelIdeal.τ).loc Cert.DownKernelIdeal.main_arg3)) (m ((c.tc : Thread Cert.DownKernelIdeal.nD Cert.DownKernelIdeal.τ).loc Cert.DownKernelIdeal.main_arg4)) (m ((c.tc : Thread Cert.DownKernelIdeal.nD Cert.DownKernelIdeal.τ).loc Cert.DownKernelIdeal.main_arg5)) (m ((c.tc : Thread Cert.DownKernelIdeal.nD Cert.DownKernelIdeal.τ).loc Cert.DownKernelIdeal.main_arg6)) (m ((c.tc : Thread Cert.DownKernelIdeal.nD Cert.DownKernelIdeal.τ).loc Cert.DownKernelIdeal.main_arg7)) (m ((c.tc : Thread Cert.DownKernelIdeal.nD Cert.DownKernelIdeal.τ).loc Cert.DownKernelIdeal.main_arg8)) (m ((c.tc : Thread Cert.DownKernelIdeal.nD Cert.DownKernelIdeal.τ).loc Cert.DownKernelIdeal.main_arg9))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_items_of_blocks [hPre_items_of_blocks : Cert.Pre_items_of_blocks.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_items_of_blocks.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5)) (m ((c.tc : Thread Cert.DownReferenceIdeal.nD Cert.DownReferenceIdeal.τ).loc Cert.DownReferenceIdeal.main_arg6)) (m ((c.tc : Thread Cert.DownReferenceIdeal.nD Cert.DownReferenceIdeal.τ).loc Cert.DownReferenceIdeal.main_arg7)) (m ((c.tc : Thread Cert.DownReferenceIdeal.nD Cert.DownReferenceIdeal.τ).loc Cert.DownReferenceIdeal.main_arg8)) (m ((c.tc : Thread Cert.DownReferenceIdeal.nD Cert.DownReferenceIdeal.τ).loc Cert.DownReferenceIdeal.main_arg9))) = (fun _ => 1#1)

def Pre_UpKernel [hPre_items_of_up : Cert.Pre_items_of_up.Facts] (m : (ℓ : Loc Cert.UpKernel.nD Cert.UpKernel.τ Cert.UpKernel.sig) → Buf (Elt Bits) ℓ) : Prop :=
  ∀ c : Dev Cert.UpKernel.nD,
    (Cert.Pre_items_of_up.fn (F := Bits) (m ((c.tc : Thread Cert.UpKernel.nD Cert.UpKernel.τ).loc Cert.UpKernel.main_arg0)) (m ((c.tc : Thread Cert.UpKernel.nD Cert.UpKernel.τ).loc Cert.UpKernel.main_arg1)) (m ((c.tc : Thread Cert.UpKernel.nD Cert.UpKernel.τ).loc Cert.UpKernel.main_arg2)) (m ((c.tc : Thread Cert.UpKernel.nD Cert.UpKernel.τ).loc Cert.UpKernel.main_arg3)) (m ((c.tc : Thread Cert.UpKernel.nD Cert.UpKernel.τ).loc Cert.UpKernel.main_arg4)) (m ((c.tc : Thread Cert.UpKernel.nD Cert.UpKernel.τ).loc Cert.UpKernel.main_arg5)) (m ((c.tc : Thread Cert.UpKernel.nD Cert.UpKernel.τ).loc Cert.UpKernel.main_arg6)) (m ((c.tc : Thread Cert.UpKernel.nD Cert.UpKernel.τ).loc Cert.UpKernel.main_arg7)) (m ((c.tc : Thread Cert.UpKernel.nD Cert.UpKernel.τ).loc Cert.UpKernel.main_arg8)) (m ((c.tc : Thread Cert.UpKernel.nD Cert.UpKernel.τ).loc Cert.UpKernel.main_arg9))) = (fun _ => 1#1)

def Pre_UpKernelIdeal [hPre_items_of_up : Cert.Pre_items_of_up.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_items_of_up.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8)) (m ((c.tc : Thread Cert.UpKernelIdeal.nD Cert.UpKernelIdeal.τ).loc Cert.UpKernelIdeal.main_arg9))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_items_of_up [hPre_items_of_up : Cert.Pre_items_of_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_items_of_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8)) (m ((c.tc : Thread Cert.UpReferenceIdeal.nD Cert.UpReferenceIdeal.τ).loc Cert.UpReferenceIdeal.main_arg9))) = (fun _ => 1#1)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_QkviKernel [hQkviKernel : Cert.QkviKernel.Facts] : Prop :=
  ∀ (m : (ℓ : Loc Cert.QkviKernel.nD Cert.QkviKernel.τ Cert.QkviKernel.sig) → Buf (Elt Bits) ℓ) (g : Dev Cert.QkviKernel.nD → PrngReg), Pre_QkviKernel m →
    θ_run (Cert.QkviKernel.defs (F := Bits)) (onTc (τ := Cert.QkviKernel.τ) (Cert.QkviKernel.main (F := Bits))) ⟨m, fun _ => 0, g⟩ (fun r => (∀ c : Dev Cert.QkviKernel.nD,
      r.2.mem ((c.tc : Thread Cert.QkviKernel.nD Cert.QkviKernel.τ).loc Cert.QkviKernel.main_arg0) = m ((c.tc : Thread Cert.QkviKernel.nD Cert.QkviKernel.τ).loc Cert.QkviKernel.main_arg0)
      ∧ r.2.mem ((c.tc : Thread Cert.QkviKernel.nD Cert.QkviKernel.τ).loc Cert.QkviKernel.main_arg1) = m ((c.tc : Thread Cert.QkviKernel.nD Cert.QkviKernel.τ).loc Cert.QkviKernel.main_arg1))
      ∧ r.2.sem = fun _ => 0)

def quiescent_QkviKernelIdeal [hQkviKernelIdeal : Cert.QkviKernelIdeal.Facts] : Prop :=
  ∀ (m : (ℓ : Loc Cert.QkviKernelIdeal.nD Cert.QkviKernelIdeal.τ Cert.QkviKernelIdeal.sig) → Buf (Elt Ideal) ℓ) (g : Dev Cert.QkviKernelIdeal.nD → PrngReg), Pre_QkviKernelIdeal m →
    θ_run (Cert.QkviKernelIdeal.defs (F := Ideal)) (onTc (τ := Cert.QkviKernelIdeal.τ) (Cert.QkviKernelIdeal.main (F := Ideal))) ⟨m, fun _ => 0, g⟩ (fun r => (∀ c : Dev Cert.QkviKernelIdeal.nD,
      r.2.mem ((c.tc : Thread Cert.QkviKernelIdeal.nD Cert.QkviKernelIdeal.τ).loc Cert.QkviKernelIdeal.main_arg0) = m ((c.tc : Thread Cert.QkviKernelIdeal.nD Cert.QkviKernelIdeal.τ).loc Cert.QkviKernelIdeal.main_arg0)
      ∧ r.2.mem ((c.tc : Thread Cert.QkviKernelIdeal.nD Cert.QkviKernelIdeal.τ).loc Cert.QkviKernelIdeal.main_arg1) = m ((c.tc : Thread Cert.QkviKernelIdeal.nD Cert.QkviKernelIdeal.τ).loc Cert.QkviKernelIdeal.main_arg1))
      ∧ r.2.sem = fun _ => 0)

def quiescent_QkviReferenceIdeal [hQkviReferenceIdeal : Cert.QkviReferenceIdeal.Facts] : Prop :=
  ∀ (m : (ℓ : Loc Cert.QkviReferenceIdeal.nD Cert.QkviReferenceIdeal.τ Cert.QkviReferenceIdeal.sig) → Buf (Elt Ideal) ℓ) (g : Dev Cert.QkviReferenceIdeal.nD → PrngReg), Pre_QkviReferenceIdeal m →
    θ_run (Cert.QkviReferenceIdeal.defs (F := Ideal)) (onTc (τ := Cert.QkviReferenceIdeal.τ) (Cert.QkviReferenceIdeal.main (F := Ideal))) ⟨m, fun _ => 0, g⟩ (fun r => (∀ c : Dev Cert.QkviReferenceIdeal.nD,
      r.2.mem ((c.tc : Thread Cert.QkviReferenceIdeal.nD Cert.QkviReferenceIdeal.τ).loc Cert.QkviReferenceIdeal.main_arg0) = m ((c.tc : Thread Cert.QkviReferenceIdeal.nD Cert.QkviReferenceIdeal.τ).loc Cert.QkviReferenceIdeal.main_arg0)
      ∧ r.2.mem ((c.tc : Thread Cert.QkviReferenceIdeal.nD Cert.QkviReferenceIdeal.τ).loc Cert.QkviReferenceIdeal.main_arg1) = m ((c.tc : Thread Cert.QkviReferenceIdeal.nD Cert.QkviReferenceIdeal.τ).loc Cert.QkviReferenceIdeal.main_arg1))
      ∧ r.2.sem = fun _ => 0)

def quiescent_IdxKernel [hIdxKernel : Cert.IdxKernel.Facts] : Prop :=
  ∀ (m : (ℓ : Loc Cert.IdxKernel.nD Cert.IdxKernel.τ Cert.IdxKernel.sig) → Buf (Elt Bits) ℓ) (g : Dev Cert.IdxKernel.nD → PrngReg), Pre_IdxKernel m →
    θ_run (Cert.IdxKernel.defs (F := Bits)) (onTc (τ := Cert.IdxKernel.τ) (Cert.IdxKernel.main (F := Bits))) ⟨m, fun _ => 0, g⟩ (fun r => (∀ c : Dev Cert.IdxKernel.nD,
      r.2.mem ((c.tc : Thread Cert.IdxKernel.nD Cert.IdxKernel.τ).loc Cert.IdxKernel.main_arg0) = m ((c.tc : Thread Cert.IdxKernel.nD Cert.IdxKernel.τ).loc Cert.IdxKernel.main_arg0)
      ∧ r.2.mem ((c.tc : Thread Cert.IdxKernel.nD Cert.IdxKernel.τ).loc Cert.IdxKernel.main_arg1) = m ((c.tc : Thread Cert.IdxKernel.nD Cert.IdxKernel.τ).loc Cert.IdxKernel.main_arg1))
      ∧ r.2.sem = fun _ => 0)

def quiescent_IdxKernelIdeal [hIdxKernelIdeal : Cert.IdxKernelIdeal.Facts] : Prop :=
  ∀ (m : (ℓ : Loc Cert.IdxKernelIdeal.nD Cert.IdxKernelIdeal.τ Cert.IdxKernelIdeal.sig) → Buf (Elt Ideal) ℓ) (g : Dev Cert.IdxKernelIdeal.nD → PrngReg), Pre_IdxKernelIdeal m →
    θ_run (Cert.IdxKernelIdeal.defs (F := Ideal)) (onTc (τ := Cert.IdxKernelIdeal.τ) (Cert.IdxKernelIdeal.main (F := Ideal))) ⟨m, fun _ => 0, g⟩ (fun r => (∀ c : Dev Cert.IdxKernelIdeal.nD,
      r.2.mem ((c.tc : Thread Cert.IdxKernelIdeal.nD Cert.IdxKernelIdeal.τ).loc Cert.IdxKernelIdeal.main_arg0) = m ((c.tc : Thread Cert.IdxKernelIdeal.nD Cert.IdxKernelIdeal.τ).loc Cert.IdxKernelIdeal.main_arg0)
      ∧ r.2.mem ((c.tc : Thread Cert.IdxKernelIdeal.nD Cert.IdxKernelIdeal.τ).loc Cert.IdxKernelIdeal.main_arg1) = m ((c.tc : Thread Cert.IdxKernelIdeal.nD Cert.IdxKernelIdeal.τ).loc Cert.IdxKernelIdeal.main_arg1))
      ∧ r.2.sem = fun _ => 0)

def quiescent_IdxReferenceIdeal [hIdxReferenceIdeal : Cert.IdxReferenceIdeal.Facts] : Prop :=
  ∀ (m : (ℓ : Loc Cert.IdxReferenceIdeal.nD Cert.IdxReferenceIdeal.τ Cert.IdxReferenceIdeal.sig) → Buf (Elt Ideal) ℓ) (g : Dev Cert.IdxReferenceIdeal.nD → PrngReg), Pre_IdxReferenceIdeal m →
    θ_run (Cert.IdxReferenceIdeal.defs (F := Ideal)) (onTc (τ := Cert.IdxReferenceIdeal.τ) (Cert.IdxReferenceIdeal.main (F := Ideal))) ⟨m, fun _ => 0, g⟩ (fun r => (∀ c : Dev Cert.IdxReferenceIdeal.nD,
      r.2.mem ((c.tc : Thread Cert.IdxReferenceIdeal.nD Cert.IdxReferenceIdeal.τ).loc Cert.IdxReferenceIdeal.main_arg0) = m ((c.tc : Thread Cert.IdxReferenceIdeal.nD Cert.IdxReferenceIdeal.τ).loc Cert.IdxReferenceIdeal.main_arg0)
      ∧ r.2.mem ((c.tc : Thread Cert.IdxReferenceIdeal.nD Cert.IdxReferenceIdeal.τ).loc Cert.IdxReferenceIdeal.main_arg1) = m ((c.tc : Thread Cert.IdxReferenceIdeal.nD Cert.IdxReferenceIdeal.τ).loc Cert.IdxReferenceIdeal.main_arg1))
      ∧ r.2.sem = fun _ => 0)

def quiescent_DownKernel [hDownKernel : Cert.DownKernel.Facts] [hPre_items_of_blocks : Cert.Pre_items_of_blocks.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5)
      ∧ r.2.mem ((c.tc : Thread Cert.DownKernel.nD Cert.DownKernel.τ).loc Cert.DownKernel.main_arg6) = m ((c.tc : Thread Cert.DownKernel.nD Cert.DownKernel.τ).loc Cert.DownKernel.main_arg6)
      ∧ r.2.mem ((c.tc : Thread Cert.DownKernel.nD Cert.DownKernel.τ).loc Cert.DownKernel.main_arg7) = m ((c.tc : Thread Cert.DownKernel.nD Cert.DownKernel.τ).loc Cert.DownKernel.main_arg7)
      ∧ r.2.mem ((c.tc : Thread Cert.DownKernel.nD Cert.DownKernel.τ).loc Cert.DownKernel.main_arg8) = m ((c.tc : Thread Cert.DownKernel.nD Cert.DownKernel.τ).loc Cert.DownKernel.main_arg8)
      ∧ r.2.mem ((c.tc : Thread Cert.DownKernel.nD Cert.DownKernel.τ).loc Cert.DownKernel.main_arg9) = m ((c.tc : Thread Cert.DownKernel.nD Cert.DownKernel.τ).loc Cert.DownKernel.main_arg9))
      ∧ r.2.sem = fun _ => 0)

def quiescent_DownKernelIdeal [hDownKernelIdeal : Cert.DownKernelIdeal.Facts] [hPre_items_of_blocks : Cert.Pre_items_of_blocks.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
      ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6)
      ∧ r.2.mem ((c.tc : Thread Cert.DownKernelIdeal.nD Cert.DownKernelIdeal.τ).loc Cert.DownKernelIdeal.main_arg7) = m ((c.tc : Thread Cert.DownKernelIdeal.nD Cert.DownKernelIdeal.τ).loc Cert.DownKernelIdeal.main_arg7)
      ∧ r.2.mem ((c.tc : Thread Cert.DownKernelIdeal.nD Cert.DownKernelIdeal.τ).loc Cert.DownKernelIdeal.main_arg8) = m ((c.tc : Thread Cert.DownKernelIdeal.nD Cert.DownKernelIdeal.τ).loc Cert.DownKernelIdeal.main_arg8)
      ∧ r.2.mem ((c.tc : Thread Cert.DownKernelIdeal.nD Cert.DownKernelIdeal.τ).loc Cert.DownKernelIdeal.main_arg9) = m ((c.tc : Thread Cert.DownKernelIdeal.nD Cert.DownKernelIdeal.τ).loc Cert.DownKernelIdeal.main_arg9))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6)
      ∧ r.2.mem ((c.tc : Thread Cert.DownReferenceIdeal.nD Cert.DownReferenceIdeal.τ).loc Cert.DownReferenceIdeal.main_arg7) = m ((c.tc : Thread Cert.DownReferenceIdeal.nD Cert.DownReferenceIdeal.τ).loc Cert.DownReferenceIdeal.main_arg7)
      ∧ r.2.mem ((c.tc : Thread Cert.DownReferenceIdeal.nD Cert.DownReferenceIdeal.τ).loc Cert.DownReferenceIdeal.main_arg8) = m ((c.tc : Thread Cert.DownReferenceIdeal.nD Cert.DownReferenceIdeal.τ).loc Cert.DownReferenceIdeal.main_arg8)
      ∧ r.2.mem ((c.tc : Thread Cert.DownReferenceIdeal.nD Cert.DownReferenceIdeal.τ).loc Cert.DownReferenceIdeal.main_arg9) = m ((c.tc : Thread Cert.DownReferenceIdeal.nD Cert.DownReferenceIdeal.τ).loc Cert.DownReferenceIdeal.main_arg9))
      ∧ r.2.sem = fun _ => 0)

def quiescent_DownReferenceIdeal_pre_items_of_blocks [hDownReferenceIdeal : Cert.DownReferenceIdeal.Facts] [hPre_items_of_blocks : Cert.Pre_items_of_blocks.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_items_of_blocks m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6)
      ∧ r.2.mem ((c.tc : Thread Cert.DownReferenceIdeal.nD Cert.DownReferenceIdeal.τ).loc Cert.DownReferenceIdeal.main_arg7) = m ((c.tc : Thread Cert.DownReferenceIdeal.nD Cert.DownReferenceIdeal.τ).loc Cert.DownReferenceIdeal.main_arg7)
      ∧ r.2.mem ((c.tc : Thread Cert.DownReferenceIdeal.nD Cert.DownReferenceIdeal.τ).loc Cert.DownReferenceIdeal.main_arg8) = m ((c.tc : Thread Cert.DownReferenceIdeal.nD Cert.DownReferenceIdeal.τ).loc Cert.DownReferenceIdeal.main_arg8)
      ∧ r.2.mem ((c.tc : Thread Cert.DownReferenceIdeal.nD Cert.DownReferenceIdeal.τ).loc Cert.DownReferenceIdeal.main_arg9) = m ((c.tc : Thread Cert.DownReferenceIdeal.nD Cert.DownReferenceIdeal.τ).loc Cert.DownReferenceIdeal.main_arg9))
      ∧ r.2.sem = fun _ => 0)

def quiescent_UpKernel [hUpKernel : Cert.UpKernel.Facts] [hPre_items_of_up : Cert.Pre_items_of_up.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6)
      ∧ r.2.mem ((c.tc : Thread Cert.UpKernel.nD Cert.UpKernel.τ).loc Cert.UpKernel.main_arg7) = m ((c.tc : Thread Cert.UpKernel.nD Cert.UpKernel.τ).loc Cert.UpKernel.main_arg7)
      ∧ r.2.mem ((c.tc : Thread Cert.UpKernel.nD Cert.UpKernel.τ).loc Cert.UpKernel.main_arg8) = m ((c.tc : Thread Cert.UpKernel.nD Cert.UpKernel.τ).loc Cert.UpKernel.main_arg8)
      ∧ r.2.mem ((c.tc : Thread Cert.UpKernel.nD Cert.UpKernel.τ).loc Cert.UpKernel.main_arg9) = m ((c.tc : Thread Cert.UpKernel.nD Cert.UpKernel.τ).loc Cert.UpKernel.main_arg9))
      ∧ r.2.sem = fun _ => 0)

def quiescent_UpKernelIdeal [hUpKernelIdeal : Cert.UpKernelIdeal.Facts] [hPre_items_of_up : Cert.Pre_items_of_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
      ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8)
      ∧ r.2.mem ((c.tc : Thread Cert.UpKernelIdeal.nD Cert.UpKernelIdeal.τ).loc Cert.UpKernelIdeal.main_arg9) = m ((c.tc : Thread Cert.UpKernelIdeal.nD Cert.UpKernelIdeal.τ).loc Cert.UpKernelIdeal.main_arg9))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8)
      ∧ r.2.mem ((c.tc : Thread Cert.UpReferenceIdeal.nD Cert.UpReferenceIdeal.τ).loc Cert.UpReferenceIdeal.main_arg9) = m ((c.tc : Thread Cert.UpReferenceIdeal.nD Cert.UpReferenceIdeal.τ).loc Cert.UpReferenceIdeal.main_arg9))
      ∧ r.2.sem = fun _ => 0)

def quiescent_UpReferenceIdeal_pre_items_of_up [hUpReferenceIdeal : Cert.UpReferenceIdeal.Facts] [hPre_items_of_up : Cert.Pre_items_of_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_items_of_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8)
      ∧ r.2.mem ((c.tc : Thread Cert.UpReferenceIdeal.nD Cert.UpReferenceIdeal.τ).loc Cert.UpReferenceIdeal.main_arg9) = m ((c.tc : Thread Cert.UpReferenceIdeal.nD Cert.UpReferenceIdeal.τ).loc Cert.UpReferenceIdeal.main_arg9))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)) →
    ∃ (v0 : (c : Dev Cert.ConvKernelIdeal.nD) → Buf (Elt Ideal) ((c.tc : Thread Cert.ConvKernelIdeal.nD Cert.ConvKernelIdeal.τ).loc Cert.ConvKernelIdeal.main_v1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v248) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_OutKernel_OutKernelIdeal : Prop :=
  IdealRules.bf16_pair.BufferStatement Cert.OutKernelIdeal.S16384x2x2048 Cert.OutKernelIdeal.S16384x1x2048
  ∧ IdealRules.bf16_pair.BufferStatement Cert.OutKernelIdeal.S512x2x2048 Cert.OutKernelIdeal.S512x1x2048
  ∧ IdealRules.bf16_pair.Statement Cert.OutKernelIdeal.S16x2x2048 Cert.OutKernelIdeal.S16x1x2048
  ∧ IdealRules.bf16_pack.Statement Cert.OutKernelIdeal.S16x2048

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v17_0)) (v1 : (c : Dev Cert.OutKernelIdeal.nD) → Buf (Elt Ideal) ((c.tc : Thread Cert.OutKernelIdeal.nD Cert.OutKernelIdeal.τ).loc Cert.OutKernelIdeal.main_v17_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v17_0) = v0 c
          ∧ r.2.mem ((c.tc : Thread Cert.OutKernelIdeal.nD Cert.OutKernelIdeal.τ).loc Cert.OutKernelIdeal.main_v17_2) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v34) = v0 c
          ∧ r.2.mem ((c.tc : Thread Cert.OutReferenceIdeal.nD Cert.OutReferenceIdeal.τ).loc Cert.OutReferenceIdeal.main_v48) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)) →
    ∃ (v0 : (c : Dev Cert.GluKernelIdeal.nD) → Buf (Elt Ideal) ((c.tc : Thread Cert.GluKernelIdeal.nD Cert.GluKernelIdeal.τ).loc Cert.GluKernelIdeal.main_v2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v11) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_QkviKernel_QkviKernelIdeal : Prop :=
  True

def algebraic_QkviKernelIdeal_QkviReferenceIdeal [hQkviKernelIdeal : Cert.QkviKernelIdeal.Facts] [hQkviReferenceIdeal : Cert.QkviReferenceIdeal.Facts] : Prop :=
  ∀ (m : (ℓ : Loc Cert.QkviKernelIdeal.nD Cert.QkviKernelIdeal.τ Cert.QkviKernelIdeal.sig) → Buf (Elt Ideal) ℓ) (g : Dev Cert.QkviKernelIdeal.nD → PrngReg)
    (m' : (ℓ : Loc Cert.QkviReferenceIdeal.nD Cert.QkviReferenceIdeal.τ Cert.QkviReferenceIdeal.sig) → Buf (Elt Ideal) ℓ) (g' : Dev Cert.QkviReferenceIdeal.nD → PrngReg), Pre_QkviKernelIdeal m →
    (∀ c : Dev Cert.QkviKernelIdeal.nD,
      m' ((c.tc : Thread Cert.QkviReferenceIdeal.nD Cert.QkviReferenceIdeal.τ).loc Cert.QkviReferenceIdeal.main_arg0) = m ((c.tc : Thread Cert.QkviKernelIdeal.nD Cert.QkviKernelIdeal.τ).loc Cert.QkviKernelIdeal.main_arg0)
      ∧ m' ((c.tc : Thread Cert.QkviReferenceIdeal.nD Cert.QkviReferenceIdeal.τ).loc Cert.QkviReferenceIdeal.main_arg1) = m ((c.tc : Thread Cert.QkviKernelIdeal.nD Cert.QkviKernelIdeal.τ).loc Cert.QkviKernelIdeal.main_arg1)) →
    ∃ (v0 : (c : Dev Cert.QkviKernelIdeal.nD) → Buf (Elt Ideal) ((c.tc : Thread Cert.QkviKernelIdeal.nD Cert.QkviKernelIdeal.τ).loc Cert.QkviKernelIdeal.main_v7)),
      θ_run (Cert.QkviKernelIdeal.defs (F := Ideal)) (onTc (τ := Cert.QkviKernelIdeal.τ) (Cert.QkviKernelIdeal.main (F := Ideal))) ⟨m, fun _ => 0, g⟩ (fun r => ∀ c : Dev Cert.QkviKernelIdeal.nD,
          r.2.mem ((c.tc : Thread Cert.QkviKernelIdeal.nD Cert.QkviKernelIdeal.τ).loc Cert.QkviKernelIdeal.main_v7) = v0 c
          ∧ r.2.mem ((c.tc : Thread Cert.QkviKernelIdeal.nD Cert.QkviKernelIdeal.τ).loc Cert.QkviKernelIdeal.main_arg0) = m ((c.tc : Thread Cert.QkviKernelIdeal.nD Cert.QkviKernelIdeal.τ).loc Cert.QkviKernelIdeal.main_arg0)
          ∧ r.2.mem ((c.tc : Thread Cert.QkviKernelIdeal.nD Cert.QkviKernelIdeal.τ).loc Cert.QkviKernelIdeal.main_arg1) = m ((c.tc : Thread Cert.QkviKernelIdeal.nD Cert.QkviKernelIdeal.τ).loc Cert.QkviKernelIdeal.main_arg1))
      ∧ θ_run (Cert.QkviReferenceIdeal.defs (F := Ideal)) (onTc (τ := Cert.QkviReferenceIdeal.τ) (Cert.QkviReferenceIdeal.main (F := Ideal))) ⟨m', fun _ => 0, g'⟩ (fun r => ∀ c : Dev Cert.QkviReferenceIdeal.nD,
          r.2.mem ((c.tc : Thread Cert.QkviReferenceIdeal.nD Cert.QkviReferenceIdeal.τ).loc Cert.QkviReferenceIdeal.main_v11) = v0 c
          ∧ r.2.mem ((c.tc : Thread Cert.QkviReferenceIdeal.nD Cert.QkviReferenceIdeal.τ).loc Cert.QkviReferenceIdeal.main_arg0) = m' ((c.tc : Thread Cert.QkviReferenceIdeal.nD Cert.QkviReferenceIdeal.τ).loc Cert.QkviReferenceIdeal.main_arg0)
          ∧ r.2.mem ((c.tc : Thread Cert.QkviReferenceIdeal.nD Cert.QkviReferenceIdeal.τ).loc Cert.QkviReferenceIdeal.main_arg1) = m' ((c.tc : Thread Cert.QkviReferenceIdeal.nD Cert.QkviReferenceIdeal.τ).loc Cert.QkviReferenceIdeal.main_arg1))

def preserves_IdxKernel_IdxKernelIdeal : Prop :=
  True

def algebraic_IdxKernelIdeal_IdxReferenceIdeal [hIdxKernelIdeal : Cert.IdxKernelIdeal.Facts] [hIdxReferenceIdeal : Cert.IdxReferenceIdeal.Facts] : Prop :=
  ∀ (m : (ℓ : Loc Cert.IdxKernelIdeal.nD Cert.IdxKernelIdeal.τ Cert.IdxKernelIdeal.sig) → Buf (Elt Ideal) ℓ) (g : Dev Cert.IdxKernelIdeal.nD → PrngReg)
    (m' : (ℓ : Loc Cert.IdxReferenceIdeal.nD Cert.IdxReferenceIdeal.τ Cert.IdxReferenceIdeal.sig) → Buf (Elt Ideal) ℓ) (g' : Dev Cert.IdxReferenceIdeal.nD → PrngReg), Pre_IdxKernelIdeal m →
    (∀ c : Dev Cert.IdxKernelIdeal.nD,
      m' ((c.tc : Thread Cert.IdxReferenceIdeal.nD Cert.IdxReferenceIdeal.τ).loc Cert.IdxReferenceIdeal.main_arg0) = m ((c.tc : Thread Cert.IdxKernelIdeal.nD Cert.IdxKernelIdeal.τ).loc Cert.IdxKernelIdeal.main_arg0)
      ∧ m' ((c.tc : Thread Cert.IdxReferenceIdeal.nD Cert.IdxReferenceIdeal.τ).loc Cert.IdxReferenceIdeal.main_arg1) = m ((c.tc : Thread Cert.IdxKernelIdeal.nD Cert.IdxKernelIdeal.τ).loc Cert.IdxKernelIdeal.main_arg1)) →
    ∃ (v0 : (c : Dev Cert.IdxKernelIdeal.nD) → Buf (Elt Ideal) ((c.tc : Thread Cert.IdxKernelIdeal.nD Cert.IdxKernelIdeal.τ).loc Cert.IdxKernelIdeal.main_v5_0)) (v1 : (c : Dev Cert.IdxKernelIdeal.nD) → Buf (Elt Ideal) ((c.tc : Thread Cert.IdxKernelIdeal.nD Cert.IdxKernelIdeal.τ).loc Cert.IdxKernelIdeal.main_v5_1)),
      θ_run (Cert.IdxKernelIdeal.defs (F := Ideal)) (onTc (τ := Cert.IdxKernelIdeal.τ) (Cert.IdxKernelIdeal.main (F := Ideal))) ⟨m, fun _ => 0, g⟩ (fun r => ∀ c : Dev Cert.IdxKernelIdeal.nD,
          r.2.mem ((c.tc : Thread Cert.IdxKernelIdeal.nD Cert.IdxKernelIdeal.τ).loc Cert.IdxKernelIdeal.main_v5_0) = v0 c
          ∧ r.2.mem ((c.tc : Thread Cert.IdxKernelIdeal.nD Cert.IdxKernelIdeal.τ).loc Cert.IdxKernelIdeal.main_v5_1) = v1 c
          ∧ r.2.mem ((c.tc : Thread Cert.IdxKernelIdeal.nD Cert.IdxKernelIdeal.τ).loc Cert.IdxKernelIdeal.main_arg0) = m ((c.tc : Thread Cert.IdxKernelIdeal.nD Cert.IdxKernelIdeal.τ).loc Cert.IdxKernelIdeal.main_arg0)
          ∧ r.2.mem ((c.tc : Thread Cert.IdxKernelIdeal.nD Cert.IdxKernelIdeal.τ).loc Cert.IdxKernelIdeal.main_arg1) = m ((c.tc : Thread Cert.IdxKernelIdeal.nD Cert.IdxKernelIdeal.τ).loc Cert.IdxKernelIdeal.main_arg1))
      ∧ θ_run (Cert.IdxReferenceIdeal.defs (F := Ideal)) (onTc (τ := Cert.IdxReferenceIdeal.τ) (Cert.IdxReferenceIdeal.main (F := Ideal))) ⟨m', fun _ => 0, g'⟩ (fun r => ∀ c : Dev Cert.IdxReferenceIdeal.nD,
          r.2.mem ((c.tc : Thread Cert.IdxReferenceIdeal.nD Cert.IdxReferenceIdeal.τ).loc Cert.IdxReferenceIdeal.main_v3) = v0 c
          ∧ r.2.mem ((c.tc : Thread Cert.IdxReferenceIdeal.nD Cert.IdxReferenceIdeal.τ).loc Cert.IdxReferenceIdeal.main_v5) = v1 c
          ∧ r.2.mem ((c.tc : Thread Cert.IdxReferenceIdeal.nD Cert.IdxReferenceIdeal.τ).loc Cert.IdxReferenceIdeal.main_arg0) = m' ((c.tc : Thread Cert.IdxReferenceIdeal.nD Cert.IdxReferenceIdeal.τ).loc Cert.IdxReferenceIdeal.main_arg0)
          ∧ r.2.mem ((c.tc : Thread Cert.IdxReferenceIdeal.nD Cert.IdxReferenceIdeal.τ).loc Cert.IdxReferenceIdeal.main_arg1) = m' ((c.tc : Thread Cert.IdxReferenceIdeal.nD Cert.IdxReferenceIdeal.τ).loc Cert.IdxReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] [hPre_items_of_blocks : Cert.Pre_items_of_blocks.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)
      ∧ m' ((c.tc : Thread Cert.DownReferenceIdeal.nD Cert.DownReferenceIdeal.τ).loc Cert.DownReferenceIdeal.main_arg6) = m ((c.tc : Thread Cert.DownKernelIdeal.nD Cert.DownKernelIdeal.τ).loc Cert.DownKernelIdeal.main_arg6)
      ∧ m' ((c.tc : Thread Cert.DownReferenceIdeal.nD Cert.DownReferenceIdeal.τ).loc Cert.DownReferenceIdeal.main_arg7) = m ((c.tc : Thread Cert.DownKernelIdeal.nD Cert.DownKernelIdeal.τ).loc Cert.DownKernelIdeal.main_arg7)
      ∧ m' ((c.tc : Thread Cert.DownReferenceIdeal.nD Cert.DownReferenceIdeal.τ).loc Cert.DownReferenceIdeal.main_arg8) = m ((c.tc : Thread Cert.DownKernelIdeal.nD Cert.DownKernelIdeal.τ).loc Cert.DownKernelIdeal.main_arg8)
      ∧ m' ((c.tc : Thread Cert.DownReferenceIdeal.nD Cert.DownReferenceIdeal.τ).loc Cert.DownReferenceIdeal.main_arg9) = m ((c.tc : Thread Cert.DownKernelIdeal.nD Cert.DownKernelIdeal.τ).loc Cert.DownKernelIdeal.main_arg9)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
          ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6)
          ∧ r.2.mem ((c.tc : Thread Cert.DownKernelIdeal.nD Cert.DownKernelIdeal.τ).loc Cert.DownKernelIdeal.main_arg7) = m ((c.tc : Thread Cert.DownKernelIdeal.nD Cert.DownKernelIdeal.τ).loc Cert.DownKernelIdeal.main_arg7)
          ∧ r.2.mem ((c.tc : Thread Cert.DownKernelIdeal.nD Cert.DownKernelIdeal.τ).loc Cert.DownKernelIdeal.main_arg8) = m ((c.tc : Thread Cert.DownKernelIdeal.nD Cert.DownKernelIdeal.τ).loc Cert.DownKernelIdeal.main_arg8)
          ∧ r.2.mem ((c.tc : Thread Cert.DownKernelIdeal.nD Cert.DownKernelIdeal.τ).loc Cert.DownKernelIdeal.main_arg9) = m ((c.tc : Thread Cert.DownKernelIdeal.nD Cert.DownKernelIdeal.τ).loc Cert.DownKernelIdeal.main_arg9))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6)
          ∧ r.2.mem ((c.tc : Thread Cert.DownReferenceIdeal.nD Cert.DownReferenceIdeal.τ).loc Cert.DownReferenceIdeal.main_arg7) = m' ((c.tc : Thread Cert.DownReferenceIdeal.nD Cert.DownReferenceIdeal.τ).loc Cert.DownReferenceIdeal.main_arg7)
          ∧ r.2.mem ((c.tc : Thread Cert.DownReferenceIdeal.nD Cert.DownReferenceIdeal.τ).loc Cert.DownReferenceIdeal.main_arg8) = m' ((c.tc : Thread Cert.DownReferenceIdeal.nD Cert.DownReferenceIdeal.τ).loc Cert.DownReferenceIdeal.main_arg8)
          ∧ r.2.mem ((c.tc : Thread Cert.DownReferenceIdeal.nD Cert.DownReferenceIdeal.τ).loc Cert.DownReferenceIdeal.main_arg9) = m' ((c.tc : Thread Cert.DownReferenceIdeal.nD Cert.DownReferenceIdeal.τ).loc Cert.DownReferenceIdeal.main_arg9))

def preserves_UpKernel_UpKernelIdeal : Prop :=
  True

def algebraic_UpKernelIdeal_UpReferenceIdeal [hUpKernelIdeal : Cert.UpKernelIdeal.Facts] [hUpReferenceIdeal : Cert.UpReferenceIdeal.Facts] [hPre_items_of_up : Cert.Pre_items_of_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)
      ∧ m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7)
      ∧ m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)
      ∧ m' ((c.tc : Thread Cert.UpReferenceIdeal.nD Cert.UpReferenceIdeal.τ).loc Cert.UpReferenceIdeal.main_arg9) = m ((c.tc : Thread Cert.UpKernelIdeal.nD Cert.UpKernelIdeal.τ).loc Cert.UpKernelIdeal.main_arg9)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
          ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
          ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8)
          ∧ r.2.mem ((c.tc : Thread Cert.UpKernelIdeal.nD Cert.UpKernelIdeal.τ).loc Cert.UpKernelIdeal.main_arg9) = m ((c.tc : Thread Cert.UpKernelIdeal.nD Cert.UpKernelIdeal.τ).loc Cert.UpKernelIdeal.main_arg9))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v32) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7)
          ∧ r.2.mem ((c.tc : Thread Cert.UpReferenceIdeal.nD Cert.UpReferenceIdeal.τ).loc Cert.UpReferenceIdeal.main_arg8) = m' ((c.tc : Thread Cert.UpReferenceIdeal.nD Cert.UpReferenceIdeal.τ).loc Cert.UpReferenceIdeal.main_arg8)
          ∧ r.2.mem ((c.tc : Thread Cert.UpReferenceIdeal.nD Cert.UpReferenceIdeal.τ).loc Cert.UpReferenceIdeal.main_arg9) = m' ((c.tc : Thread Cert.UpReferenceIdeal.nD Cert.UpReferenceIdeal.τ).loc Cert.UpReferenceIdeal.main_arg9))

def Claim : Prop :=
  ∃ (hConvKernel : Cert.ConvKernel.Facts) (hConvKernelIdeal : Cert.ConvKernelIdeal.Facts) (hConvReferenceIdeal : Cert.ConvReferenceIdeal.Facts) (hOutKernel : Cert.OutKernel.Facts) (hOutKernelIdeal : Cert.OutKernelIdeal.Facts) (hOutReferenceIdeal : Cert.OutReferenceIdeal.Facts) (hGluKernel : Cert.GluKernel.Facts) (hGluKernelIdeal : Cert.GluKernelIdeal.Facts) (hGluReferenceIdeal : Cert.GluReferenceIdeal.Facts) (hQkviKernel : Cert.QkviKernel.Facts) (hQkviKernelIdeal : Cert.QkviKernelIdeal.Facts) (hQkviReferenceIdeal : Cert.QkviReferenceIdeal.Facts) (hIdxKernel : Cert.IdxKernel.Facts) (hIdxKernelIdeal : Cert.IdxKernelIdeal.Facts) (hIdxReferenceIdeal : Cert.IdxReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hPre_items_of_blocks : Cert.Pre_items_of_blocks.Facts) (hPre_items_of_up : Cert.Pre_items_of_up.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_QkviKernel (hQkviKernel := hQkviKernel)
    ∧ quiescent_QkviKernelIdeal (hQkviKernelIdeal := hQkviKernelIdeal)
    ∧ quiescent_QkviReferenceIdeal (hQkviReferenceIdeal := hQkviReferenceIdeal)
    ∧ quiescent_IdxKernel (hIdxKernel := hIdxKernel)
    ∧ quiescent_IdxKernelIdeal (hIdxKernelIdeal := hIdxKernelIdeal)
    ∧ quiescent_IdxReferenceIdeal (hIdxReferenceIdeal := hIdxReferenceIdeal)
    ∧ quiescent_DownKernel (hDownKernel := hDownKernel) (hPre_items_of_blocks := hPre_items_of_blocks)
    ∧ quiescent_DownKernelIdeal (hDownKernelIdeal := hDownKernelIdeal) (hPre_items_of_blocks := hPre_items_of_blocks)
    ∧ quiescent_DownReferenceIdeal (hDownReferenceIdeal := hDownReferenceIdeal)
    ∧ quiescent_DownReferenceIdeal_pre_items_of_blocks (hDownReferenceIdeal := hDownReferenceIdeal) (hPre_items_of_blocks := hPre_items_of_blocks)
    ∧ quiescent_UpKernel (hUpKernel := hUpKernel) (hPre_items_of_up := hPre_items_of_up)
    ∧ quiescent_UpKernelIdeal (hUpKernelIdeal := hUpKernelIdeal) (hPre_items_of_up := hPre_items_of_up)
    ∧ quiescent_UpReferenceIdeal (hUpReferenceIdeal := hUpReferenceIdeal)
    ∧ quiescent_UpReferenceIdeal_pre_items_of_up (hUpReferenceIdeal := hUpReferenceIdeal) (hPre_items_of_up := hPre_items_of_up)
    ∧ preserves_ConvKernel_ConvKernelIdeal
    ∧ algebraic_ConvKernelIdeal_ConvReferenceIdeal (hConvKernelIdeal := hConvKernelIdeal) (hConvReferenceIdeal := hConvReferenceIdeal)
    ∧ preserves_OutKernel_OutKernelIdeal
    ∧ algebraic_OutKernelIdeal_OutReferenceIdeal (hOutKernelIdeal := hOutKernelIdeal) (hOutReferenceIdeal := hOutReferenceIdeal)
    ∧ preserves_GluKernel_GluKernelIdeal
    ∧ algebraic_GluKernelIdeal_GluReferenceIdeal (hGluKernelIdeal := hGluKernelIdeal) (hGluReferenceIdeal := hGluReferenceIdeal)
    ∧ preserves_QkviKernel_QkviKernelIdeal
    ∧ algebraic_QkviKernelIdeal_QkviReferenceIdeal (hQkviKernelIdeal := hQkviKernelIdeal) (hQkviReferenceIdeal := hQkviReferenceIdeal)
    ∧ preserves_IdxKernel_IdxKernelIdeal
    ∧ algebraic_IdxKernelIdeal_IdxReferenceIdeal (hIdxKernelIdeal := hIdxKernelIdeal) (hIdxReferenceIdeal := hIdxReferenceIdeal)
    ∧ preserves_DownKernel_DownKernelIdeal
    ∧ algebraic_DownKernelIdeal_DownReferenceIdeal (hDownKernelIdeal := hDownKernelIdeal) (hDownReferenceIdeal := hDownReferenceIdeal) (hPre_items_of_blocks := hPre_items_of_blocks)
    ∧ preserves_UpKernel_UpKernelIdeal
    ∧ algebraic_UpKernelIdeal_UpReferenceIdeal (hUpKernelIdeal := hUpKernelIdeal) (hUpReferenceIdeal := hUpReferenceIdeal) (hPre_items_of_up := hPre_items_of_up)
-- ==== Pre_items_of_blocks.lean ====
abbrev S40960x512 : Shape := ⟨2, ![40960, 512]⟩
abbrev S32x1024x4096 : Shape := ⟨3, ![32, 1024, 4096]⟩
abbrev S160 : Shape := ⟨1, ![160]⟩
abbrev S_ : Shape := ⟨0, ![]⟩
abbrev S159 : Shape := ⟨1, ![159]⟩
abbrev S1 : Shape := ⟨1, ![1]⟩

class Facts : Prop where
  bcast_S_S160 : S_.BroadcastsInDim S160 (![] : Fin 0 → Fin S160.rank)
  slices_S160_S159_0 : S160.Slices ![0] S159
  bcast_S_S159 : S_.BroadcastsInDim S159 (![] : Fin 0 → Fin S159.rank)
  slices_S160_S159_1 : S160.Slices ![1] S159
  bcast_S_S1 : S_.BroadcastsInDim S1 (![] : Fin 0 → Fin S1.rank)
  concatenates_S1_S159_S160_d0 : Shape.Concatenates [S1, S159] S160 0

variable [Facts]

def fn_part2 {F : FTy → Type} [FloatOps F] (main_arg3 : IVec S160 32) (main_arg9 : IVec S160 32) (main_v19 : IVec S160 1) (main_v21 : IVec S160 1) (main_v28 : IVec S160 1) (main_v32 : IVec S160 1) (main_v35 : IVec S159 1) (main_v36 : IVec S159 32) : IVec S160 1 :=
  let main_v37 : IVec S159 32 := (extractStridedSlice S159 ![1] · slices_S160_S159_1) main_arg3
  let main_v38 : IVec S159 1 := cmpi .eq main_v36 main_v37
  let main_v39 : IVec S159 1 := andi main_v35 main_v38
  let main_c_10 : IVec S_ 32 := constantI S_ 32 1#32
  let main_v40 : IVec S160 32 := broadcastInDim S160 ![] bcast_S_S160 main_c_10
  let main_v41 : IVec S160 1 := cmpi .eq main_arg9 main_v40
  let main_c_11 : IVec S_ 1 := constantI S_ 1 0#1
  let main_v42 : IVec S1 1 := broadcastInDim S1 ![] bcast_S_S1 main_c_11
  let main_v43 : IVec S160 1 := (fun a b => concatenate S160 0 [⟨S1, a⟩, ⟨S159, b⟩] concatenates_S1_S159_S160_d0) main_v42 main_v39
  let main_v44 : IVec S160 1 := andi main_v41 main_v43
  let main_v45 : IVec S160 1 := ori main_v32 main_v44
  let main_v46 : IVec S160 1 := andi main_v28 main_v45
  let main_v47 : IVec S160 1 := ori main_v21 main_v46
  let main_v48 : IVec S160 1 := andi main_v19 main_v47
  main_v48

def fn_part1 {F : FTy → Type} [FloatOps F] (main_arg3 : IVec S160 32) (main_arg4 : IVec S160 32) (main_arg6 : IVec S160 32) (main_arg8 : IVec S160 32) (main_arg9 : IVec S160 32) (main_v0 : IVec S160 32) (main_v16 : IVec S160 1) (main_v17 : IVec S160 32) : IVec S160 1 :=
  let main_v18 : IVec S160 1 := cmpi .eq main_arg8 main_v17
  let main_v19 : IVec S160 1 := andi main_v16 main_v18
  let main_c_5 : IVec S_ 32 := constantI S_ 32 4#32
  let main_v20 : IVec S160 32 := broadcastInDim S160 ![] bcast_S_S160 main_c_5
  let main_v21 : IVec S160 1 := cmpi .eq main_arg9 main_v20
  let main_v22 : IVec S160 1 := cmpi .eq main_arg6 main_v0
  let main_c_6 : IVec S_ 32 := constantI S_ 32 0#32
  let main_v23 : IVec S160 32 := broadcastInDim S160 ![] bcast_S_S160 main_c_6
  let main_v24 : IVec S160 1 := cmpi .sge main_arg3 main_v23
  let main_v25 : IVec S160 1 := andi main_v22 main_v24
  let main_c_7 : IVec S_ 32 := constantI S_ 32 32#32
  let main_v26 : IVec S160 32 := broadcastInDim S160 ![] bcast_S_S160 main_c_7
  let main_v27 : IVec S160 1 := cmpi .slt main_arg3 main_v26
  let main_v28 : IVec S160 1 := andi main_v25 main_v27
  let main_c_8 : IVec S_ 32 := constantI S_ 32 3#32
  let main_v29 : IVec S160 32 := broadcastInDim S160 ![] bcast_S_S160 main_c_8
  let main_v30 : IVec S160 1 := cmpi .eq main_arg9 main_v29
  let main_v31 : IVec S160 1 := cmpi .eq main_arg4 main_arg3
  let main_v32 : IVec S160 1 := andi main_v30 main_v31
  let main_v33 : IVec S159 32 := (extractStridedSlice S159 ![0] · slices_S160_S159_0) main_arg9
  let main_c_9 : IVec S_ 32 := constantI S_ 32 4#32
  let main_v34 : IVec S159 32 := broadcastInDim S159 ![] bcast_S_S159 main_c_9
  let main_v35 : IVec S159 1 := cmpi .ne main_v33 main_v34
  let main_v36 : IVec S159 32 := (extractStridedSlice S159 ![0] · slices_S160_S159_0) main_arg3
  fn_part2 (F := F) main_arg3 main_arg9 main_v19 main_v21 main_v28 main_v32 main_v35 main_v36

def fn {F : FTy → Type} [FloatOps F] (main_arg0 : FVec F S40960x512 .bf16) (main_arg1 : FVec F S40960x512 .bf16) (main_arg2 : FVec F S32x1024x4096 .f32) (main_arg3 : IVec S160 32) (main_arg4 : IVec S160 32) (main_arg5 : IVec S160 32) (main_arg6 : IVec S160 32) (main_arg7 : IVec S160 32) (main_arg8 : IVec S160 32) (main_arg9 : IVec S160 32) : IVec S160 1 :=
  let main_v0 : IVec S160 32 := iotaInDim S160 32 0
  let main_c : IVec S_ 32 := constantI S_ 32 0#32
  let main_v1 : IVec S160 32 := broadcastInDim S160 ![] bcast_S_S160 main_c
  let main_v2 : IVec S160 1 := cmpi .sge main_arg4 main_v1
  let main_c_0 : IVec S_ 32 := constantI S_ 32 32#32
  let main_v3 : IVec S160 32 := broadcastInDim S160 ![] bcast_S_S160 main_c_0
  let main_v4 : IVec S160 1 := cmpi .slt main_arg4 main_v3
  let main_v5 : IVec S160 1 := andi main_v2 main_v4
  let main_c_1 : IVec S_ 32 := constantI S_ 32 0#32
  let main_v6 : IVec S160 32 := broadcastInDim S160 ![] bcast_S_S160 main_c_1
  let main_v7 : IVec S160 1 := cmpi .eq main_arg5 main_v6
  let main_v8 : IVec S160 1 := andi main_v5 main_v7
  let main_c_2 : IVec S_ 32 := constantI S_ 32 0#32
  let main_v9 : IVec S160 32 := broadcastInDim S160 ![] bcast_S_S160 main_c_2
  let main_v10 : IVec S160 1 := cmpi .sge main_arg6 main_v9
  let main_v11 : IVec S160 1 := andi main_v8 main_v10
  let main_c_3 : IVec S_ 32 := constantI S_ 32 160#32
  let main_v12 : IVec S160 32 := broadcastInDim S160 ![] bcast_S_S160 main_c_3
  let main_v13 : IVec S160 1 := cmpi .slt main_arg6 main_v12
  let main_v14 : IVec S160 1 := andi main_v11 main_v13
  let main_v15 : IVec S160 1 := cmpi .eq main_arg7 main_v0
  let main_v16 : IVec S160 1 := andi main_v14 main_v15
  let main_c_4 : IVec S_ 32 := constantI S_ 32 0#32
  let main_v17 : IVec S160 32 := broadcastInDim S160 ![] bcast_S_S160 main_c_4
  fn_part1 (F := F) main_arg3 main_arg4 main_arg6 main_arg8 main_arg9 main_v0 main_v16 main_v17
-- ==== Pre_items_of_up.lean ====
abbrev S40960x2048 : Shape := ⟨2, ![40960, 2048]⟩
abbrev S32x4096x1024 : Shape := ⟨3, ![32, 4096, 1024]⟩
abbrev S160 : Shape := ⟨1, ![160]⟩
abbrev S_ : Shape := ⟨0, ![]⟩
abbrev S159 : Shape := ⟨1, ![159]⟩
abbrev S1 : Shape := ⟨1, ![1]⟩

class Facts : Prop where
  bcast_S_S160 : S_.BroadcastsInDim S160 (![] : Fin 0 → Fin S160.rank)
  slices_S160_S159_0 : S160.Slices ![0] S159
  bcast_S_S159 : S_.BroadcastsInDim S159 (![] : Fin 0 → Fin S159.rank)
  slices_S160_S159_1 : S160.Slices ![1] S159
  bcast_S_S1 : S_.BroadcastsInDim S1 (![] : Fin 0 → Fin S1.rank)
  concatenates_S1_S159_S160_d0 : Shape.Concatenates [S1, S159] S160 0

variable [Facts]

def fn_part2 {F : FTy → Type} [FloatOps F] (main_arg3 : IVec S160 32) (main_arg9 : IVec S160 32) (main_v19 : IVec S160 1) (main_v21 : IVec S160 1) (main_v28 : IVec S160 1) (main_v32 : IVec S160 1) (main_v35 : IVec S159 1) (main_v36 : IVec S159 32) : IVec S160 1 :=
  let main_v37 : IVec S159 32 := (extractStridedSlice S159 ![1] · slices_S160_S159_1) main_arg3
  let main_v38 : IVec S159 1 := cmpi .eq main_v36 main_v37
  let main_v39 : IVec S159 1 := andi main_v35 main_v38
  let main_c_10 : IVec S_ 32 := constantI S_ 32 1#32
  let main_v40 : IVec S160 32 := broadcastInDim S160 ![] bcast_S_S160 main_c_10
  let main_v41 : IVec S160 1 := cmpi .eq main_arg9 main_v40
  let main_c_11 : IVec S_ 1 := constantI S_ 1 0#1
  let main_v42 : IVec S1 1 := broadcastInDim S1 ![] bcast_S_S1 main_c_11
  let main_v43 : IVec S160 1 := (fun a b => concatenate S160 0 [⟨S1, a⟩, ⟨S159, b⟩] concatenates_S1_S159_S160_d0) main_v42 main_v39
  let main_v44 : IVec S160 1 := andi main_v41 main_v43
  let main_v45 : IVec S160 1 := ori main_v32 main_v44
  let main_v46 : IVec S160 1 := andi main_v28 main_v45
  let main_v47 : IVec S160 1 := ori main_v21 main_v46
  let main_v48 : IVec S160 1 := andi main_v19 main_v47
  main_v48

def fn_part1 {F : FTy → Type} [FloatOps F] (main_arg3 : IVec S160 32) (main_arg4 : IVec S160 32) (main_arg6 : IVec S160 32) (main_arg8 : IVec S160 32) (main_arg9 : IVec S160 32) (main_v0 : IVec S160 32) (main_v16 : IVec S160 1) (main_v17 : IVec S160 32) : IVec S160 1 :=
  let main_v18 : IVec S160 1 := cmpi .eq main_arg8 main_v17
  let main_v19 : IVec S160 1 := andi main_v16 main_v18
  let main_c_5 : IVec S_ 32 := constantI S_ 32 4#32
  let main_v20 : IVec S160 32 := broadcastInDim S160 ![] bcast_S_S160 main_c_5
  let main_v21 : IVec S160 1 := cmpi .eq main_arg9 main_v20
  let main_v22 : IVec S160 1 := cmpi .eq main_arg6 main_v0
  let main_c_6 : IVec S_ 32 := constantI S_ 32 0#32
  let main_v23 : IVec S160 32 := broadcastInDim S160 ![] bcast_S_S160 main_c_6
  let main_v24 : IVec S160 1 := cmpi .sge main_arg3 main_v23
  let main_v25 : IVec S160 1 := andi main_v22 main_v24
  let main_c_7 : IVec S_ 32 := constantI S_ 32 32#32
  let main_v26 : IVec S160 32 := broadcastInDim S160 ![] bcast_S_S160 main_c_7
  let main_v27 : IVec S160 1 := cmpi .slt main_arg3 main_v26
  let main_v28 : IVec S160 1 := andi main_v25 main_v27
  let main_c_8 : IVec S_ 32 := constantI S_ 32 3#32
  let main_v29 : IVec S160 32 := broadcastInDim S160 ![] bcast_S_S160 main_c_8
  let main_v30 : IVec S160 1 := cmpi .eq main_arg9 main_v29
  let main_v31 : IVec S160 1 := cmpi .eq main_arg4 main_arg3
  let main_v32 : IVec S160 1 := andi main_v30 main_v31
  let main_v33 : IVec S159 32 := (extractStridedSlice S159 ![0] · slices_S160_S159_0) main_arg9
  let main_c_9 : IVec S_ 32 := constantI S_ 32 4#32
  let main_v34 : IVec S159 32 := broadcastInDim S159 ![] bcast_S_S159 main_c_9
  let main_v35 : IVec S159 1 := cmpi .ne main_v33 main_v34
  let main_v36 : IVec S159 32 := (extractStridedSlice S159 ![0] · slices_S160_S159_0) main_arg3
  fn_part2 (F := F) main_arg3 main_arg9 main_v19 main_v21 main_v28 main_v32 main_v35 main_v36

def fn {F : FTy → Type} [FloatOps F] (main_arg0 : IVec S40960x2048 32) (main_arg1 : FVec F S32x4096x1024 .f32) (main_arg2 : FVec F S32x4096x1024 .f32) (main_arg3 : IVec S160 32) (main_arg4 : IVec S160 32) (main_arg5 : IVec S160 32) (main_arg6 : IVec S160 32) (main_arg7 : IVec S160 32) (main_arg8 : IVec S160 32) (main_arg9 : IVec S160 32) : IVec S160 1 :=
  let main_v0 : IVec S160 32 := iotaInDim S160 32 0
  let main_c : IVec S_ 32 := constantI S_ 32 0#32
  let main_v1 : IVec S160 32 := broadcastInDim S160 ![] bcast_S_S160 main_c
  let main_v2 : IVec S160 1 := cmpi .sge main_arg4 main_v1
  let main_c_0 : IVec S_ 32 := constantI S_ 32 32#32
  let main_v3 : IVec S160 32 := broadcastInDim S160 ![] bcast_S_S160 main_c_0
  let main_v4 : IVec S160 1 := cmpi .slt main_arg4 main_v3
  let main_v5 : IVec S160 1 := andi main_v2 main_v4
  let main_c_1 : IVec S_ 32 := constantI S_ 32 0#32
  let main_v6 : IVec S160 32 := broadcastInDim S160 ![] bcast_S_S160 main_c_1
  let main_v7 : IVec S160 1 := cmpi .eq main_arg5 main_v6
  let main_v8 : IVec S160 1 := andi main_v5 main_v7
  let main_c_2 : IVec S_ 32 := constantI S_ 32 0#32
  let main_v9 : IVec S160 32 := broadcastInDim S160 ![] bcast_S_S160 main_c_2
  let main_v10 : IVec S160 1 := cmpi .sge main_arg6 main_v9
  let main_v11 : IVec S160 1 := andi main_v8 main_v10
  let main_c_3 : IVec S_ 32 := constantI S_ 32 160#32
  let main_v12 : IVec S160 32 := broadcastInDim S160 ![] bcast_S_S160 main_c_3
  let main_v13 : IVec S160 1 := cmpi .slt main_arg6 main_v12
  let main_v14 : IVec S160 1 := andi main_v11 main_v13
  let main_v15 : IVec S160 1 := cmpi .eq main_arg7 main_v0
  let main_v16 : IVec S160 1 := andi main_v14 main_v15
  let main_c_4 : IVec S_ 32 := constantI S_ 32 0#32
  let main_v17 : IVec S160 32 := broadcastInDim S160 ![] bcast_S_S160 main_c_4
  fn_part1 (F := F) main_arg3 main_arg4 main_arg6 main_arg8 main_arg9 main_v0 main_v16 main_v17
-- ==== ConvKernel.lean ====
abbrev S4x4096x2048 : Shape := ⟨3, ![4, 4096, 2048]⟩
abbrev S1x31x2048 : Shape := ⟨3, ![1, 31, 2048]⟩
abbrev S1x2048 : Shape := ⟨2, ![1, 2048]⟩
abbrev S31x2048 : Shape := ⟨2, ![31, 2048]⟩
abbrev S1x128x2048 : Shape := ⟨3, ![1, 128, 2048]⟩
abbrev S1x32x2048 : Shape := ⟨3, ![1, 32, 2048]⟩
abbrev S8x160x2048 : Shape := ⟨3, ![8, 160, 2048]⟩
abbrev S128x2048 : Shape := ⟨2, ![128, 2048]⟩
abbrev S32x2048 : Shape := ⟨2, ![32, 2048]⟩
abbrev S1x152x512 : Shape := ⟨3, ![1, 152, 512]⟩
abbrev S152x512 : Shape := ⟨2, ![152, 512]⟩
abbrev S32x512 : Shape := ⟨2, ![32, 512]⟩
abbrev S1x32x512 : Shape := ⟨3, ![1, 32, 512]⟩
abbrev S1x512 : Shape := ⟨2, ![1, 512]⟩
abbrev S16x2048 : Shape := ⟨2, ![16, 2048]⟩
abbrev S16 : Shape := ⟨1, ![16]⟩
abbrev S16x1 : Shape := ⟨2, ![16, 1]⟩
abbrev S1x16x2048 : Shape := ⟨3, ![1, 16, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S31x2048, .f32⟩
  | .hbm, ⟨6, _⟩ => ⟨S4x4096x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x32x2048, .f32⟩
  | .local _ .vmem, ⟨3, _⟩ => ⟨S1x32x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x128x2048, .bf16⟩
  | .local _ .vmem, ⟨9, _⟩ => ⟨S1x128x2048, .bf16⟩
  | .local _ .vmem, ⟨10, _⟩ => ⟨S8x160x2048, .f32⟩
  | .local _ .vmem, ⟨11, _⟩ => ⟨S128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_2693 : BitVec 32 := 0#32
  let c8_i32 : BitVec 32 := 8#32
  let v3737 : BitVec 32 := Scalar.addi c0_i32_2693 c8_i32
  let c1_i32 : BitVec 32 := 1#32
  ⟨c0_i32_2693, v3737, c1_i32⟩
def k0_mult1 (k0_t1 : Fin k0_t1_loop.trips) : BitVec 32 :=
  let c0_i32_2693 : BitVec 32 := 0#32
  let c1_i32 : BitVec 32 := 1#32
  let arg11 : BitVec 32 := Scf.iv c0_i32_2693 c1_i32 k0_t1
  let c16_i32 : BitVec 32 := 16#32
  let v3738 : BitVec 32 := Scalar.muli arg11 c16_i32
  v3738
def k0_off1 (k0_t1 : Fin k0_t1_loop.trips) : Fin 2 → Nat :=
  let c0_i32_2693 : BitVec 32 := 0#32
  let c1_i32 : BitVec 32 := 1#32
  let arg11 : BitVec 32 := Scf.iv c0_i32_2693 c1_i32 k0_t1
  let c16_i32 : BitVec 32 := 16#32
  let v3738 : BitVec 32 := Scalar.muli arg11 c16_i32
  let v3739 : BitVec 32 := v3738
  let v3740 : Index := Scalar.indexCast v3739
  let c0_2695 : Index := 0#32
  ![v3740.toNat, 0]
def k0_off2 (k0_t1 : Fin k0_t1_loop.trips) : Fin 3 → Nat :=
  let c0_2705 : Index := 0#32
  let c0_i32_2693 : BitVec 32 := 0#32
  let c1_i32 : BitVec 32 := 1#32
  let arg11 : BitVec 32 := Scf.iv c0_i32_2693 c1_i32 k0_t1
  let c16_i32 : BitVec 32 := 16#32
  let v3738 : BitVec 32 := Scalar.muli arg11 c16_i32
  let v3739 : BitVec 32 := v3738
  let v3767 : Index := Scalar.indexCast v3739
  let c0_2706 : Index := 0#32
  ![0, v3767.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvReferenceIdeal.lean ====
abbrev S4x4096x2048 : Shape := ⟨3, ![4, 4096, 2048]⟩
abbrev S1x31x2048 : Shape := ⟨3, ![1, 31, 2048]⟩
abbrev S1x2048 : Shape := ⟨2, ![1, 2048]⟩
abbrev S_ : Shape := ⟨0, ![]⟩
abbrev S4x4126x2048 : Shape := ⟨3, ![4, 4126, 2048]⟩
abbrev S1x1x2048 : Shape := ⟨3, ![1, 1, 2048]⟩
abbrev S2048 : Shape := ⟨1, ![2048]⟩
abbrev S4x4096 : Shape := ⟨2, ![4, 4096]⟩
abbrev S4x4096x1 : Shape := ⟨3, ![4, 4096, 1]⟩

abbrev nBuf : Space → Nat
  | .hbm => 269
  | .vmem => 0
  | .smem => 0
  | _ => 0

abbrev hbmTy0_0 (i : Nat) : BufTy := match i % 128 with
  | 0 => ⟨S4x4096x2048, .f32⟩
  | 1 => ⟨S1x31x2048, .f32⟩
  | 2 => ⟨S1x2048, .f32⟩
  | 3 => ⟨S1x2048, .f32⟩
  | 4 => ⟨S1x2048, .f32⟩
  | 5 => ⟨S_, .i32⟩
  | 6 => ⟨S_, .f32⟩
  | 7 => ⟨S4x4126x2048, .f32⟩
  | 8 => ⟨S4x4096x2048, .f32⟩
  | 9 => ⟨S1x1x2048, .f32⟩
  | 10 => ⟨S2048, .f32⟩
  | 11 => ⟨S1x1x2048, .f32⟩
  | 12 => ⟨S4x4096x2048, .f32⟩
  | 13 => ⟨S4x4096x2048, .f32⟩
  | 14 => ⟨S4x4096x2048, .f32⟩
  | 15 => ⟨S1x1x2048, .f32⟩
  | 16 => ⟨S2048, .f32⟩
  | 17 => ⟨S1x1x2048, .f32⟩
  | 18 => ⟨S4x4096x2048, .f32⟩
  | 19 => ⟨S4x4096x2048, .f32⟩
  | 20 => ⟨S4x4096x2048, .f32⟩
  | 21 => ⟨S4x4096x2048, .f32⟩
  | 22 => ⟨S1x1x2048, .f32⟩
  | 23 => ⟨S2048, .f32⟩
  | 24 => ⟨S1x1x2048, .f32⟩
  | 25 => ⟨S4x4096x2048, .f32⟩
  | 26 => ⟨S4x4096x2048, .f32⟩
  | 27 => ⟨S4x4096x2048, .f32⟩
  | 28 => ⟨S4x4096x2048, .f32⟩
  | 29 => ⟨S1x1x2048, .f32⟩
  | 30 => ⟨S2048, .f32⟩
  | 31 => ⟨S1x1x2048, .f32⟩
  | 32 => ⟨S4x4096x2048, .f32⟩
  | 33 => ⟨S4x4096x2048, .f32⟩
  | 34 => ⟨S4x4096x2048, .f32⟩
  | 35 => ⟨S4x4096x2048, .f32⟩
  | 36 => ⟨S1x1x2048, .f32⟩
  | 37 => ⟨S2048, .f32⟩
  | 38 => ⟨S1x1x2048, .f32⟩
  | 39 => ⟨S4x4096x2048, .f32⟩
  | 40 => ⟨S4x4096x2048, .f32⟩
  | 41 => ⟨S4x4096x2048, .f32⟩
  | 42 => ⟨S4x4096x2048, .f32⟩
  | 43 => ⟨S1x1x2048, .f32⟩
  | 44 => ⟨S2048, .f32⟩
  | 45 => ⟨S1x1x2048, .f32⟩
  | 46 => ⟨S4x4096x2048, .f32⟩
  | 47 => ⟨S4x4096x2048, .f32⟩
  | 48 => ⟨S4x4096x2048, .f32⟩
  | 49 => ⟨S4x4096x2048, .f32⟩
  | 50 => ⟨S1x1x2048, .f32⟩
  | 51 => ⟨S2048, .f32⟩
  | 52 => ⟨S1x1x2048, .f32⟩
  | 53 => ⟨S4x4096x2048, .f32⟩
  | 54 => ⟨S4x4096x2048, .f32⟩
  | 55 => ⟨S4x4096x2048, .f32⟩
  | 56 => ⟨S4x4096x2048, .f32⟩
  | 57 => ⟨S1x1x2048, .f32⟩
  | 58 => ⟨S2048, .f32⟩
  | 59 => ⟨S1x1x2048, .f32⟩
  | 60 => ⟨S4x4096x2048, .f32⟩
  | 61 => ⟨S4x4096x2048, .f32⟩
  | 62 => ⟨S4x4096x2048, .f32⟩
  | 63 => ⟨S4x4096x2048, .f32⟩
  | 64 => ⟨S1x1x2048, .f32⟩
  | 65 => ⟨S2048, .f32⟩
  | 66 => ⟨S1x1x2048, .f32⟩
  | 67 => ⟨S4x4096x2048, .f32⟩
  | 68 => ⟨S4x4096x2048, .f32⟩
  | 69 => ⟨S4x4096x2048, .f32⟩
  | 70 => ⟨S4x4096x2048, .f32⟩
  | 71 => ⟨S1x1x2048, .f32⟩
  | 72 => ⟨S2048, .f32⟩
  | 73 => ⟨S1x1x2048, .f32⟩
  | 74 => ⟨S4x4096x2048, .f32⟩
  | 75 => ⟨S4x4096x2048, .f32⟩
  | 76 => ⟨S4x4096x2048, .f32⟩
  | 77 => ⟨S4x4096x2048, .f32⟩
  | 78 => ⟨S1x1x2048, .f32⟩
  | 79 => ⟨S2048, .f32⟩
  | 80 => ⟨S1x1x2048, .f32⟩
  | 81 => ⟨S4x4096x2048, .f32⟩
  | 82 => ⟨S4x4096x2048, .f32⟩
  | 83 => ⟨S4x4096x2048, .f32⟩
  | 84 => ⟨S4x4096x2048, .f32⟩
  | 85 => ⟨S1x1x2048, .f32⟩
  | 86 => ⟨S2048, .f32⟩
  | 87 => ⟨S1x1x2048, .f32⟩
  | 88 => ⟨S4x4096x2048, .f32⟩
  | 89 => ⟨S4x4096x2048, .f32⟩
  | 90 => ⟨S4x4096x2048, .f32⟩
  | 91 => ⟨S4x4096x2048, .f32⟩
  | 92 => ⟨S1x1x2048, .f32⟩
  | 93 => ⟨S2048, .f32⟩
  | 94 => ⟨S1x1x2048, .f32⟩
  | 95 => ⟨S4x4096x2048, .f32⟩
  | 96 => ⟨S4x4096x2048, .f32⟩
  | 97 => ⟨S4x4096x2048, .f32⟩
  | 98 => ⟨S4x4096x2048, .f32⟩
  | 99 => ⟨S1x1x2048, .f32⟩
  | 100 => ⟨S2048, .f32⟩
  | 101 => ⟨S1x1x2048, .f32⟩
  | 102 => ⟨S4x4096x2048, .f32⟩
  | 103 => ⟨S4x4096x2048, .f32⟩
  | 104 => ⟨S4x4096x2048, .f32⟩
  | 105 => ⟨S4x4096x2048, .f32⟩
  | 106 => ⟨S1x1x2048, .f32⟩
  | 107 => ⟨S2048, .f32⟩
  | 108 => ⟨S1x1x2048, .f32⟩
  | 109 => ⟨S4x4096x2048, .f32⟩
  | 110 => ⟨S4x4096x2048, .f32⟩
  | 111 => ⟨S4x4096x2048, .f32⟩
  | 112 => ⟨S4x4096x2048, .f32⟩
  | 113 => ⟨S1x1x2048, .f32⟩
  | 114 => ⟨S2048, .f32⟩
  | 115 => ⟨S1x1x2048, .f32⟩
  | 116 => ⟨S4x4096x2048, .f32⟩
  | 117 => ⟨S4x4096x2048, .f32⟩
  | 118 => ⟨S4x4096x2048, .f32⟩
  | 119 => ⟨S4x4096x2048, .f32⟩
  | 120 => ⟨S1x1x2048, .f32⟩
  | 121 => ⟨S2048, .f32⟩
  | 122 => ⟨S1x1x2048, .f32⟩
  | 123 => ⟨S4x4096x2048, .f32⟩
  | 124 => ⟨S4x4096x2048, .f32⟩
  | 125 => ⟨S4x4096x2048, .f32⟩
  | 126 => ⟨S4x4096x2048, .f32⟩
  | 127 => ⟨S1x1x2048, .f32⟩
  | _ => ⟨S4x4096x2048, .f32⟩

abbrev hbmTy0_1 (i : Nat) : BufTy := match i % 128 with
  | 0 => ⟨S2048, .f32⟩
  | 1 => ⟨S1x1x2048, .f32⟩
  | 2 => ⟨S4x4096x2048, .f32⟩
  | 3 => ⟨S4x4096x2048, .f32⟩
  | 4 => ⟨S4x4096x2048, .f32⟩
  | 5 => ⟨S4x4096x2048, .f32⟩
  | 6 => ⟨S1x1x2048, .f32⟩
  | 7 => ⟨S2048, .f32⟩
  | 8 => ⟨S1x1x2048, .f32⟩
  | 9 => ⟨S4x4096x2048, .f32⟩
  | 10 => ⟨S4x4096x2048, .f32⟩
  | 11 => ⟨S4x4096x2048, .f32⟩
  | 12 => ⟨S4x4096x2048, .f32⟩
  | 13 => ⟨S1x1x2048, .f32⟩
  | 14 => ⟨S2048, .f32⟩
  | 15 => ⟨S1x1x2048, .f32⟩
  | 16 => ⟨S4x4096x2048, .f32⟩
  | 17 => ⟨S4x4096x2048, .f32⟩
  | 18 => ⟨S4x4096x2048, .f32⟩
  | 19 => ⟨S4x4096x2048, .f32⟩
  | 20 => ⟨S1x1x2048, .f32⟩
  | 21 => ⟨S2048, .f32⟩
  | 22 => ⟨S1x1x2048, .f32⟩
  | 23 => ⟨S4x4096x2048, .f32⟩
  | 24 => ⟨S4x4096x2048, .f32⟩
  | 25 => ⟨S4x4096x2048, .f32⟩
  | 26 => ⟨S4x4096x2048, .f32⟩
  | 27 => ⟨S1x1x2048, .f32⟩
  | 28 => ⟨S2048, .f32⟩
  | 29 => ⟨S1x1x2048, .f32⟩
  | 30 => ⟨S4x4096x2048, .f32⟩
  | 31 => ⟨S4x4096x2048, .f32⟩
  | 32 => ⟨S4x4096x2048, .f32⟩
  | 33 => ⟨S4x4096x2048, .f32⟩
  | 34 => ⟨S1x1x2048, .f32⟩
  | 35 => ⟨S2048, .f32⟩
  | 36 => ⟨S1x1x2048, .f32⟩
  | 37 => ⟨S4x4096x2048, .f32⟩
  | 38 => ⟨S4x4096x2048, .f32⟩
  | 39 => ⟨S4x4096x2048, .f32⟩
  | 40 => ⟨S4x4096x2048, .f32⟩
  | 41 => ⟨S1x1x2048, .f32⟩
  | 42 => ⟨S2048, .f32⟩
  | 43 => ⟨S1x1x2048, .f32⟩
  | 44 => ⟨S4x4096x2048, .f32⟩
  | 45 => ⟨S4x4096x2048, .f32⟩
  | 46 => ⟨S4x4096x2048, .f32⟩
  | 47 => ⟨S4x4096x2048, .f32⟩
  | 48 => ⟨S1x1x2048, .f32⟩
  | 49 => ⟨S2048, .f32⟩
  | 50 => ⟨S1x1x2048, .f32⟩
  | 51 => ⟨S4x4096x2048, .f32⟩
  | 52 => ⟨S4x4096x2048, .f32⟩
  | 53 => ⟨S4x4096x2048, .f32⟩
  | 54 => ⟨S4x4096x2048, .f32⟩
  | 55 => ⟨S1x1x2048, .f32⟩
  | 56 => ⟨S2048, .f32⟩
  | 57 => ⟨S1x1x2048, .f32⟩
  | 58 => ⟨S4x4096x2048, .f32⟩
  | 59 => ⟨S4x4096x2048, .f32⟩
  | 60 => ⟨S4x4096x2048, .f32⟩
  | 61 => ⟨S4x4096x2048, .f32⟩
  | 62 => ⟨S1x1x2048, .f32⟩
  | 63 => ⟨S2048, .f32⟩
  | 64 => ⟨S1x1x2048, .f32⟩
  | 65 => ⟨S4x4096x2048, .f32⟩
  | 66 => ⟨S4x4096x2048, .f32⟩
  | 67 => ⟨S4x4096x2048, .f32⟩
  | 68 => ⟨S4x4096x2048, .f32⟩
  | 69 => ⟨S1x1x2048, .f32⟩
  | 70 => ⟨S2048, .f32⟩
  | 71 => ⟨S1x1x2048, .f32⟩
  | 72 => ⟨S4x4096x2048, .f32⟩
  | 73 => ⟨S4x4096x2048, .f32⟩
  | 74 => ⟨S4x4096x2048, .f32⟩
  | 75 => ⟨S4x4096x2048, .f32⟩
  | 76 => ⟨S1x1x2048, .f32⟩
  | 77 => ⟨S2048, .f32⟩
  | 78 => ⟨S1x1x2048, .f32⟩
  | 79 => ⟨S4x4096x2048, .f32⟩
  | 80 => ⟨S4x4096x2048, .f32⟩
  | 81 => ⟨S4x4096x2048, .f32⟩
  | 82 => ⟨S4x4096x2048, .f32⟩
  | 83 => ⟨S1x1x2048, .f32⟩
  | 84 => ⟨S2048, .f32⟩
  | 85 => ⟨S1x1x2048, .f32⟩
  | 86 => ⟨S4x4096x2048, .f32⟩
  | 87 => ⟨S4x4096x2048, .f32⟩
  | 88 => ⟨S4x4096x2048, .f32⟩
  | 89 => ⟨S4x4096x2048, .f32⟩
  | 90 => ⟨S1x1x2048, .f32⟩
  | 91 => ⟨S2048, .f32⟩
  | 92 => ⟨S1x1x2048, .f32⟩
  | 93 => ⟨S4x4096x2048, .f32⟩
  | 94 => ⟨S4x4096x2048, .f32⟩
  | 95 => ⟨S4x4096x2048, .f32⟩
  | 96 => ⟨S2048, .f32⟩
  | 97 => ⟨S1x1x2048, .f32⟩
  | 98 => ⟨S4x4096x2048, .f32⟩
  | 99 => ⟨S4x4096x2048, .f32⟩
  | 100 => ⟨S2048, .f32⟩
  | 101 => ⟨S2048, .f32⟩
  | 102 => ⟨S_, .f32⟩
  | 103 => ⟨S4x4096, .f32⟩
  | 104 => ⟨S4x4096x1, .f32⟩
  | 105 => ⟨S_, .f32⟩
  | 106 => ⟨S4x4096x1, .f32⟩
  | 107 => ⟨S4x4096x1, .f32⟩
  | 108 => ⟨S4x4096x2048, .f32⟩
  | 109 => ⟨S4x4096x2048, .f32⟩
  | 110 => ⟨S4x4096x2048, .f32⟩
  | 111 => ⟨S_, .f32⟩
  | 112 => ⟨S4x4096, .f32⟩
  | 113 => ⟨S4x4096x1, .f32⟩
  | 114 => ⟨S_, .f32⟩
  | 115 => ⟨S4x4096x1, .f32⟩
  | 116 => ⟨S4x4096x1, .f32⟩
  | 117 => ⟨S4x4096x2048, .f32⟩
  | 118 => ⟨S4x4096x2048, .f32⟩
  | 119 => ⟨S_, .f32⟩
  | 120 => ⟨S4x4096x1, .f32⟩
  | 121 => ⟨S4x4096x1, .f32⟩
  | 122 => ⟨S4x4096x1, .f32⟩
  | 123 => ⟨S4x4096x2048, .f32⟩
  | 124 => ⟨S4x4096x2048, .f32⟩
  | 125 => ⟨S1x1x2048, .f32⟩
  | 126 => ⟨S4x4096x2048, .f32⟩
  | 127 => ⟨S4x4096x2048, .f32⟩
  | _ => ⟨S4x4096x2048, .f32⟩

abbrev hbmTy0_2 (i : Nat) : BufTy := match i % 128 with
  | 0 => ⟨S1x1x2048, .f32⟩
  | 1 => ⟨S4x4096x2048, .f32⟩
  | 2 => ⟨S4x4096x2048, .f32⟩
  | 3 => ⟨S4x4096x2048, .f32⟩
  | 4 => ⟨S4x4096x2048, .f32⟩
  | 5 => ⟨S_, .f32⟩
  | 6 => ⟨S4x4096x2048, .f32⟩
  | 7 => ⟨S4x4096x2048, .f32⟩
  | 8 => ⟨S_, .f32⟩
  | 9 => ⟨S4x4096x2048, .f32⟩
  | 10 => ⟨S4x4096x2048, .f32⟩
  | 11 => ⟨S4x4096x2048, .f32⟩
  | 12 => ⟨S4x4096x2048, .bf16⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_cst : Ref sig .tc := ⟨.hbm, 230, rfl⟩
abbrev main_v223 : Ref sig .tc := ⟨.hbm, 231, rfl⟩
abbrev main_v224 : Ref sig .tc := ⟨.hbm, 232, rfl⟩
abbrev main_cst_0 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_1 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_call1_v0 : Ref sig .tc := ⟨.hbm, 259, rfl⟩
abbrev main_call1_v1 : Ref sig .tc := ⟨.hbm, 260, rfl⟩
abbrev main_call1_cst : Ref sig .tc := ⟨.hbm, 261, rfl⟩
abbrev main_call1_v2 : Ref sig .tc := ⟨.hbm, 262, rfl⟩
abbrev main_call1_v3 : Ref sig .tc := ⟨.hbm, 263, rfl⟩
abbrev main_call1_cst_0 : Ref sig .tc := ⟨.hbm, 264, rfl⟩
abbrev main_call1_v4 : Ref sig .tc := ⟨.hbm, 265, rfl⟩
abbrev main_call1_v5 : Ref sig .tc := ⟨.hbm, 266, rfl⟩
abbrev main_v247 : Ref sig .tc := ⟨.hbm, 267, rfl⟩
abbrev main_v248 : Ref sig .tc := ⟨.hbm, 268, rfl⟩

abbrev nD : Nat := 1
abbrev τ : Topo := Topo.v7x

variable {F : FTy → Type} [FloatOps F]
-- ==== OutKernel.lean ====
abbrev S16384x2048 : Shape := ⟨2, ![16384, 2048]⟩
abbrev S1x4096x4096 : Shape := ⟨3, ![1, 4096, 4096]⟩
abbrev S4x4096x4096 : Shape := ⟨3, ![4, 4096, 4096]⟩
abbrev S1x4096 : Shape := ⟨2, ![1, 4096]⟩
abbrev S1x4096x4 : Shape := ⟨3, ![1, 4096, 4]⟩
abbrev S1x4 : Shape := ⟨2, ![1, 4]⟩
abbrev S1x4096x32 : Shape := ⟨3, ![1, 4096, 32]⟩
abbrev S1x32 : Shape := ⟨2, ![1, 32]⟩
abbrev S4096x4 : Shape := ⟨2, ![4096, 4]⟩
abbrev S4096x32 : Shape := ⟨2, ![4096, 32]⟩
abbrev S4096x36 : Shape := ⟨2, ![4096, 36]⟩
abbrev S_ : Shape := ⟨0, ![]⟩
abbrev S4096x128 : Shape := ⟨2, ![4096, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S1x2048x4096 : Shape := ⟨3, ![1, 2048, 4096]⟩
abbrev S2048x4096 : Shape := ⟨2, ![2048, 4096]⟩
abbrev S16384x4096 : Shape := ⟨2, ![16384, 4096]⟩
abbrev S16384x128 : Shape := ⟨2, ![16384, 128]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S512x128 : Shape := ⟨2, ![512, 128]⟩
abbrev S16x4096 : Shape := ⟨2, ![16, 4096]⟩
abbrev S16 : Shape := ⟨1, ![16]⟩
abbrev S16x1 : Shape := ⟨2, ![16, 1]⟩
abbrev S16x2048 : Shape := ⟨2, ![16, 2048]⟩

abbrev nBuf : Space → Nat
  | .hbm => 34
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S4x4096x4096, .f32⟩
  | .hbm, ⟨4, _⟩ => ⟨S1x4096, .f32⟩
  | .hbm, ⟨5, _⟩ => ⟨S1x4096, .f32⟩
  | .hbm, ⟨6, _⟩ => ⟨S1x4096x4, .f32⟩
  | .hbm, ⟨7, _⟩ => ⟨S1x4, .f32⟩
  | .hbm, ⟨8, _⟩ => ⟨S1x4096x32, .f32⟩
  | .hbm, ⟨9, _⟩ => ⟨S1x32, .f32⟩
  | .hbm, ⟨10, _⟩ => ⟨S4096x4, .f32⟩
  | .hbm, ⟨11, _⟩ => ⟨S4096x32, .f32⟩
  | .hbm, ⟨12, _⟩ => ⟨S4096x36, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S4, .f32⟩
  | .hbm, ⟨18, _⟩ => ⟨S32, .f32⟩
  | .hbm, ⟨19, _⟩ => ⟨S36, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x2048x4096, .f32⟩
  | .hbm, ⟨25, _⟩ => ⟨S2048x4096, .f32⟩
  | .hbm, ⟨26, _⟩ => ⟨S2048x4096, .bf16⟩
  | .hbm, ⟨27, _⟩ => ⟨S1x2048x4096, .f32⟩
  | .hbm, ⟨28, _⟩ => ⟨S2048x4096, .f32⟩
  | .hbm, ⟨29, _⟩ => ⟨S2048x4096, .bf16⟩
  | .hbm, ⟨30, _⟩ => ⟨S16384x4096, .f32⟩
  | .hbm, ⟨31, _⟩ => ⟨S16384x4096, .f32⟩
  | .hbm, ⟨32, _⟩ => ⟨S16384x2048, .i32⟩
  | .hbm, ⟨33, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S4096x128, .bf16⟩
  | .local _ .vmem, ⟨13, _⟩ => ⟨S1x128, .f32⟩
  | .local _ .vmem, ⟨14, _⟩ => ⟨S512x4096, .f32⟩
  | .local _ .vmem, ⟨15, _⟩ => ⟨S512x4096, .f32⟩
  | .local _ .vmem, ⟨16, _⟩ => ⟨S512x2048, .i32⟩
  | .local _ .vmem, ⟨17, _⟩ => ⟨S512x2048, .i32⟩
  | .local _ .vmem, ⟨18, _⟩ => ⟨S512x128, .f32⟩
  | .local _ .vmem, ⟨19, _⟩ => ⟨S512x128, .f32⟩
  | .local _ .vmem, ⟨20, _⟩ => ⟨S512x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![32, 8], ![false, false]⟩

def k0_cond9 (i : grid0.Coords) : BitVec 1 :=
  let arg1 : BitVec 32 := BitVec.ofNat 32 (i 1).val
  let c7_i32_19 : BitVec 32 := 7#32
  let v38 : BitVec 1 := Scalar.cmpi .eq arg1 c7_i32_19
  let v39 : BitVec 32 := Scalar.extui v38
  let c0_i32_20 : BitVec 32 := 0#32
  let v40 : BitVec 1 := Scalar.cmpi .ne v39 c0_i32_20
  v40

@[reducible] def k0_t1_loop : Scf.Loop 32 :=
  let c0_i32_21 : BitVec 32 := 0#32
  let c8_i32 : BitVec 32 := 8#32
  let v41 : BitVec 32 := Scalar.addi c0_i32_21 c8_i32
  let c1_i32_22 : BitVec 32 := 1#32
  ⟨c0_i32_21, v41, c1_i32_22⟩
def k0_mult1 (k0_t1 : Fin k0_t1_loop.trips) : BitVec 32 :=
  let c4_i32_36 : BitVec 32 := 4#32
  let c0_i32_21 : BitVec 32 := 0#32
  let c1_i32_22 : BitVec 32 := 1#32
  let arg15 : BitVec 32 := Scf.iv c0_i32_21 c1_i32_22 k0_t1
  let v52 : BitVec 32 := Scalar.muli c4_i32_36 arg15
  let c0_i32_37 : BitVec 32 := 0#32
  let v53 : BitVec 32 := Scalar.addi v52 c0_i32_37
  let c16_i32 : BitVec 32 := 16#32
  let v54 : BitVec 32 := Scalar.muli v53 c16_i32
  v54
def k0_mult2 (k0_t1 : Fin k0_t1_loop.trips) : BitVec 32 :=
  let c4_i32_38 : BitVec 32 := 4#32
  let c0_i32_21 : BitVec 32 := 0#32
  let c1_i32_22 : BitVec 32 := 1#32
  let arg15 : BitVec 32 := Scf.iv c0_i32_21 c1_i32_22 k0_t1
  let v56 : BitVec 32 := Scalar.muli c4_i32_38 arg15
  let c1_i32_39 : BitVec 32 := 1#32
  let v57 : BitVec 32 := Scalar.addi v56 c1_i32_39
  let c16_i32_40 : BitVec 32 := 16#32
  let v58 : BitVec 32 := Scalar.muli v57 c16_i32_40
  v58
def k0_mult3 (k0_t1 : Fin k0_t1_loop.trips) : BitVec 32 :=
  let c4_i32_41 : BitVec 32 := 4#32
  let c0_i32_21 : BitVec 32 := 0#32
  let c1_i32_22 : BitVec 32 := 1#32
  let arg15 : BitVec 32 := Scf.iv c0_i32_21 c1_i32_22 k0_t1
  let v60 : BitVec 32 := Scalar.muli c4_i32_41 arg15
  let c2_i32_42 : BitVec 32 := 2#32
  let v61 : BitVec 32 := Scalar.addi v60 c2_i32_42
  let c16_i32_43 : BitVec 32 := 16#32
  let v62 : BitVec 32 := Scalar.muli v61 c16_i32_43
  v62
def k0_mult4 (k0_t1 : Fin k0_t1_loop.trips) : BitVec 32 :=
  let c4_i32_44 : BitVec 32 := 4#32
  let c0_i32_21 : BitVec 32 := 0#32
  let c1_i32_22 : BitVec 32 := 1#32
  let arg15 : BitVec 32 := Scf.iv c0_i32_21 c1_i32_22 k0_t1
  let v64 : BitVec 32 := Scalar.muli c4_i32_44 arg15
  let c3_i32_45 : BitVec 32 := 3#32
  let v65 : BitVec 32 := Scalar.addi v64 c3_i32_45
  let c16_i32_46 : BitVec 32 := 16#32
  let v66 : BitVec 32 := Scalar.muli v65 c16_i32_46
  v66
def k0_off1 (k0_t1 : Fin k0_t1_loop.trips) (c0_i32_37 : BitVec 32) : Fin 2 → Nat :=
  let c4_i32_36 : BitVec 32 := 4#32
  let c0_i32_21 : BitVec 32 := 0#32
  let c1_i32_22 : BitVec 32 := 1#32
  let arg15 : BitVec 32 := Scf.iv c0_i32_21 c1_i32_22 k0_t1
  let v52 : BitVec 32 := Scalar.muli c4_i32_36 arg15
  let v53 : BitVec 32 := Scalar.addi v52 c0_i32_37
  let c16_i32 : BitVec 32 := 16#32
  let v54 : BitVec 32 := Scalar.muli v53 c16_i32
  let v55 : BitVec 32 := v54
  let v68 : Index := Scalar.indexCast v55
  let c0_47 : Index := 0#32
  ![v68.toNat, 0]
@[reducible] def k0_t2_loop : Scf.Loop 32 :=
  let c0_i32_24 : BitVec 32 := 0#32
  let c32_i32 : BitVec 32 := 32#32
  let v42 : BitVec 32 := Scalar.addi c0_i32_24 c32_i32
  let c1_i32_25 : BitVec 32 := 1#32
  ⟨c0_i32_24, v42, c1_i32_25⟩
def k0_mult5 (k0_t2 : Fin k0_t2_loop.trips) : BitVec 32 :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  v52
def k0_off2 (k0_t2 : Fin k0_t2_loop.trips) : Fin 2 → Nat :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  let v53 : BitVec 32 := v52
  let v54 : Index := Scalar.indexCast v53
  let c0_36 : Index := 0#32
  ![v54.toNat, 0]
def k0_off3 (k0_t2 : Fin k0_t2_loop.trips) : Fin 2 → Nat :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  let v53 : BitVec 32 := v52
  let v67 : Index := Scalar.indexCast v53
  let c0_38 : Index := 0#32
  ![v67.toNat, 0]
def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_11 : BitVec 32 := 0#32
  let v16 : BitVec 1 := Scalar.cmpi .ne v15 c0_i32_11
  v16

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_cond3 (i : grid0.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def k0_cond5 (i : grid0.Coords) : BitVec 1 :=
  let arg1 : BitVec 32 := BitVec.ofNat 32 (i 1).val
  let c4_i32 : BitVec 32 := 4#32
  let v26 : BitVec 1 := Scalar.cmpi .eq arg1 c4_i32
  let v27 : BitVec 32 := Scalar.extui v26
  let c0_i32_15 : BitVec 32 := 0#32
  let v28 : BitVec 1 := Scalar.cmpi .ne v27 c0_i32_15
  v28

def k0_cond6 (i : grid0.Coords) : BitVec 1 :=
  let arg1 : BitVec 32 := BitVec.ofNat 32 (i 1).val
  let c5_i32 : BitVec 32 := 5#32
  let v29 : BitVec 1 := Scalar.cmpi .eq arg1 c5_i32
  let v30 : BitVec 32 := Scalar.extui v29
  let c0_i32_16 : BitVec 32 := 0#32
  let v31 : BitVec 1 := Scalar.cmpi .ne v30 c0_i32_16
  v31

def k0_cond7 (i : grid0.Coords) : BitVec 1 :=
  let arg1 : BitVec 32 := BitVec.ofNat 32 (i 1).val
  let c6_i32 : BitVec 32 := 6#32
  let v32 : BitVec 1 := Scalar.cmpi .eq arg1 c6_i32
  let v33 : BitVec 32 := Scalar.extui v32
  let c0_i32_17 : BitVec 32 := 0#32
  let v34 : BitVec 1 := Scalar.cmpi .ne v33 c0_i32_17
  v34

def k0_cond8 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OutKernelIdeal.lean ====
abbrev S16384x2048 : Shape := ⟨2, ![16384, 2048]⟩
abbrev S1x4096x4096 : Shape := ⟨3, ![1, 4096, 4096]⟩
abbrev S4x4096x4096 : Shape := ⟨3, ![4, 4096, 4096]⟩
abbrev S1x4096 : Shape := ⟨2, ![1, 4096]⟩
abbrev S1x4096x4 : Shape := ⟨3, ![1, 4096, 4]⟩
abbrev S1x4 : Shape := ⟨2, ![1, 4]⟩
abbrev S1x4096x32 : Shape := ⟨3, ![1, 4096, 32]⟩
abbrev S1x32 : Shape := ⟨2, ![1, 32]⟩
abbrev S4096x4 : Shape := ⟨2, ![4096, 4]⟩
abbrev S4096x32 : Shape := ⟨2, ![4096, 32]⟩
abbrev S4096x36 : Shape := ⟨2, ![4096, 36]⟩
abbrev S_ : Shape := ⟨0, ![]⟩
abbrev S4096x128 : Shape := ⟨2, ![4096, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S1x2048x4096 : Shape := ⟨3, ![1, 2048, 4096]⟩
abbrev S2048x4096 : Shape := ⟨2, ![2048, 4096]⟩
abbrev S16384x4096 : Shape := ⟨2, ![16384, 4096]⟩
abbrev S16384x2x2048 : Shape := ⟨3, ![16384, 2, 2048]⟩
abbrev S16384x128 : Shape := ⟨2, ![16384, 128]⟩
abbrev S16384x1x2048 : Shape := ⟨3, ![16384, 1, 2048]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S512x2x2048 : Shape := ⟨3, ![512, 2, 2048]⟩
abbrev S512x1x2048 : Shape := ⟨3, ![512, 1, 2048]⟩
abbrev S512x128 : Shape := ⟨2, ![512, 128]⟩
abbrev S16x4096 : Shape := ⟨2, ![16, 4096]⟩
abbrev S16 : Shape := ⟨1, ![16]⟩
abbrev S16x1 : Shape := ⟨2, ![16, 1]⟩
abbrev S16x2048 : Shape := ⟨2, ![16, 2048]⟩
abbrev S16x2x2048 : Shape := ⟨3, ![16, 2, 2048]⟩
abbrev S16x1x2048 : Shape := ⟨3, ![16, 1, 2048]⟩

abbrev nBuf : Space → Nat
  | .hbm => 34
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S4x4096x4096, .f32⟩
  | .hbm, ⟨4, _⟩ => ⟨S1x4096, .f32⟩
  | .hbm, ⟨5, _⟩ => ⟨S1x4096, .f32⟩
  | .hbm, ⟨6, _⟩ => ⟨S1x4096x4, .f32⟩
  | .hbm, ⟨7, _⟩ => ⟨S1x4, .f32⟩
  | .hbm, ⟨8, _⟩ => ⟨S1x4096x32, .f32⟩
  | .hbm, ⟨9, _⟩ => ⟨S1x32, .f32⟩
  | .hbm, ⟨10, _⟩ => ⟨S4096x4, .f32⟩
  | .hbm, ⟨11, _⟩ => ⟨S4096x32, .f32⟩
  | .hbm, ⟨12, _⟩ => ⟨S4096x36, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S4, .f32⟩
  | .hbm, ⟨18, _⟩ => ⟨S32, .f32⟩
  | .hbm, ⟨19, _⟩ => ⟨S36, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x2048x4096, .f32⟩
  | .hbm, ⟨25, _⟩ => ⟨S2048x4096, .f32⟩
  | .hbm, ⟨26, _⟩ => ⟨S2048x4096, .bf16⟩
  | .hbm, ⟨27, _⟩ => ⟨S1x2048x4096, .f32⟩
  | .hbm, ⟨28, _⟩ => ⟨S2048x4096, .f32⟩
  | .hbm, ⟨29, _⟩ => ⟨S2048x4096, .bf16⟩
  | .hbm, ⟨30, _⟩ => ⟨S16384x4096, .f32⟩
  | .hbm, ⟨31, _⟩ => ⟨S16384x4096, .f32⟩
  | .hbm, ⟨32, _⟩ => ⟨S16384x2x2048, .bf16⟩
  | .hbm, ⟨33, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S4096x128, .bf16⟩
  | .local _ .vmem, ⟨13, _⟩ => ⟨S1x128, .f32⟩
  | .local _ .vmem, ⟨14, _⟩ => ⟨S512x4096, .f32⟩
  | .local _ .vmem, ⟨15, _⟩ => ⟨S512x4096, .f32⟩
  | .local _ .vmem, ⟨16, _⟩ => ⟨S512x2x2048, .bf16⟩
  | .local _ .vmem, ⟨17, _⟩ => ⟨S512x2x2048, .bf16⟩
  | .local _ .vmem, ⟨18, _⟩ => ⟨S512x128, .f32⟩
  | .local _ .vmem, ⟨19, _⟩ => ⟨S512x128, .f32⟩
  | .local _ .vmem, ⟨20, _⟩ => ⟨S512x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![32, 8], ![false, false]⟩

def k0_cond9 (i : grid0.Coords) : BitVec 1 :=
  let arg1 : BitVec 32 := BitVec.ofNat 32 (i 1).val
  let c7_i32_19 : BitVec 32 := 7#32
  let v38 : BitVec 1 := Scalar.cmpi .eq arg1 c7_i32_19
  let v39 : BitVec 32 := Scalar.extui v38
  let c0_i32_20 : BitVec 32 := 0#32
  let v40 : BitVec 1 := Scalar.cmpi .ne v39 c0_i32_20
  v40

@[reducible] def k0_t1_loop : Scf.Loop 32 :=
  let c0_i32_21 : BitVec 32 := 0#32
  let c8_i32 : BitVec 32 := 8#32
  let v41 : BitVec 32 := Scalar.addi c0_i32_21 c8_i32
  let c1_i32_22 : BitVec 32 := 1#32
  ⟨c0_i32_21, v41, c1_i32_22⟩
def k0_mult1 (k0_t1 : Fin k0_t1_loop.trips) : BitVec 32 :=
  let c4_i32_36 : BitVec 32 := 4#32
  let c0_i32_21 : BitVec 32 := 0#32
  let c1_i32_22 : BitVec 32 := 1#32
  let arg15 : BitVec 32 := Scf.iv c0_i32_21 c1_i32_22 k0_t1
  let v52 : BitVec 32 := Scalar.muli c4_i32_36 arg15
  let c0_i32_37 : BitVec 32 := 0#32
  let v53 : BitVec 32 := Scalar.addi v52 c0_i32_37
  let c16_i32 : BitVec 32 := 16#32
  let v54 : BitVec 32 := Scalar.muli v53 c16_i32
  v54
def k0_mult2 (k0_t1 : Fin k0_t1_loop.trips) : BitVec 32 :=
  let c4_i32_38 : BitVec 32 := 4#32
  let c0_i32_21 : BitVec 32 := 0#32
  let c1_i32_22 : BitVec 32 := 1#32
  let arg15 : BitVec 32 := Scf.iv c0_i32_21 c1_i32_22 k0_t1
  let v56 : BitVec 32 := Scalar.muli c4_i32_38 arg15
  let c1_i32_39 : BitVec 32 := 1#32
  let v57 : BitVec 32 := Scalar.addi v56 c1_i32_39
  let c16_i32_40 : BitVec 32 := 16#32
  let v58 : BitVec 32 := Scalar.muli v57 c16_i32_40
  v58
def k0_mult3 (k0_t1 : Fin k0_t1_loop.trips) : BitVec 32 :=
  let c4_i32_41 : BitVec 32 := 4#32
  let c0_i32_21 : BitVec 32 := 0#32
  let c1_i32_22 : BitVec 32 := 1#32
  let arg15 : BitVec 32 := Scf.iv c0_i32_21 c1_i32_22 k0_t1
  let v60 : BitVec 32 := Scalar.muli c4_i32_41 arg15
  let c2_i32_42 : BitVec 32 := 2#32
  let v61 : BitVec 32 := Scalar.addi v60 c2_i32_42
  let c16_i32_43 : BitVec 32 := 16#32
  let v62 : BitVec 32 := Scalar.muli v61 c16_i32_43
  v62
def k0_mult4 (k0_t1 : Fin k0_t1_loop.trips) : BitVec 32 :=
  let c4_i32_44 : BitVec 32 := 4#32
  let c0_i32_21 : BitVec 32 := 0#32
  let c1_i32_22 : BitVec 32 := 1#32
  let arg15 : BitVec 32 := Scf.iv c0_i32_21 c1_i32_22 k0_t1
  let v64 : BitVec 32 := Scalar.muli c4_i32_44 arg15
  let c3_i32_45 : BitVec 32 := 3#32
  let v65 : BitVec 32 := Scalar.addi v64 c3_i32_45
  let c16_i32_46 : BitVec 32 := 16#32
  let v66 : BitVec 32 := Scalar.muli v65 c16_i32_46
  v66
def k0_off1 (k0_t1 : Fin k0_t1_loop.trips) (c0_i32_37 : BitVec 32) : Fin 2 → Nat :=
  let c4_i32_36 : BitVec 32 := 4#32
  let c0_i32_21 : BitVec 32 := 0#32
  let c1_i32_22 : BitVec 32 := 1#32
  let arg15 : BitVec 32 := Scf.iv c0_i32_21 c1_i32_22 k0_t1
  let v52 : BitVec 32 := Scalar.muli c4_i32_36 arg15
  let v53 : BitVec 32 := Scalar.addi v52 c0_i32_37
  let c16_i32 : BitVec 32 := 16#32
  let v54 : BitVec 32 := Scalar.muli v53 c16_i32
  let v55 : BitVec 32 := v54
  let v68 : Index := Scalar.indexCast v55
  let c0_47 : Index := 0#32
  ![v68.toNat, 0]
@[reducible] def k0_t2_loop : Scf.Loop 32 :=
  let c0_i32_24 : BitVec 32 := 0#32
  let c32_i32 : BitVec 32 := 32#32
  let v42 : BitVec 32 := Scalar.addi c0_i32_24 c32_i32
  let c1_i32_25 : BitVec 32 := 1#32
  ⟨c0_i32_24, v42, c1_i32_25⟩
def k0_mult5 (k0_t2 : Fin k0_t2_loop.trips) : BitVec 32 :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  v52
def k0_off2 (k0_t2 : Fin k0_t2_loop.trips) : Fin 2 → Nat :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  let v53 : BitVec 32 := v52
  let v54 : Index := Scalar.indexCast v53
  let c0_36 : Index := 0#32
  ![v54.toNat, 0]
def k0_off3 (k0_t2 : Fin k0_t2_loop.trips) : Fin 3 → Nat :=
  let c0_i32_24 : BitVec 32 := 0#32
  let c1_i32_25 : BitVec 32 := 1#32
  let arg15 : BitVec 32 := Scf.iv c0_i32_24 c1_i32_25 k0_t2
  let c16_i32 : BitVec 32 := 16#32
  let v52 : BitVec 32 := Scalar.muli arg15 c16_i32
  let v53 : BitVec 32 := v52
  let v67 : Index := Scalar.indexCast v53
  let c0_38 : Index := 0#32
  ![v67.toNat, 0, 0]
def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_11 : BitVec 32 := 0#32
  let v16 : BitVec 1 := Scalar.cmpi .ne v15 c0_i32_11
  v16

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_cond3 (i : grid0.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def k0_cond5 (i : grid0.Coords) : BitVec 1 :=
  let arg1 : BitVec 32 := BitVec.ofNat 32 (i 1).val
  let c4_i32 : BitVec 32 := 4#32
  let v26 : BitVec 1 := Scalar.cmpi .eq arg1 c4_i32
  let v27 : BitVec 32 := Scalar.extui v26
  let c0_i32_15 : BitVec 32 := 0#32
  let v28 : BitVec 1 := Scalar.cmpi .ne v27 c0_i32_15
  v28

def k0_cond6 (i : grid0.Coords) : BitVec 1 :=
  let arg1 : BitVec 32 := BitVec.ofNat 32 (i 1).val
  let c5_i32 : BitVec 32 := 5#32
  let v29 : BitVec 1 := Scalar.cmpi .eq arg1 c5_i32
  let v30 : BitVec 32 := Scalar.extui v29
  let c0_i32_16 : BitVec 32 := 0#32
  let v31 : BitVec 1 := Scalar.cmpi .ne v30 c0_i32_16
  v31

def k0_cond7 (i : grid0.Coords) : BitVec 1 :=
  let arg1 : BitVec 32 := BitVec.ofNat 32 (i 1).val
  let c6_i32 : BitVec 32 := 6#32
  let v32 : BitVec 1 := Scalar.cmpi .eq arg1 c6_i32
  let v33 : BitVec 32 := Scalar.extui v32
  let c0_i32_17 : BitVec 32 := 0#32
  let v34 : BitVec 1 := Scalar.cmpi .ne v33 c0_i32_17
  v34

def k0_cond8 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OutReferenceIdeal.lean ====
abbrev S16384x2048 : Shape := ⟨2, ![16384, 2048]⟩
abbrev S1x4096x4096 : Shape := ⟨3, ![1, 4096, 4096]⟩
abbrev S4x4096x4096 : Shape := ⟨3, ![4, 4096, 4096]⟩
abbrev S1x4096 : Shape := ⟨2, ![1, 4096]⟩
abbrev S1x4096x4 : Shape := ⟨3, ![1, 4096, 4]⟩
abbrev S1x4 : Shape := ⟨2, ![1, 4]⟩
abbrev S1x4096x32 : Shape := ⟨3, ![1, 4096, 32]⟩
abbrev S1x32 : Shape := ⟨2, ![1, 32]⟩
abbrev S16384x4096 : Shape := ⟨2, ![16384, 4096]⟩
abbrev S4096x4096 : Shape := ⟨2, ![4096, 4096]⟩
abbrev S_ : Shape := ⟨0, ![]⟩
abbrev S4096 : Shape := ⟨1, ![4096]⟩
abbrev S16384 : Shape := ⟨1, ![16384]⟩
abbrev S16384x1 : Shape := ⟨2, ![16384, 1]⟩
abbrev S4096x4 : Shape := ⟨2, ![4096, 4]⟩
abbrev S16384x4 : Shape := ⟨2, ![16384, 4]⟩
abbrev S4 : Shape := ⟨1, ![4]⟩
abbrev S4096x32 : Shape := ⟨2, ![4096, 32]⟩
abbrev S16384x32 : Shape := ⟨2, ![16384, 32]⟩
abbrev S32 : Shape := ⟨1, ![32]⟩
abbrev S16384x36 : Shape := ⟨2, ![16384, 36]⟩
abbrev S16384x128 : Shape := ⟨2, ![16384, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S4x4096x4096, .f32⟩
  | .hbm, ⟨4, _⟩ => ⟨S1x4096, .f32⟩
  | .hbm, ⟨5, _⟩ => ⟨S1x4096, .f32⟩
  | .hbm, ⟨6, _⟩ => ⟨S1x4096x4, .f32⟩
  | .hbm, ⟨7, _⟩ => ⟨S1x4, .f32⟩
  | .hbm, ⟨8, _⟩ => ⟨S1x4096x32, .f32⟩
  | .hbm, ⟨9, _⟩ => ⟨S1x32, .f32⟩
  | .hbm, ⟨10, _⟩ => ⟨S16384x2048, .f32⟩
  | .hbm, ⟨11, _⟩ => ⟨S16384x2048, .f32⟩
  | .hbm, ⟨12, _⟩ => ⟨S16384x4096, .f32⟩
  | .hbm, ⟨13, _⟩ => ⟨S4096x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x4096, .f32⟩
  | .hbm, ⟨44, _⟩ => ⟨S16384x4096, .f32⟩
  | .hbm, ⟨45, _⟩ => ⟨S1x4096, .f32⟩
  | .hbm, ⟨46, _⟩ => ⟨S16384x4096, .f32⟩
  | .hbm, ⟨47, _⟩ => ⟨S16384x4096, .f32⟩
  | .hbm, ⟨48, _⟩ => ⟨S1x4096, .f32⟩
  | .hbm, ⟨49, _⟩ => ⟨S16384x4096, .f32⟩
  | .hbm, ⟨50, _⟩ => ⟨S16384x4096, .f32⟩
  | .hbm, ⟨51, _⟩ => ⟨S4096x4, .f32⟩
  | .hbm, ⟨52, _⟩ => ⟨S16384x4, .f32⟩
  | .hbm, ⟨53, _⟩ => ⟨S4, .f32⟩
  | .hbm, ⟨54, _⟩ => ⟨S1x4, .f32⟩
  | .hbm, ⟨55, _⟩ => ⟨S16384x4, .f32⟩
  | .hbm, ⟨56, _⟩ => ⟨S16384x4, .f32⟩
  | .hbm, ⟨57, _⟩ => ⟨S4096x32, .f32⟩
  | .hbm, ⟨58, _⟩ => ⟨S16384x32, .f32⟩
  | .hbm, ⟨59, _⟩ => ⟨S32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x36, .f32⟩
  | .hbm, ⟨64, _⟩ => ⟨S_, .i32⟩
  | .hbm, ⟨65, _⟩ => ⟨S_, .f32⟩
  | .hbm, ⟨66, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_call0_v0 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== GluKernel.lean ====
abbrev S16384x4096 : Shape := ⟨2, ![16384, 4096]⟩
abbrev S1x4096x8272 : Shape := ⟨3, ![1, 4096, 8272]⟩
abbrev S4096x8272 : Shape := ⟨2, ![4096, 8272]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x8272, .f32⟩
  | .hbm, ⟨2, _⟩ => ⟨S4096x8272, .f32⟩
  | .hbm, ⟨3, _⟩ => ⟨S4096x8272, .bf16⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S16384x4096 : Shape := ⟨2, ![16384, 4096]⟩
abbrev S1x4096x8272 : Shape := ⟨3, ![1, 4096, 8272]⟩
abbrev S4096x8272 : Shape := ⟨2, ![4096, 8272]⟩
abbrev S16384x8272 : Shape := ⟨2, ![16384, 8272]⟩
abbrev S16384x2048 : Shape := ⟨2, ![16384, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8272, .f32⟩
  | .hbm, ⟨2, _⟩ => ⟨S16384x4096, .f32⟩
  | .hbm, ⟨3, _⟩ => ⟨S4096x8272, .f32⟩
  | .hbm, ⟨4, _⟩ => ⟨S16384x8272, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== QkviKernel.lean ====
abbrev S16384x4096 : Shape := ⟨2, ![16384, 4096]⟩
abbrev S1x4096x8272 : Shape := ⟨3, ![1, 4096, 8272]⟩
abbrev S_ : Shape := ⟨0, ![]⟩
abbrev S2048 : Shape := ⟨1, ![2048]⟩
abbrev S1024 : Shape := ⟨1, ![1024]⟩
abbrev S4096 : Shape := ⟨1, ![4096]⟩
abbrev S1x4096 : Shape := ⟨2, ![1, 4096]⟩
abbrev S4096x8272 : Shape := ⟨2, ![4096, 8272]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 13
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x8272, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S4096, .f32⟩
  | .hbm, ⟨9, _⟩ => ⟨S1x4096, .f32⟩
  | .hbm, ⟨10, _⟩ => ⟨S4096x8272, .f32⟩
  | .hbm, ⟨11, _⟩ => ⟨S4096x8272, .bf16⟩
  | .hbm, ⟨12, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkviReferenceIdeal.lean ====
abbrev S16384x4096 : Shape := ⟨2, ![16384, 4096]⟩
abbrev S1x4096x8272 : Shape := ⟨3, ![1, 4096, 8272]⟩
abbrev S4096x8272 : Shape := ⟨2, ![4096, 8272]⟩
abbrev S16384x8272 : Shape := ⟨2, ![16384, 8272]⟩
abbrev S16384x2048 : Shape := ⟨2, ![16384, 2048]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8272, .f32⟩
  | .hbm, ⟨2, _⟩ => ⟨S16384x4096, .f32⟩
  | .hbm, ⟨3, _⟩ => ⟨S4096x8272, .f32⟩
  | .hbm, ⟨4, _⟩ => ⟨S16384x8272, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x4096, .f32⟩
  | .hbm, ⟨15, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== IdxKernel.lean ====
abbrev S4x4096x4096 : Shape := ⟨3, ![4, 4096, 4096]⟩
abbrev S1x4096x8272 : Shape := ⟨3, ![1, 4096, 8272]⟩
abbrev S4096x8272 : Shape := ⟨2, ![4096, 8272]⟩
abbrev S4096x80 : Shape := ⟨2, ![4096, 80]⟩
abbrev S_ : Shape := ⟨0, ![]⟩
abbrev S4096x128 : Shape := ⟨2, ![4096, 128]⟩
abbrev S16384x4096 : Shape := ⟨2, ![16384, 4096]⟩
abbrev S16384x128 : Shape := ⟨2, ![16384, 128]⟩
abbrev S256x4096 : Shape := ⟨2, ![256, 4096]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S1x4096x8272, .f32⟩
  | .hbm, ⟨2, _⟩ => ⟨S4096x8272, .f32⟩
  | .hbm, ⟨3, _⟩ => ⟨S4096x8272, .bf16⟩
  | .hbm, ⟨4, _⟩ => ⟨S4096x80, .bf16⟩
  | .hbm, ⟨5, _⟩ => ⟨S_, .i32⟩
  | .hbm, ⟨6, _⟩ => ⟨S_, .bf16⟩
  | .hbm, ⟨7, _⟩ => ⟨S4096x128, .bf16⟩
  | .hbm, ⟨8, _⟩ => ⟨S16384x4096, .f32⟩
  | .hbm, ⟨9, _⟩ => ⟨S16384x4096, .bf16⟩
  | .hbm, ⟨10, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S4096x128, .bf16⟩
  | .local _ .vmem, ⟨3, _⟩ => ⟨S256x4096, .bf16⟩
  | .local _ .vmem, ⟨4, _⟩ => ⟨S256x4096, .bf16⟩
  | .local _ .vmem, ⟨5, _⟩ => ⟨S256x128, .f32⟩
  | .local _ .vmem, ⟨6, _⟩ => ⟨S256x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== IdxReferenceIdeal.lean ====
abbrev S4x4096x4096 : Shape := ⟨3, ![4, 4096, 4096]⟩
abbrev S1x4096x8272 : Shape := ⟨3, ![1, 4096, 8272]⟩
abbrev S16384x4096 : Shape := ⟨2, ![16384, 4096]⟩
abbrev S4096x8272 : Shape := ⟨2, ![4096, 8272]⟩
abbrev S16384x8272 : Shape := ⟨2, ![16384, 8272]⟩
abbrev S16384x80 : Shape := ⟨2, ![16384, 80]⟩
abbrev S_ : Shape := ⟨0, ![]⟩
abbrev S16384x128 : Shape := ⟨2, ![16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x8272, .f32⟩
  | .hbm, ⟨2, _⟩ => ⟨S16384x4096, .f32⟩
  | .hbm, ⟨3, _⟩ => ⟨S4096x8272, .f32⟩
  | .hbm, ⟨4, _⟩ => ⟨S16384x8272, .f32⟩
  | .hbm, ⟨5, _⟩ => ⟨S16384x4096, .bf16⟩
  | .hbm, ⟨6, _⟩ => ⟨S16384x80, .f32⟩
  | .hbm, ⟨7, _⟩ => ⟨S_, .i32⟩
  | .hbm, ⟨8, _⟩ => ⟨S_, .f32⟩
  | .hbm, ⟨9, _⟩ => ⟨S16384x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownKernel.lean ====
abbrev S40960x512 : Shape := ⟨2, ![40960, 512]⟩
abbrev S32x1024x4096 : Shape := ⟨3, ![32, 1024, 4096]⟩
abbrev S160 : Shape := ⟨1, ![160]⟩
abbrev S40960x4096 : Shape := ⟨2, ![40960, 4096]⟩
abbrev S256x512 : Shape := ⟨2, ![256, 512]⟩
abbrev S1 : Shape := ⟨1, ![1]⟩
abbrev S1x1024x4096 : Shape := ⟨3, ![1, 1024, 4096]⟩
abbrev S256x4096 : Shape := ⟨2, ![256, 4096]⟩
abbrev S1024x4096 : Shape := ⟨2, ![1024, 4096]⟩
abbrev S1x256x4096 : Shape := ⟨3, ![1, 256, 4096]⟩
abbrev S512x4096 : Shape := ⟨2, ![512, 4096]⟩

abbrev nBuf : Space → Nat
  | .hbm => 5
  | .vmem => 9
  | .smem => 6
  | _ => 0

abbrev bufTy : (tb : Table) → Fin (tcTables nBuf tb) → BufTy
  | .hbm, ⟨0, _⟩ => ⟨S40960x512, .bf16⟩
  | .hbm, ⟨1, _⟩ => ⟨S40960x512, .bf16⟩
  | .hbm, ⟨2, _⟩ => ⟨S32x1024x4096, .f32⟩
  | .hbm, ⟨3, _⟩ => ⟨S160, .i32⟩
  | .hbm, ⟨4, _⟩ => ⟨S40960x4096, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x1024x4096, .f32⟩
  | .local _ .vmem, ⟨5, _⟩ => ⟨S1x1024x4096, .f32⟩
  | .local _ .vmem, ⟨6, _⟩ => ⟨S256x4096, .f32⟩
  | .local _ .vmem, ⟨7, _⟩ => ⟨S256x4096, .f32⟩
  | .local _ .vmem, ⟨8, _⟩ => ⟨S1024x4096, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | _, _ => ⟨S40960x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev main_arg8 : Ref sig .tc := ⟨.smem, 4, rfl⟩
abbrev main_arg9 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨6, ![main_arg4.idx, main_arg5.idx, main_arg6.idx, main_arg7.idx, main_arg8.idx, main_arg9.idx], fun | 0 => main_arg4.names | 1 => main_arg5.names | 2 => main_arg6.names | 3 => main_arg7.names | 4 => main_arg8.names | 5 => main_arg9.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_5 : BitVec 32 := 0#32
  let c4_i32_6 : BitVec 32 := 4#32
  let v14 : BitVec 32 := Scalar.addi c0_i32_5 c4_i32_6
  let c1_i32_7 : BitVec 32 := 1#32
  ⟨c0_i32_5, v14, c1_i32_7⟩
def k0_mult1 (k0_t1 : Fin k0_t1_loop.trips) : BitVec 32 :=
  let c0_i32_5 : BitVec 32 := 0#32
  let c1_i32_7 : BitVec 32 := 1#32
  let arg12 : BitVec 32 := Scf.iv c0_i32_5 c1_i32_7 k0_t1
  let c256_i32 : BitVec 32 := 256#32
  let v15 : BitVec 32 := Scalar.muli arg12 c256_i32
  v15
def k0_off2 (k0_t1 : Fin k0_t1_loop.trips) : Fin 3 → Nat :=
  let c0 : Index := 0#32
  let c0_i32_5 : BitVec 32 := 0#32
  let c1_i32_7 : BitVec 32 := 1#32
  let arg12 : BitVec 32 := Scf.iv c0_i32_5 c1_i32_7 k0_t1
  let c256_i32 : BitVec 32 := 256#32
  let v15 : BitVec 32 := Scalar.muli arg12 c256_i32
  let v16 : BitVec 32 := v15
  let v17 : Index := Scalar.indexCast v16
  let c0_9 : Index := 0#32
  ![0, v17.toNat, 0]
def k0_off3 (k0_t1 : Fin k0_t1_loop.trips) : Fin 2 → Nat :=
  let c0_i32_5 : BitVec 32 := 0#32
  let c1_i32_7 : BitVec 32 := 1#32
  let arg12 : BitVec 32 := Scf.iv c0_i32_5 c1_i32_7 k0_t1
  let c256_i32 : BitVec 32 := 256#32
  let v15 : BitVec 32 := Scalar.muli arg12 c256_i32
  let v16 : BitVec 32 := v15
  let v21 : Index := Scalar.indexCast v16
  let c0_10 : Index := 0#32
  ![v21.toNat, 0]
def k0_cond2 (v1 : BitVec 32) : BitVec 1 :=
  let c1_i32 : BitVec 32 := 1#32
  let v6 : BitVec 32 := Scalar.andi v1 c1_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c4_i32 : BitVec 32 := 4#32
  let v10 : BitVec 32 := Scalar.andi v1 c4_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S160) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c0_i32 : BitVec 32 := 0#32
  let c0_i32_0 : BitVec 32 := 0#32
  ![v1.toNat, c0_i32.toNat, v3.toNat]

def cc0_transform_3 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S160) ![v0.toNat] S1.size (k0_off1_inb i)) numel1_S1
  let v2 : Index := Scalar.indexCast arg0
  let v3 : BitVec 32 := pf.at 4 (Rect.unit (s := S160) ![v2.toNat] S1.size (k0_off1_inb i)) numel1_S1
  let c0_i32 : BitVec 32 := 0#32
  ![v1.toNat, v3.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S40960x512 : Shape := ⟨2, ![40960, 512]⟩
abbrev S32x1024x4096 : Shape := ⟨3, ![32, 1024, 4096]⟩
abbrev S160 : Shape := ⟨1, ![160]⟩
abbrev S40960x1024 : Shape := ⟨2, ![40960, 1024]⟩
abbrev S160x256x1024 : Shape := ⟨3, ![160, 256, 1024]⟩
abbrev S_ : Shape := ⟨0, ![]⟩
abbrev S160x1 : Shape := ⟨2, ![160, 1]⟩
abbrev S160x1024x4096 : Shape := ⟨3, ![160, 1024, 4096]⟩
abbrev S160x256x4096 : Shape := ⟨3, ![160, 256, 4096]⟩
abbrev S160x1x1 : Shape := ⟨3, ![160, 1, 1]⟩
abbrev S40960x4096 : Shape := ⟨2, ![40960, 4096]⟩

abbrev nBuf : Space → Nat
  | .hbm => 33
  | .vmem => 0
  | .smem => 0
  | _ => 0

abbrev bufTy : (tb : Table) → Fin (tcTables nBuf tb) → BufTy
  | .hbm, ⟨0, _⟩ => ⟨S40960x512, .bf16⟩
  | .hbm, ⟨1, _⟩ => ⟨S40960x512, .bf16⟩
  | .hbm, ⟨2, _⟩ => ⟨S32x1024x4096, .f32⟩
  | .hbm, ⟨3, _⟩ => ⟨S160, .i32⟩
  | .hbm, ⟨4, _⟩ => ⟨S160, .i32⟩
  | .hbm, ⟨5, _⟩ => ⟨S160, .i32⟩
  | .hbm, ⟨6, _⟩ => ⟨S160, .i32⟩
  | .hbm, ⟨7, _⟩ => ⟨S160, .i32⟩
  | .hbm, ⟨8, _⟩ => ⟨S160, .i32⟩
  | .hbm, ⟨9, _⟩ => ⟨S160, .i32⟩
  | .hbm, ⟨10, _⟩ => ⟨S40960x1024, .bf16⟩
  | .hbm, ⟨11, _⟩ => ⟨S40960x1024, .f32⟩
  | .hbm, ⟨12, _⟩ => ⟨S160x256x1024, .f32⟩
  | .hbm, ⟨13, _⟩ => ⟨S_, .i32⟩
  | .hbm, ⟨14, _⟩ => ⟨S160, .i32⟩
  | .hbm, ⟨15, _⟩ => ⟨S160, .i1⟩
  | .hbm, ⟨16, _⟩ => ⟨S_, .i32⟩
  | .hbm, ⟨17, _⟩ => ⟨S160, .i32⟩
  | .hbm, ⟨18, _⟩ => ⟨S160, .i32⟩
  | .hbm, ⟨19, _⟩ => ⟨S160, .i32⟩
  | .hbm, ⟨20, _⟩ => ⟨S160x1, .i32⟩
  | .hbm, ⟨21, _⟩ => ⟨S160x1024x4096, .f32⟩
  | .hbm, ⟨22, _⟩ => ⟨S160x256x4096, .f32⟩
  | .hbm, ⟨23, _⟩ => ⟨S_, .i32⟩
  | .hbm, ⟨24, _⟩ => ⟨S160, .i32⟩
  | .hbm, ⟨25, _⟩ => ⟨S160, .i1⟩
  | .hbm, ⟨26, _⟩ => ⟨S160x1x1, .i1⟩
  | .hbm, ⟨27, _⟩ => ⟨S_, .f32⟩
  | .hbm, ⟨28, _⟩ => ⟨S_, .f32⟩
  | .hbm, ⟨29, _⟩ => ⟨S160x256x4096, .i1⟩
  | .hbm, ⟨30, _⟩ => ⟨S160x256x4096, .f32⟩
  | .hbm, ⟨31, _⟩ => ⟨S160x256x4096, .f32⟩
  | .hbm, ⟨32, _⟩ => ⟨S40960x4096, .f32⟩
  | _, _ => ⟨S40960x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== UpKernel.lean ====
abbrev S40960x2048 : Shape := ⟨2, ![40960, 2048]⟩
abbrev S32x4096x1024 : Shape := ⟨3, ![32, 4096, 1024]⟩
abbrev S160 : Shape := ⟨1, ![160]⟩
abbrev S40960x512 : Shape := ⟨2, ![40960, 512]⟩
abbrev S256x2048 : Shape := ⟨2, ![256, 2048]⟩
abbrev S1 : Shape := ⟨1, ![1]⟩
abbrev S1x4096x512 : Shape := ⟨3, ![1, 4096, 512]⟩
abbrev S256x512 : Shape := ⟨2, ![256, 512]⟩
abbrev S4096x512 : Shape := ⟨2, ![4096, 512]⟩
abbrev S1x256x512 : Shape := ⟨3, ![1, 256, 512]⟩
abbrev S2048x512 : Shape := ⟨2, ![2048, 512]⟩

abbrev nBuf : Space → Nat
  | .hbm => 5
  | .vmem => 10
  | .smem => 6
  | _ => 0

abbrev bufTy : (tb : Table) → Fin (tcTables nBuf tb) → BufTy
  | .hbm, ⟨0, _⟩ => ⟨S40960x2048, .i32⟩
  | .hbm, ⟨1, _⟩ => ⟨S32x4096x1024, .f32⟩
  | .hbm, ⟨2, _⟩ => ⟨S32x4096x1024, .f32⟩
  | .hbm, ⟨3, _⟩ => ⟨S160, .i32⟩
  | .hbm, ⟨4, _⟩ => ⟨S40960x512, .bf16⟩
  | .local _ .vmem, ⟨0, _⟩ => ⟨S256x2048, .i32⟩
  | .local _ .vmem, ⟨1, _⟩ => ⟨S256x2048, .i32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | _, _ => ⟨S40960x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev main_arg8 : Ref sig .tc := ⟨.smem, 4, rfl⟩
abbrev main_arg9 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨6, ![main_arg4.idx, main_arg5.idx, main_arg6.idx, main_arg7.idx, main_arg8.idx, main_arg9.idx], fun | 0 => main_arg4.names | 1 => main_arg5.names | 2 => main_arg6.names | 3 => main_arg7.names | 4 => main_arg8.names | 5 => main_arg9.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_5 : BitVec 32 := 0#32
  let c16_i32 : BitVec 32 := 16#32
  let v14 : BitVec 32 := Scalar.addi c0_i32_5 c16_i32
  let c1_i32_6 : BitVec 32 := 1#32
  ⟨c0_i32_5, v14, c1_i32_6⟩
def k0_mult1 (k0_t1 : Fin k0_t1_loop.trips) : BitVec 32 :=
  let c0_i32_5 : BitVec 32 := 0#32
  let c1_i32_6 : BitVec 32 := 1#32
  let arg13 : BitVec 32 := Scf.iv c0_i32_5 c1_i32_6 k0_t1
  let c256_i32 : BitVec 32 := 256#32
  let v16 : BitVec 32 := Scalar.muli arg13 c256_i32
  v16
def k0_off2 (k0_t1 : Fin k0_t1_loop.trips) : Fin 3 → Nat :=
  let c0 : Index := 0#32
  let c0_i32_5 : BitVec 32 := 0#32
  let c1_i32_6 : BitVec 32 := 1#32
  let arg13 : BitVec 32 := Scf.iv c0_i32_5 c1_i32_6 k0_t1
  let c256_i32 : BitVec 32 := 256#32
  let v16 : BitVec 32 := Scalar.muli arg13 c256_i32
  let v17 : BitVec 32 := v16
  let v18 : Index := Scalar.indexCast v17
  let c0_12 : Index := 0#32
  ![0, v18.toNat, 0]
def k0_off3 (k0_t1 : Fin k0_t1_loop.trips) : Fin 2 → Nat :=
  let c0_i32_5 : BitVec 32 := 0#32
  let c1_i32_6 : BitVec 32 := 1#32
  let arg13 : BitVec 32 := Scf.iv c0_i32_5 c1_i32_6 k0_t1
  let c256_i32 : BitVec 32 := 256#32
  let v16 : BitVec 32 := Scalar.muli arg13 c256_i32
  let v17 : BitVec 32 := v16
  let v22 : Index := Scalar.indexCast v17
  let c0_13 : Index := 0#32
  ![v22.toNat, 0]
@[reducible] def k0_t2_loop : Scf.Loop 32 :=
  let c0_i32_8 : BitVec 32 := 0#32
  let c16_i32_9 : BitVec 32 := 16#32
  let v15 : BitVec 32 := Scalar.addi c0_i32_8 c16_i32_9
  let c1_i32_10 : BitVec 32 := 1#32
  ⟨c0_i32_8, v15, c1_i32_10⟩
def k0_mult2 (k0_t2 : Fin k0_t2_loop.trips) : BitVec 32 :=
  let c0_i32_8 : BitVec 32 := 0#32
  let c1_i32_10 : BitVec 32 := 1#32
  let arg13 : BitVec 32 := Scf.iv c0_i32_8 c1_i32_10 k0_t2
  let c256_i32 : BitVec 32 := 256#32
  let v16 : BitVec 32 := Scalar.muli arg13 c256_i32
  v16
def k0_off4 (k0_t2 : Fin k0_t2_loop.trips) : Fin 3 → Nat :=
  let c0 : Index := 0#32
  let c0_i32_8 : BitVec 32 := 0#32
  let c1_i32_10 : BitVec 32 := 1#32
  let arg13 : BitVec 32 := Scf.iv c0_i32_8 c1_i32_10 k0_t2
  let c256_i32 : BitVec 32 := 256#32
  let v16 : BitVec 32 := Scalar.muli arg13 c256_i32
  let v17 : BitVec 32 := v16
  let v18 : Index := Scalar.indexCast v17
  let c0_12 : Index := 0#32
  ![0, v18.toNat, 0]
def k0_off5 (k0_t2 : Fin k0_t2_loop.trips) : Fin 2 → Nat :=
  let c0_i32_8 : BitVec 32 := 0#32
  let c1_i32_10 : BitVec 32 := 1#32
  let arg13 : BitVec 32 := Scf.iv c0_i32_8 c1_i32_10 k0_t2
  let c256_i32 : BitVec 32 := 256#32
  let v16 : BitVec 32 := Scalar.muli arg13 c256_i32
  let v17 : BitVec 32 := v16
  let v22 : Index := Scalar.indexCast v17
  let c0_13 : Index := 0#32
  ![v22.toNat, 0]
def k0_cond2 (v1 : BitVec 32) : BitVec 1 :=
  let c1_i32 : BitVec 32 := 1#32
  let v6 : BitVec 32 := Scalar.andi v1 c1_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c4_i32 : BitVec 32 := 4#32
  let v10 : BitVec 32 := Scalar.andi v1 c4_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_3 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpReferenceIdeal.lean ====
abbrev S40960x2048 : Shape := ⟨2, ![40960, 2048]⟩
abbrev S32x4096x1024 : Shape := ⟨3, ![32, 4096, 1024]⟩
abbrev S160 : Shape := ⟨1, ![160]⟩
abbrev S_ : Shape := ⟨0, ![]⟩
abbrev S40960x4096 : Shape := ⟨2, ![40960, 4096]⟩
abbrev S160x256x4096 : Shape := ⟨3, ![160, 256, 4096]⟩
abbrev S160x1 : Shape := ⟨2, ![160, 1]⟩
abbrev S160x4096x1024 : Shape := ⟨3, ![160, 4096, 1024]⟩
abbrev S160x256x1024 : Shape := ⟨3, ![160, 256, 1024]⟩
abbrev S160x1x1 : Shape := ⟨3, ![160, 1, 1]⟩
abbrev S40960x1024 : Shape := ⟨2, ![40960, 1024]⟩
abbrev S40960x512 : Shape := ⟨2, ![40960, 512]⟩

abbrev nBuf : Space → Nat
  | .hbm => 62
  | .vmem => 0
  | .smem => 0
  | _ => 0

abbrev bufTy : (tb : Table) → Fin (tcTables nBuf tb) → BufTy
  | .hbm, ⟨0, _⟩ => ⟨S40960x2048, .i32⟩
  | .hbm, ⟨1, _⟩ => ⟨S32x4096x1024, .f32⟩
  | .hbm, ⟨2, _⟩ => ⟨S32x4096x1024, .f32⟩
  | .hbm, ⟨3, _⟩ => ⟨S160, .i32⟩
  | .hbm, ⟨4, _⟩ => ⟨S160, .i32⟩
  | .hbm, ⟨5, _⟩ => ⟨S160, .i32⟩
  | .hbm, ⟨6, _⟩ => ⟨S160, .i32⟩
  | .hbm, ⟨7, _⟩ => ⟨S160, .i32⟩
  | .hbm, ⟨8, _⟩ => ⟨S160, .i32⟩
  | .hbm, ⟨9, _⟩ => ⟨S160, .i32⟩
  | .hbm, ⟨10, _⟩ => ⟨S_, .i32⟩
  | .hbm, ⟨11, _⟩ => ⟨S40960x2048, .i32⟩
  | .hbm, ⟨12, _⟩ => ⟨S40960x2048, .i32⟩
  | .hbm, ⟨13, _⟩ => ⟨S40960x2048, .f32⟩
  | .hbm, ⟨14, _⟩ => ⟨S_, .i32⟩
  | .hbm, ⟨15, _⟩ => ⟨S40960x2048, .i32⟩
  | .hbm, ⟨16, _⟩ => ⟨S40960x2048, .i32⟩
  | .hbm, ⟨17, _⟩ => ⟨S40960x2048, .f32⟩
  | .hbm, ⟨18, _⟩ => ⟨S40960x4096, .f32⟩
  | .hbm, ⟨19, _⟩ => ⟨S160x256x4096, .f32⟩
  | .hbm, ⟨20, _⟩ => ⟨S_, .i32⟩
  | .hbm, ⟨21, _⟩ => ⟨S160, .i32⟩
  | .hbm, ⟨22, _⟩ => ⟨S160, .i1⟩
  | .hbm, ⟨23, _⟩ => ⟨S_, .i32⟩
  | .hbm, ⟨24, _⟩ => ⟨S160, .i32⟩
  | .hbm, ⟨25, _⟩ => ⟨S160, .i32⟩
  | .hbm, ⟨26, _⟩ => ⟨S160, .i32⟩
  | .hbm, ⟨27, _⟩ => ⟨S160x1, .i32⟩
  | .hbm, ⟨28, _⟩ => ⟨S160x4096x1024, .f32⟩
  | .hbm, ⟨29, _⟩ => ⟨S160x256x1024, .f32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S_, .i32⟩
  | .hbm, ⟨34, _⟩ => ⟨S160, .i32⟩
  | .hbm, ⟨35, _⟩ => ⟨S160, .i32⟩
  | .hbm, ⟨36, _⟩ => ⟨S160, .i32⟩
  | .hbm, ⟨37, _⟩ => ⟨S160x1, .i32⟩
  | .hbm, ⟨38, _⟩ => ⟨S160x4096x1024, .f32⟩
  | .hbm, ⟨39, _⟩ => ⟨S160x256x1024, .f32⟩
  | .hbm, ⟨40, _⟩ => ⟨S160x256x1024, .f32⟩
  | .hbm, ⟨41, _⟩ => ⟨S160x256x1024, .f32⟩
  | .hbm, ⟨42, _⟩ => ⟨S_, .f32⟩
  | .hbm, ⟨43, _⟩ => ⟨S160x256x1024, .f32⟩
  | .hbm, ⟨44, _⟩ => ⟨S160x256x1024, .f32⟩
  | .hbm, ⟨45, _⟩ => ⟨S_, .f32⟩
  | .hbm, ⟨46, _⟩ => ⟨S160x256x1024, .f32⟩
  | .hbm, ⟨47, _⟩ => ⟨S160x256x1024, .f32⟩
  | .hbm, ⟨48, _⟩ => ⟨S160x256x1024, .f32⟩
  | .hbm, ⟨49, _⟩ => ⟨S160x256x1024, .f32⟩
  | .hbm, ⟨50, _⟩ => ⟨S_, .i32⟩
  | .hbm, ⟨51, _⟩ => ⟨S160, .i32⟩
  | .hbm, ⟨52, _⟩ => ⟨S160, .i1⟩
  | .hbm, ⟨53, _⟩ => ⟨S160x1x1, .i1⟩
  | .hbm, ⟨54, _⟩ => ⟨S_, .f32⟩
  | .hbm, ⟨55, _⟩ => ⟨S_, .f32⟩
  | .hbm, ⟨56, _⟩ => ⟨S160x256x1024, .i1⟩
  | .hbm, ⟨57, _⟩ => ⟨S160x256x1024, .f32⟩
  | .hbm, ⟨58, _⟩ => ⟨S160x256x1024, .f32⟩
  | .hbm, ⟨59, _⟩ => ⟨S40960x1024, .f32⟩
  | .hbm, ⟨60, _⟩ => ⟨S40960x512, .f32⟩
  | .hbm, ⟨61, _⟩ => ⟨S40960x512, .bf16⟩
  | _, _ => ⟨S40960x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩

abbrev nD : Nat := 1
abbrev τ : Topo := Topo.v7x

variable {F : FTy → Type} [FloatOps F]
-- ==== Proof.ConvA.lean ====
/- What the shifted scratch of the convolution mixer holds: copy `r` of it is the block with its halo, read `r` rows
   further down. -/
module

public import proofs.«01_k».proof.Proof.Gen.ConvKernelIdeal.Value
public import Idealize.ShloMosaic.Lib.Pipeline.ValueKit

@[expose] public section

set_option maxRecDepth 16384

noncomputable section

namespace Cert.Proof.Conv

open Cert.ConvKernelIdeal Cert.ConvKernelIdeal.Gen Idealize.ShloMosaic Idealize.ShloMosaic.TcCoe Idealize.SL.Sem

/-- Row `r` and lane `l` of the block with its halo of 32 rows in front: the halo is zero in a sequence's first block. -/
def E (i : grid0.Coords) (x0 : Vec Ideal S1x128x2048 .f32) (x1 : Vec Ideal S1x32x2048 .f32) (r l : ℕ) : EReal :=
  if hl : l < 2048 then
    if h : r < 32 then (if 0 < (i 1).val then (x1 (ix3 0 ⟨r, h⟩ ⟨l, hl⟩) : EReal) else 0)
    else if h' : r < 160 then x0 (ix3 0 ⟨r - 32, by omega⟩ ⟨l, hl⟩) else 0
  else 0

/-- What an element of the scratch should hold. -/
def EXT (i : grid0.Coords) (x0 : Vec Ideal S1x128x2048 .f32) (x1 : Vec Ideal S1x32x2048 .f32) (y : S8x160x2048.Idx) : EReal :=
  E i x0 x1 ((y 0 : ℕ) + (y 1 : ℕ)) (y 2 : ℕ)

/-- After the first `n` shifted copies (four lane chunks, seven shifts each) the scratch holds `EXT` where written. -/
def Holds (i : grid0.Coords) (x0 : Vec Ideal S1x128x2048 .f32) (x1 : Vec Ideal S1x32x2048 .f32) (n : ℕ)
    (L : List (View.Piece (Elt Ideal) S8x160x2048 .f32)) : Prop :=
  ∀ y : S8x160x2048.Idx, ((y 0 : ℕ) = 0 ∨ ((y 1 : ℕ) < 152 ∧ (y 2 : ℕ) / 512 * 7 + (y 0 : ℕ) < n + 1)) →
    View.canon L y = EXT i x0 x1 y

/-- One more shifted copy. -/
theorem holds_step {i : grid0.Coords} {x0 : Vec Ideal S1x128x2048 .f32} {x1 : Vec Ideal S1x32x2048 .f32} {n : ℕ}
    {L : List (View.Piece (Elt Ideal) S8x160x2048 .f32)} (h : Holds i x0 x1 n L) (off : Fin 3 → ℕ)
    (inb : ∀ a, off a + S1x152x512.size a ≤ S8x160x2048.size a) (w : S1x152x512.Idx → Elt Ideal .f32)
    (r q : ℕ) (hr : 1 ≤ r ∧ r < 8) (hq : q < 4) (h0 : off 0 = r) (h1 : off 1 = 0) (h2 : off 2 = 512 * q) (hn : n + 1 = q * 7 + r)
    (hw : ∀ (x : S1x152x512.Idx) (y : S8x160x2048.Idx), (y 0 : ℕ) = 0 → (y 1 : ℕ) = r + (x 1 : ℕ) → (y 2 : ℕ) = 512 * q + (x 2 : ℕ) →
      w x = View.canon L y) :
    Holds i x0 x1 (n + 1) (⟨Rect.unit (s := S8x160x2048) off S1x152x512.size inb, w⟩ :: L) := by
  intro y hy
  by_cases hm : y ∈ (Rect.unit (s := S8x160x2048) off S1x152x512.size inb).set
  · obtain ⟨x, rfl⟩ := (Rect.unit (s := S8x160x2048) off S1x152x512.size inb).exists_idx_of_mem hm
    have e0 : (((Rect.unit (s := S8x160x2048) off S1x152x512.size inb).emb x 0 : Fin _) : ℕ) = off 0 + (x 0 : ℕ) := ValueKit.rect_emb_unit_val off _ inb x 0
    have e1 : (((Rect.unit (s := S8x160x2048) off S1x152x512.size inb).emb x 1 : Fin _) : ℕ) = off 1 + (x 1 : ℕ) := ValueKit.rect_emb_unit_val off _ inb x 1
    have e2 : (((Rect.unit (s := S8x160x2048) off S1x152x512.size inb).emb x 2 : Fin _) : ℕ) = off 2 + (x 2 : ℕ) := ValueKit.rect_emb_unit_val off _ inb x 2
    have l0 : (x 0 : ℕ) < 1 := (x 0).isLt
    have l1 : (x 1 : ℕ) < 152 := (x 1).isLt
    have l2 : (x 2 : ℕ) < 512 := (x 2).isLt
    refine (View.canon_cons_emb _ _ _ _).trans ?_
    rw [hw x (ix3 (0 : Fin 8) (⟨r + (x 1 : ℕ), by omega⟩ : Fin 160) (⟨512 * q + (x 2 : ℕ), by omega⟩ : Fin 2048)) rfl rfl rfl, h _ (Or.inl rfl)]
    show E i x0 x1 (0 + (r + (x 1 : ℕ))) (512 * q + (x 2 : ℕ)) = E i x0 x1 (((Rect.unit (s := S8x160x2048) off S1x152x512.size inb).emb x 0 : ℕ) + ((Rect.unit (s := S8x160x2048) off S1x152x512.size inb).emb x 1 : ℕ)) ((Rect.unit (s := S8x160x2048) off S1x152x512.size inb).emb x 2 : ℕ)
    rw [e0, e1, e2]
    congr 1 <;> omega
  · refine (View.canon_cons_of_not_mem _ L hm).trans (h y ?_)
    rw [Rect.mem_set_unit] at hm
    rcases hy with hy | ⟨hy1, hy2⟩
    · exact Or.inl hy
    · refine or_iff_not_imp_left.mpr fun hne => ⟨hy1, ?_⟩
      by_contra hc
      have l0 : (y 0 : ℕ) < 8 := (y 0).isLt
      have l2 : (y 2 : ℕ) < 2048 := (y 2).isLt
      refine hm fun a => ?_
      match a with
      | ⟨0, _⟩ => exact ⟨by show off 0 ≤ (y 0 : ℕ); omega, by show (y 0 : ℕ) < off 0 + 1; omega⟩
      | ⟨1, _⟩ => exact ⟨by show off 1 ≤ (y 1 : ℕ); omega, by show (y 1 : ℕ) < off 1 + 152; omega⟩
      | ⟨2, _⟩ => exact ⟨by show off 2 ≤ (y 2 : ℕ); omega, by show (y 2 : ℕ) < off 2 + 512; omega⟩

/-- A copy shifted by `r` rows, as loaded from copy 0 and reshaped there and back, at an element. -/
theorem pay_step (arg9 : Memref sig .tc .vmem S8x160x2048 .f32) (L : List (View.Piece (Elt Ideal) S8x160x2048 .f32)) (off : Fin 3 → ℕ)
    (inb : ∀ a, off a + S1x152x512.size a ≤ S8x160x2048.size a) (r q : ℕ) (h0 : off 0 = 0) (h1 : off 1 = r) (h2 : off 2 = 512 * q)
    (x : S1x152x512.Idx) (y : S8x160x2048.Idx) (e0 : (y 0 : ℕ) = 0)
    (e1 : (y 1 : ℕ) = r + (x 1 : ℕ)) (e2 : (y 2 : ℕ) = 512 * q + (x 2 : ℕ)) :
    shapeCast S1x152x512 (shapeCast S152x512 (arg9.view.readCov L (Rect.unit (s := S8x160x2048) off S1x152x512.size inb).toLoadRect : FVec Ideal S1x152x512 .f32) shapeCasts_S1x152x512_S152x512) shapeCasts_S152x512_S1x152x512 x
      = View.canon L y := by
  rw [View.readCov_eq_canon']
  obtain ⟨a, b, d, rfl⟩ : ∃ (a : Fin 1) (b : Fin 152) (d : Fin 512), x = ix3 a b d := ⟨x 0, x 1, x 2, by blk_ext []⟩
  pointwise
  congr 1
  change (y 1 : ℕ) = r + (b : ℕ) at e1
  change (y 2 : ℕ) = 512 * q + (d : ℕ) at e2
  funext k
  match k with
  | ⟨0, _⟩ => exact Fin.ext (h0.trans e0.symm)
  | ⟨1, _⟩ => exact Fin.ext (by show off 1 + (b : ℕ) = (y 1 : ℕ); omega)
  | ⟨2, _⟩ => exact Fin.ext (by show off 2 + (d : ℕ) = (y 2 : ℕ); omega)

/-- The test for a sequence's first block, as the kernel computes it. -/
theorem sgt_iff : ∀ n : Fin 32, Scalar.cmpi .sgt (BitVec.ofNat 32 n.val) 0#32 = if 0 < n.val then 1#1 else 0#1 := by decide +kernel

/-- Copy 0: the halo and the block behind it. -/
theorem holds0 (c : Dev nD) (i : grid0.Coords) (arg2 : Memref sig .tc .vmem S1x128x2048 .f32) (harg2 : arg2.IsWhole) (arg3 : Memref sig .tc .vmem S1x32x2048 .f32) (harg3 : arg3.IsWhole)
    (x0 : Vec Ideal S1x128x2048 .f32) (x1 : Vec Ideal S1x32x2048 .f32) : Holds i x0 x1 0 (kernelRun0_A.sl.HS0_2 c i arg2 harg2 arg3 harg3 x0 x1) := by
  intro y hy
  have l0 : (y 0 : ℕ) < 8 := (y 0).isLt
  have l1 : (y 1 : ℕ) < 160 := (y 1).isLt
  have l2 : (y 2 : ℕ) < 2048 := (y 2).isLt
  have y0 : (y 0 : ℕ) = 0 := by omega
  have yr : (y 0 : ℕ) + (y 1 : ℕ) = (y 1 : ℕ) := by omega
  unfold kernelRun0_A.sl.HS0_2
  by_cases hm : (y 1 : ℕ) < 32
  · have e : y = (Rect.unit (s := S8x160x2048) ![0, 0, 0] S1x32x2048.size inb_S8x160x2048_S1x32x2048_0_0_0).emb (ix3 0 ⟨(y 1 : ℕ), hm⟩ ⟨(y 2 : ℕ), l2⟩) := by blk_ext []
    rw [View.canon_cons_of_not_mem _ _ (by rw [Rect.mem_set_unit]; intro h; have := (h 1).1; change 32 ≤ (y 1 : ℕ) at this; omega)]
    conv_lhs => rw [e]
    refine (View.canon_cons_emb _ _ _ _).trans ?_
    pointwise [k0_pay3]
    rw [(sgt_iff ⟨(i 1).val, (i 1).isLt⟩ : Scalar.cmpi .sgt (BitVec.ofNat 32 (i 1).val) 0#32 = _), EXT, yr]
    unfold E
    rw [dif_pos l2, dif_pos hm]
    by_cases hi : 0 < (i 1).val
    · rw [if_pos hi, if_pos hi]
      refine (congrFun (harg3.read_unread x1) _).trans (congrArg x1 ?_)
      funext k
      match k with
      | ⟨0, _⟩ => exact Fin.ext ((Rect.idx_unit_val _ _ _ _ _).trans (Nat.zero_add _))
      | ⟨1, _⟩ => exact Fin.ext ((Rect.idx_unit_val _ _ _ _ _).trans (Nat.zero_add _))
      | ⟨2, _⟩ => exact Fin.ext ((Rect.idx_unit_val _ _ _ _ _).trans (Nat.zero_add _))
    · rw [if_neg hi, if_neg hi]
      rfl
  · have e : y = (Rect.unit (s := S8x160x2048) ![0, 32, 0] S1x128x2048.size inb_S8x160x2048_S1x128x2048_0_32_0).emb (ix3 0 ⟨(y 1 : ℕ) - 32, by omega⟩ ⟨(y 2 : ℕ), l2⟩) := by blk_ext []
    conv_lhs => rw [e]
    refine (View.canon_cons_emb _ _ _ _).trans ?_
    pointwise [k0_pay4]
    rw [EXT, yr]
    unfold E
    rw [dif_pos l2, dif_neg hm, dif_pos l1]
    refine (congrFun (harg2.read_unread x0) _).trans (congrArg x0 ?_)
    funext k
    match k with
    | ⟨0, _⟩ => exact Fin.ext ((Rect.idx_unit_val _ _ _ _ _).trans (Nat.zero_add _))
    | ⟨1, _⟩ => exact Fin.ext ((Rect.idx_unit_val _ _ _ _ _).trans (Nat.zero_add _))
    | ⟨2, _⟩ => exact Fin.ext ((Rect.idx_unit_val _ _ _ _ _).trans (Nat.zero_add _))

/-- Lane chunk 0, shift 1. -/
theorem holds1 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 1 (kernelRun0_A.sl.HS0_3 c i arg2 harg2 arg3 harg3 arg9 x0 x1) :=
  holds_step (holds0 c i arg2 harg2 arg3 harg3 x0 x1) ![1, 0, 0] _ _ 1 0 (by decide) (by decide) rfl rfl rfl rfl
    (pay_step arg9 _ ![0, 1, 0] _ 1 0 rfl rfl rfl)

/-- Lane chunk 0, shift 2. -/
theorem holds2 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 2 (kernelRun0_A.sl.HS0_4 c i arg2 harg2 arg3 harg3 arg9 x0 x1) :=
  holds_step (holds1 c i arg2 harg2 arg3 harg3 arg9 x0 x1) ![2, 0, 0] _ _ 2 0 (by decide) (by decide) rfl rfl rfl rfl
    (pay_step arg9 _ ![0, 2, 0] _ 2 0 rfl rfl rfl)

/-- Lane chunk 0, shift 3. -/
theorem holds3 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 3 (kernelRun0_A.sl.HS0_5 c i arg2 harg2 arg3 harg3 arg9 x0 x1) :=
  holds_step (holds2 c i arg2 harg2 arg3 harg3 arg9 x0 x1) ![3, 0, 0] _ _ 3 0 (by decide) (by decide) rfl rfl rfl rfl
    (pay_step arg9 _ ![0, 3, 0] _ 3 0 rfl rfl rfl)

/-- Lane chunk 0, shift 4. -/
theorem holds4 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 4 (kernelRun0_A.sl.HS0_6 c i arg2 harg2 arg3 harg3 arg9 x0 x1) :=
  holds_step (holds3 c i arg2 harg2 arg3 harg3 arg9 x0 x1) ![4, 0, 0] _ _ 4 0 (by decide) (by decide) rfl rfl rfl rfl
    (pay_step arg9 _ ![0, 4, 0] _ 4 0 rfl rfl rfl)

/-- Lane chunk 0, shift 5. -/
theorem holds5 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 5 (kernelRun0_A.sl.HS0_7 c i arg2 harg2 arg3 harg3 arg9 x0 x1) :=
  holds_step (holds4 c i arg2 harg2 arg3 harg3 arg9 x0 x1) ![5, 0, 0] _ _ 5 0 (by decide) (by decide) rfl rfl rfl rfl
    (pay_step arg9 _ ![0, 5, 0] _ 5 0 rfl rfl rfl)

/-- Lane chunk 0, shift 6. -/
theorem holds6 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 6 (kernelRun0_A.sl.HS0_8 c i arg2 harg2 arg3 harg3 arg9 x0 x1) :=
  holds_step (holds5 c i arg2 harg2 arg3 harg3 arg9 x0 x1) ![6, 0, 0] _ _ 6 0 (by decide) (by decide) rfl rfl rfl rfl
    (pay_step arg9 _ ![0, 6, 0] _ 6 0 rfl rfl rfl)

/-- Lane chunk 0, shift 7. -/
theorem holds7 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 7 (kernelRun0_A.sl.HS0_9 c i arg2 harg2 arg3 harg3 arg9 x0 x1) :=
  holds_step (holds6 c i arg2 harg2 arg3 harg3 arg9 x0 x1) ![7, 0, 0] _ _ 7 0 (by decide) (by decide) rfl rfl rfl rfl
    (pay_step arg9 _ ![0, 7, 0] _ 7 0 rfl rfl rfl)

/-- Lane chunk 1, shift 1. -/
theorem holds8 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 8 (kernelRun0_A.sl.HS0_10 c i arg2 harg2 arg3 harg3 arg9 x0 x1) :=
  holds_step (holds7 c i arg2 harg2 arg3 harg3 arg9 x0 x1) ![1, 0, 512] _ _ 1 1 (by decide) (by decide) rfl rfl rfl rfl
    (pay_step arg9 _ ![0, 1, 512] _ 1 1 rfl rfl rfl)

/-- Lane chunk 1, shift 2. -/
theorem holds9 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 9 (kernelRun0_A.sl.HS0_11 c i arg2 harg2 arg3 harg3 arg9 x0 x1) :=
  holds_step (holds8 c i arg2 harg2 arg3 harg3 arg9 x0 x1) ![2, 0, 512] _ _ 2 1 (by decide) (by decide) rfl rfl rfl rfl
    (pay_step arg9 _ ![0, 2, 512] _ 2 1 rfl rfl rfl)

/-- Lane chunk 1, shift 3. -/
theorem holds10 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 10 (kernelRun0_A.sl.HS0_12 c i arg2 harg2 arg3 harg3 arg9 x0 x1) :=
  holds_step (holds9 c i arg2 harg2 arg3 harg3 arg9 x0 x1) ![3, 0, 512] _ _ 3 1 (by decide) (by decide) rfl rfl rfl rfl
    (pay_step arg9 _ ![0, 3, 512] _ 3 1 rfl rfl rfl)

/-- Lane chunk 1, shift 4. -/
theorem holds11 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 11 (kernelRun0_A.sl.HS0_13 c i arg2 harg2 arg3 harg3 arg9 x0 x1) :=
  holds_step (holds10 c i arg2 harg2 arg3 harg3 arg9 x0 x1) ![4, 0, 512] _ _ 4 1 (by decide) (by decide) rfl rfl rfl rfl
    (pay_step arg9 _ ![0, 4, 512] _ 4 1 rfl rfl rfl)

/-- Lane chunk 1, shift 5. -/
theorem holds12 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 12 (kernelRun0_A.sl.HS0_14 c i arg2 harg2 arg3 harg3 arg9 x0 x1) :=
  holds_step (holds11 c i arg2 harg2 arg3 harg3 arg9 x0 x1) ![5, 0, 512] _ _ 5 1 (by decide) (by decide) rfl rfl rfl rfl
    (pay_step arg9 _ ![0, 5, 512] _ 5 1 rfl rfl rfl)

/-- Lane chunk 1, shift 6. -/
theorem holds13 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 13 (kernelRun0_A.sl.HS0_15 c i arg2 harg2 arg3 harg3 arg9 x0 x1) :=
  holds_step (holds12 c i arg2 harg2 arg3 harg3 arg9 x0 x1) ![6, 0, 512] _ _ 6 1 (by decide) (by decide) rfl rfl rfl rfl
    (pay_step arg9 _ ![0, 6, 512] _ 6 1 rfl rfl rfl)

/-- Lane chunk 1, shift 7. -/
theorem holds14 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 14 (kernelRun0_A.sl.HS0_16 c i arg2 harg2 arg3 harg3 arg9 x0 x1) :=
  holds_step (holds13 c i arg2 harg2 arg3 harg3 arg9 x0 x1) ![7, 0, 512] _ _ 7 1 (by decide) (by decide) rfl rfl rfl rfl
    (pay_step arg9 _ ![0, 7, 512] _ 7 1 rfl rfl rfl)

/-- Lane chunk 2, shift 1. -/
theorem holds15 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 15 (kernelRun0_A.sl.HS0_17 c i arg2 harg2 arg3 harg3 arg9 x0 x1) :=
  holds_step (holds14 c i arg2 harg2 arg3 harg3 arg9 x0 x1) ![1, 0, 1024] _ _ 1 2 (by decide) (by decide) rfl rfl rfl rfl
    (pay_step arg9 _ ![0, 1, 1024] _ 1 2 rfl rfl rfl)

/-- Lane chunk 2, shift 2. -/
theorem holds16 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 16 (kernelRun0_A.sl.HS0_18 c i arg2 harg2 arg3 harg3 arg9 x0 x1) :=
  holds_step (holds15 c i arg2 harg2 arg3 harg3 arg9 x0 x1) ![2, 0, 1024] _ _ 2 2 (by decide) (by decide) rfl rfl rfl rfl
    (pay_step arg9 _ ![0, 2, 1024] _ 2 2 rfl rfl rfl)

/-- Lane chunk 2, shift 3. -/
theorem holds17 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 17 (kernelRun0_A.sl.HS0_19 c i arg2 harg2 arg3 harg3 arg9 x0 x1) :=
  holds_step (holds16 c i arg2 harg2 arg3 harg3 arg9 x0 x1) ![3, 0, 1024] _ _ 3 2 (by decide) (by decide) rfl rfl rfl rfl
    (pay_step arg9 _ ![0, 3, 1024] _ 3 2 rfl rfl rfl)

/-- Lane chunk 2, shift 4. -/
theorem holds18 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 18 (kernelRun0_A.sl.HS0_20 c i arg2 harg2 arg3 harg3 arg9 x0 x1) :=
  holds_step (holds17 c i arg2 harg2 arg3 harg3 arg9 x0 x1) ![4, 0, 1024] _ _ 4 2 (by decide) (by decide) rfl rfl rfl rfl
    (pay_step arg9 _ ![0, 4, 1024] _ 4 2 rfl rfl rfl)

/-- Lane chunk 2, shift 5. -/
theorem holds19 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 19 (kernelRun0_A.sl.HS0_21 c i arg2 harg2 arg3 harg3 arg9 x0 x1) :=
  holds_step (holds18 c i arg2 harg2 arg3 harg3 arg9 x0 x1) ![5, 0, 1024] _ _ 5 2 (by decide) (by decide) rfl rfl rfl rfl
    (pay_step arg9 _ ![0, 5, 1024] _ 5 2 rfl rfl rfl)

/-- Lane chunk 2, shift 6. -/
theorem holds20 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 20 (kernelRun0_A.sl.HS0_22 c i arg2 harg2 arg3 harg3 arg9 x0 x1) :=
  holds_step (holds19 c i arg2 harg2 arg3 harg3 arg9 x0 x1) ![6, 0, 1024] _ _ 6 2 (by decide) (by decide) rfl rfl rfl rfl
    (pay_step arg9 _ ![0, 6, 1024] _ 6 2 rfl rfl rfl)

/-- Lane chunk 2, shift 7. -/
theorem holds21 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 21 (kernelRun0_A.sl.HS0_23 c i arg2 harg2 arg3 harg3 arg9 x0 x1) :=
  holds_step (holds20 c i arg2 harg2 arg3 harg3 arg9 x0 x1) ![7, 0, 1024] _ _ 7 2 (by decide) (by decide) rfl rfl rfl rfl
    (pay_step arg9 _ ![0, 7, 1024] _ 7 2 rfl rfl rfl)

/-- Lane chunk 3, shift 1. -/
theorem holds22 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 22 (kernelRun0_A.sl.HS0_24 c i arg2 harg2 arg3 harg3 arg9 x0 x1) :=
  holds_step (holds21 c i arg2 harg2 arg3 harg3 arg9 x0 x1) ![1, 0, 1536] _ _ 1 3 (by decide) (by decide) rfl rfl rfl rfl
    (pay_step arg9 _ ![0, 1, 1536] _ 1 3 rfl rfl rfl)

/-- Lane chunk 3, shift 2. -/
theorem holds23 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 23 (kernelRun0_A.sl.HS0_25 c i arg2 harg2 arg3 harg3 arg9 x0 x1) :=
  holds_step (holds22 c i arg2 harg2 arg3 harg3 arg9 x0 x1) ![2, 0, 1536] _ _ 2 3 (by decide) (by decide) rfl rfl rfl rfl
    (pay_step arg9 _ ![0, 2, 1536] _ 2 3 rfl rfl rfl)

/-- Lane chunk 3, shift 3. -/
theorem holds24 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 24 (kernelRun0_A.sl.HS0_26 c i arg2 harg2 arg3 harg3 arg9 x0 x1) :=
  holds_step (holds23 c i arg2 harg2 arg3 harg3 arg9 x0 x1) ![3, 0, 1536] _ _ 3 3 (by decide) (by decide) rfl rfl rfl rfl
    (pay_step arg9 _ ![0, 3, 1536] _ 3 3 rfl rfl rfl)

/-- Lane chunk 3, shift 4. -/
theorem holds25 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 25 (kernelRun0_A.sl.HS0_27 c i arg2 harg2 arg3 harg3 arg9 x0 x1) :=
  holds_step (holds24 c i arg2 harg2 arg3 harg3 arg9 x0 x1) ![4, 0, 1536] _ _ 4 3 (by decide) (by decide) rfl rfl rfl rfl
    (pay_step arg9 _ ![0, 4, 1536] _ 4 3 rfl rfl rfl)

/-- Lane chunk 3, shift 5. -/
theorem holds26 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 26 (kernelRun0_A.sl.HS0_28 c i arg2 harg2 arg3 harg3 arg9 x0 x1) :=
  holds_step (holds25 c i arg2 harg2 arg3 harg3 arg9 x0 x1) ![5, 0, 1536] _ _ 5 3 (by decide) (by decide) rfl rfl rfl rfl
    (pay_step arg9 _ ![0, 5, 1536] _ 5 3 rfl rfl rfl)

/-- Lane chunk 3, shift 6. -/
theorem holds27 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 27 (kernelRun0_A.sl.HS0_29 c i arg2 harg2 arg3 harg3 arg9 x0 x1) :=
  holds_step (holds26 c i arg2 harg2 arg3 harg3 arg9 x0 x1) ![6, 0, 1536] _ _ 6 3 (by decide) (by decide) rfl rfl rfl rfl
    (pay_step arg9 _ ![0, 6, 1536] _ 6 3 rfl rfl rfl)

/-- Lane chunk 3, shift 7. -/
theorem holds28 (c : Dev nD) (i : grid0.Coords) (arg2 : Memref sig .tc .vmem S1x128x2048 .f32) (harg2 : arg2.IsWhole) (arg3 : Memref sig .tc .vmem S1x32x2048 .f32) (harg3 : arg3.IsWhole)
    (arg9 : Memref sig .tc .vmem S8x160x2048 .f32) (x0 : Vec Ideal S1x128x2048 .f32) (x1 : Vec Ideal S1x32x2048 .f32) :
    Holds i x0 x1 28 (kernelRun0_A.sl.HS0_30 c i arg2 harg2 arg3 harg3 arg9 x0 x1) :=
  holds_step (holds27 c i arg2 harg2 arg3 harg3 arg9 x0 x1) ![7, 0, 1536] _ _ 7 3 (by decide) (by decide) rfl rfl rfl rfl
    (pay_step arg9 _ ![0, 7, 1536] _ 7 3 rfl rfl rfl)

end Cert.Proof.Conv

end
-- ==== Proof.ConvB.lean ====
/- The convolution's 31 products and sums, chunk by chunk of 32 rows and 512 lanes. -/
module

public import proofs.«01_k».proof.Proof.ConvA

@[expose] public section

set_option maxRecDepth 65536

noncomputable section

namespace Cert.Proof.Conv

open Cert.ConvKernelIdeal Cert.ConvKernelIdeal.Gen Cert.ConvKernelIdeal.Gen.kernelRun0_A.sl Idealize.ShloMosaic Idealize.ShloMosaic.TcCoe Idealize.SL.Sem

/-- Tap `j` of lane `l`. -/
def Wt (x2 : Vec Ideal S31x2048 .f32) (j l : ℕ) : EReal := if h : j < 31 ∧ l < 2048 then x2 (ix2 ⟨j, h.1⟩ ⟨l, h.2⟩) else 0

/-- The bias of lane `l`. -/
def Bi (x3 : Vec Ideal S1x2048 .f32) (l : ℕ) : EReal := if h : l < 2048 then x3 (ix2 0 ⟨l, h⟩) else 0

/-- The sum of the first `n` products. -/
def ACC (i : grid0.Coords) (x0 : Vec Ideal S1x128x2048 .f32) (x1 : Vec Ideal S1x32x2048 .f32) (x2 : Vec Ideal S31x2048 .f32) (r l : ℕ) : ℕ → EReal
  | 0 => 0
  | n + 1 => ACC i x0 x1 x2 r l n + E i x0 x1 (r + 2 + n) l * Wt x2 n l

/-- Row `r` and lane `l` of the block's convolution. -/
def CONV (i : grid0.Coords) (x0 : Vec Ideal S1x128x2048 .f32) (x1 : Vec Ideal S1x32x2048 .f32) (x2 : Vec Ideal S31x2048 .f32) (x3 : Vec Ideal S1x2048 .f32) (r l : ℕ) : EReal :=
  ACC i x0 x1 x2 r l 31 + Bi x3 l

/-- One more product. -/
theorem stp {i : grid0.Coords} {x0 : Vec Ideal S1x128x2048 .f32} {x1 : Vec Ideal S1x32x2048 .f32} {x2 : Vec Ideal S31x2048 .f32} {r l n : ℕ} {s e w : EReal}
    (hs : s = ACC i x0 x1 x2 r l n) (he : e = E i x0 x1 (r + 2 + n) l) (hw : w = Wt x2 n l) : s + e * w = ACC i x0 x1 x2 r l (n + 1) := by
  rw [hs, he, hw]; rfl

/-- The first product. -/
theorem stp1 {i : grid0.Coords} {x0 : Vec Ideal S1x128x2048 .f32} {x1 : Vec Ideal S1x32x2048 .f32} {x2 : Vec Ideal S31x2048 .f32} {r l : ℕ} {e w : EReal}
    (he : e = E i x0 x1 (r + 2 + 0) l) (hw : w = Wt x2 0 l) : e * w = ACC i x0 x1 x2 r l 1 :=
  (zero_add _).symm.trans (stp (n := 0) rfl he hw)

/-- A load of the finished scratch. -/
theorem rdE {i : grid0.Coords} {x0 : Vec Ideal S1x128x2048 .f32} {x1 : Vec Ideal S1x32x2048 .f32} {L : List (View.Piece (Elt Ideal) S8x160x2048 .f32)}
    (h : Holds i x0 x1 28 L) (arg9 : Memref sig .tc .vmem S8x160x2048 .f32) (o0 o1 o2 : ℕ)
    (inb : ∀ a, (![o0, o1, o2] : Fin 3 → ℕ) a + S1x32x512.size a ≤ S8x160x2048.size a) (ho : o1 + 32 ≤ 152 ∨ o0 = 0) (a : Fin 32) (b : Fin 512) (R l : ℕ)
    (hR : o0 + (o1 + (a : ℕ)) = R) (hl : o2 + (b : ℕ) = l) :
    (arg9.view.readCov L (Rect.unit (s := S8x160x2048) ![o0, o1, o2] S1x32x512.size inb).toLoadRect : Vec Ideal S1x32x512 .f32) (ix3 0 a b) = E i x0 x1 R l := by
  rw [View.readCov_eq_canon']
  have i0 : o0 + 1 ≤ 8 := inb 0
  have i2 : o2 + 512 ≤ 2048 := inb 2
  have hb : (b : ℕ) < 512 := b.isLt
  have ha : (a : ℕ) < 32 := a.isLt
  refine (h _ ?_).trans ?_
  · rcases ho with ho | ho
    · refine or_iff_not_imp_left.mpr fun _ => ⟨?_, ?_⟩
      · show o1 + 1 * (a : ℕ) < 152; omega
      · show (o2 + 1 * (b : ℕ)) / 512 * 7 + (o0 + 1 * 0) < 28 + 1; omega
    · left; show o0 + 1 * 0 = 0; omega
  · show E i x0 x1 ((o0 + 1 * 0) + (o1 + 1 * (a : ℕ))) (o2 + 1 * (b : ℕ)) = _
    congr 1 <;> omega

/-- A load of a tap's row of 512 lanes. -/
theorem rdW (arg4 : Memref sig .tc .vmem S31x2048 .f32) (harg4 : arg4.IsWhole) (x2 : Vec Ideal S31x2048 .f32) (o0 o1 : ℕ)
    (inb : ∀ a, (![o0, o1] : Fin 2 → ℕ) a + S1x512.size a ≤ S31x2048.size a) (b : Fin 512) (l : ℕ) (hl : o1 + (b : ℕ) = l) :
    (View.readAt (Elt Ideal) arg4.view (Rect.unit (s := S31x2048) ![o0, o1] S1x512.size inb).toLoadRect (harg4.unread x2) : Vec Ideal S1x512 .f32) (ix2 0 b) = Wt x2 o0 l := by
  have i0 : o0 + 1 ≤ 31 := inb 0
  have i1 : o1 + 512 ≤ 2048 := inb 1
  have hb : (b : ℕ) < 512 := b.isLt
  unfold Wt
  rw [dif_pos ⟨by omega, by omega⟩]
  refine (congrFun (harg4.read_unread x2) _).trans (congrArg x2 ?_)
  funext k
  match k with
  | ⟨0, _⟩ => exact Fin.ext (by show o0 + 1 * 0 = o0; omega)
  | ⟨1, _⟩ => exact Fin.ext (by show o1 + 1 * (b : ℕ) = l; omega)

/-- A load of the bias's 512 lanes. -/
theorem rdB (arg5 : Memref sig .tc .vmem S1x2048 .f32) (harg5 : arg5.IsWhole) (x3 : Vec Ideal S1x2048 .f32) (o1 : ℕ)
    (inb : ∀ a, (![0, o1] : Fin 2 → ℕ) a + S1x512.size a ≤ S1x2048.size a) (b : Fin 512) (l : ℕ) (hl : o1 + (b : ℕ) = l) :
    (View.readAt (Elt Ideal) arg5.view (Rect.unit (s := S1x2048) ![0, o1] S1x512.size inb).toLoadRect (harg5.unread x3) : Vec Ideal S1x512 .f32) (ix2 0 b) = Bi x3 l := by
  have i1 : o1 + 512 ≤ 2048 := inb 1
  have hb : (b : ℕ) < 512 := b.isLt
  unfold Bi
  rw [dif_pos (by omega)]
  refine (congrFun (harg5.read_unread x3) _).trans (congrArg x3 ?_)
  funext k
  match k with
  | ⟨0, _⟩ => exact Fin.ext (by show 0 + 1 * 0 = 0; omega)
  | ⟨1, _⟩ => exact Fin.ext (by show o1 + 1 * (b : ℕ) = l; omega)

/-- What the convolved block holds. -/
def CV (i : grid0.Coords) (x0 : Vec Ideal S1x128x2048 .f32) (x1 : Vec Ideal S1x32x2048 .f32) (x2 : Vec Ideal S31x2048 .f32) (x3 : Vec Ideal S1x2048 .f32) (y : S128x2048.Idx) : Elt Ideal .f32 :=
  CONV i x0 x1 x2 x3 (y 0 : ℕ) (y 1 : ℕ)

variable (c : Dev nD) (i : grid0.Coords) (arg2 : Memref sig .tc .vmem S1x128x2048 .f32) (harg2 : arg2.IsWhole) (arg3 : Memref sig .tc .vmem S1x32x2048 .f32) (harg3 : arg3.IsWhole)
    (arg4 : Memref sig .tc .vmem S31x2048 .f32) (harg4 : arg4.IsWhole) (arg5 : Memref sig .tc .vmem S1x2048 .f32) (harg5 : arg5.IsWhole) (arg9 : Memref sig .tc .vmem S8x160x2048 .f32)
    (x0 : Vec Ideal S1x128x2048 .f32) (x1 : Vec Ideal S1x32x2048 .f32) (x2 : Vec Ideal S31x2048 .f32) (x3 : Vec Ideal S1x2048 .f32)

/-- The chunk of rows 32 … 63 and lanes 1536 … 2047. -/
theorem piece8 :
    ∀ p, (kernelRun0_A.sl.HS1_16 c i arg2 harg2 arg3 harg3 arg4 harg4 arg5 harg5 arg9 x0 x1 x2 x3)[8]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![32, 1536] S32x512.size inb_S128x2048_S32x512_32_1536).emb (ix2 a b)) = CONV i x0 x1 x2 x3 (32 + (a : ℕ)) (1536 + (b : ℕ)) := by
    show CONV i x0 x1 x2 x3 (32 + 1 * (a : ℕ)) (1536 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (32 + (a : ℕ)) (1536 + (b : ℕ))
  unfold CONV
  refine congrArg₂ (· + ·) ?_ (rdB arg5 harg5 x3 1536 _ b (1536 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 32 … 63 and lanes 1024 … 1535. -/
theorem piece9 :
    ∀ p, (kernelRun0_A.sl.HS1_16 c i arg2 harg2 arg3 harg3 arg4 harg4 arg5 harg5 arg9 x0 x1 x2 x3)[9]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![32, 1024] S32x512.size inb_S128x2048_S32x512_32_1024).emb (ix2 a b)) = CONV i x0 x1 x2 x3 (32 + (a : ℕ)) (1024 + (b : ℕ)) := by
    show CONV i x0 x1 x2 x3 (32 + 1 * (a : ℕ)) (1024 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (32 + (a : ℕ)) (1024 + (b : ℕ))
  unfold CONV
  refine congrArg₂ (· + ·) ?_ (rdB arg5 harg5 x3 1024 _ b (1024 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 32 … 63 and lanes 512 … 1023. -/
theorem piece10 :
    ∀ p, (kernelRun0_A.sl.HS1_16 c i arg2 harg2 arg3 harg3 arg4 harg4 arg5 harg5 arg9 x0 x1 x2 x3)[10]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![32, 512] S32x512.size inb_S128x2048_S32x512_32_512).emb (ix2 a b)) = CONV i x0 x1 x2 x3 (32 + (a : ℕ)) (512 + (b : ℕ)) := by
    show CONV i x0 x1 x2 x3 (32 + 1 * (a : ℕ)) (512 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (32 + (a : ℕ)) (512 + (b : ℕ))
  unfold CONV
  refine congrArg₂ (· + ·) ?_ (rdB arg5 harg5 x3 512 _ b (512 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 32 … 63 and lanes 0 … 511. -/
theorem piece11 :
    ∀ p, (kernelRun0_A.sl.HS1_16 c i arg2 harg2 arg3 harg3 arg4 harg4 arg5 harg5 arg9 x0 x1 x2 x3)[11]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![32, 0] S32x512.size inb_S128x2048_S32x512_32_0).emb (ix2 a b)) = CONV i x0 x1 x2 x3 (32 + (a : ℕ)) (b : ℕ) := by
    show CONV i x0 x1 x2 x3 (32 + 1 * (a : ℕ)) (0 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (32 + (a : ℕ)) (b : ℕ)
  unfold CONV
  refine congrArg₂ (· + ·) ?_ (rdB arg5 harg5 x3 0 _ b (b : ℕ) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 0 … 31 and lanes 1536 … 2047. -/
theorem piece12 :
    ∀ p, (kernelRun0_A.sl.HS1_16 c i arg2 harg2 arg3 harg3 arg4 harg4 arg5 harg5 arg9 x0 x1 x2 x3)[12]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![0, 1536] S32x512.size inb_S128x2048_S32x512_0_1536).emb (ix2 a b)) = CONV i x0 x1 x2 x3 (a : ℕ) (1536 + (b : ℕ)) := by
    show CONV i x0 x1 x2 x3 (0 + 1 * (a : ℕ)) (1536 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (a : ℕ) (1536 + (b : ℕ))
  unfold CONV
  refine congrArg₂ (· + ·) ?_ (rdB arg5 harg5 x3 1536 _ b (1536 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 0 … 31 and lanes 1024 … 1535. -/
theorem piece13 :
    ∀ p, (kernelRun0_A.sl.HS1_16 c i arg2 harg2 arg3 harg3 arg4 harg4 arg5 harg5 arg9 x0 x1 x2 x3)[13]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![0, 1024] S32x512.size inb_S128x2048_S32x512_0_1024).emb (ix2 a b)) = CONV i x0 x1 x2 x3 (a : ℕ) (1024 + (b : ℕ)) := by
    show CONV i x0 x1 x2 x3 (0 + 1 * (a : ℕ)) (1024 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (a : ℕ) (1024 + (b : ℕ))
  unfold CONV
  refine congrArg₂ (· + ·) ?_ (rdB arg5 harg5 x3 1024 _ b (1024 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 0 … 31 and lanes 512 … 1023. -/
theorem piece14 :
    ∀ p, (kernelRun0_A.sl.HS1_16 c i arg2 harg2 arg3 harg3 arg4 harg4 arg5 harg5 arg9 x0 x1 x2 x3)[14]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![0, 512] S32x512.size inb_S128x2048_S32x512_0_512).emb (ix2 a b)) = CONV i x0 x1 x2 x3 (a : ℕ) (512 + (b : ℕ)) := by
    show CONV i x0 x1 x2 x3 (0 + 1 * (a : ℕ)) (512 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (a : ℕ) (512 + (b : ℕ))
  unfold CONV
  refine congrArg₂ (· + ·) ?_ (rdB arg5 harg5 x3 512 _ b (512 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 0 … 31 and lanes 0 … 511. -/
theorem piece15 :
    ∀ p, (kernelRun0_A.sl.HS1_16 c i arg2 harg2 arg3 harg3 arg4 harg4 arg5 harg5 arg9 x0 x1 x2 x3)[15]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![0, 0] S32x512.size inb_S128x2048_S32x512_0_0).emb (ix2 a b)) = CONV i x0 x1 x2 x3 (a : ℕ) (b : ℕ) := by
    show CONV i x0 x1 x2 x3 (0 + 1 * (a : ℕ)) (0 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (a : ℕ) (b : ℕ)
  unfold CONV
  refine congrArg₂ (· + ·) ?_ (rdB arg5 harg5 x3 0 _ b (b : ℕ) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

end Cert.Proof.Conv

end
-- ==== Proof.ConvC.lean ====
/- The convolution's 31 products and sums, chunk by chunk of 32 rows and 512 lanes. -/
module

public import proofs.«01_k».proof.Proof.ConvB

@[expose] public section

set_option maxRecDepth 65536

noncomputable section

namespace Cert.Proof.Conv

open Cert.ConvKernelIdeal Cert.ConvKernelIdeal.Gen Cert.ConvKernelIdeal.Gen.kernelRun0_A.sl Idealize.ShloMosaic Idealize.ShloMosaic.TcCoe Idealize.SL.Sem

variable (c : Dev nD) (i : grid0.Coords) (arg2 : Memref sig .tc .vmem S1x128x2048 .f32) (harg2 : arg2.IsWhole) (arg3 : Memref sig .tc .vmem S1x32x2048 .f32) (harg3 : arg3.IsWhole)
    (arg4 : Memref sig .tc .vmem S31x2048 .f32) (harg4 : arg4.IsWhole) (arg5 : Memref sig .tc .vmem S1x2048 .f32) (harg5 : arg5.IsWhole) (arg9 : Memref sig .tc .vmem S8x160x2048 .f32)
    (x0 : Vec Ideal S1x128x2048 .f32) (x1 : Vec Ideal S1x32x2048 .f32) (x2 : Vec Ideal S31x2048 .f32) (x3 : Vec Ideal S1x2048 .f32)

/-- The chunk of rows 96 … 127 and lanes 1536 … 2047. -/
theorem piece0 :
    ∀ p, (kernelRun0_A.sl.HS1_16 c i arg2 harg2 arg3 harg3 arg4 harg4 arg5 harg5 arg9 x0 x1 x2 x3)[0]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![96, 1536] S32x512.size inb_S128x2048_S32x512_96_1536).emb (ix2 a b)) = CONV i x0 x1 x2 x3 (96 + (a : ℕ)) (1536 + (b : ℕ)) := by
    show CONV i x0 x1 x2 x3 (96 + 1 * (a : ℕ)) (1536 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (96 + (a : ℕ)) (1536 + (b : ℕ))
  unfold CONV
  refine congrArg₂ (· + ·) ?_ (rdB arg5 harg5 x3 1536 _ b (1536 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 96 … 127 and lanes 1024 … 1535. -/
theorem piece1 :
    ∀ p, (kernelRun0_A.sl.HS1_16 c i arg2 harg2 arg3 harg3 arg4 harg4 arg5 harg5 arg9 x0 x1 x2 x3)[1]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![96, 1024] S32x512.size inb_S128x2048_S32x512_96_1024).emb (ix2 a b)) = CONV i x0 x1 x2 x3 (96 + (a : ℕ)) (1024 + (b : ℕ)) := by
    show CONV i x0 x1 x2 x3 (96 + 1 * (a : ℕ)) (1024 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (96 + (a : ℕ)) (1024 + (b : ℕ))
  unfold CONV
  refine congrArg₂ (· + ·) ?_ (rdB arg5 harg5 x3 1024 _ b (1024 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 96 … 127 and lanes 512 … 1023. -/
theorem piece2 :
    ∀ p, (kernelRun0_A.sl.HS1_16 c i arg2 harg2 arg3 harg3 arg4 harg4 arg5 harg5 arg9 x0 x1 x2 x3)[2]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![96, 512] S32x512.size inb_S128x2048_S32x512_96_512).emb (ix2 a b)) = CONV i x0 x1 x2 x3 (96 + (a : ℕ)) (512 + (b : ℕ)) := by
    show CONV i x0 x1 x2 x3 (96 + 1 * (a : ℕ)) (512 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (96 + (a : ℕ)) (512 + (b : ℕ))
  unfold CONV
  refine congrArg₂ (· + ·) ?_ (rdB arg5 harg5 x3 512 _ b (512 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 96 … 127 and lanes 0 … 511. -/
theorem piece3 :
    ∀ p, (kernelRun0_A.sl.HS1_16 c i arg2 harg2 arg3 harg3 arg4 harg4 arg5 harg5 arg9 x0 x1 x2 x3)[3]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![96, 0] S32x512.size inb_S128x2048_S32x512_96_0).emb (ix2 a b)) = CONV i x0 x1 x2 x3 (96 + (a : ℕ)) (b : ℕ) := by
    show CONV i x0 x1 x2 x3 (96 + 1 * (a : ℕ)) (0 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (96 + (a : ℕ)) (b : ℕ)
  unfold CONV
  refine congrArg₂ (· + ·) ?_ (rdB arg5 harg5 x3 0 _ b (b : ℕ) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 64 … 95 and lanes 1536 … 2047. -/
theorem piece4 :
    ∀ p, (kernelRun0_A.sl.HS1_16 c i arg2 harg2 arg3 harg3 arg4 harg4 arg5 harg5 arg9 x0 x1 x2 x3)[4]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![64, 1536] S32x512.size inb_S128x2048_S32x512_64_1536).emb (ix2 a b)) = CONV i x0 x1 x2 x3 (64 + (a : ℕ)) (1536 + (b : ℕ)) := by
    show CONV i x0 x1 x2 x3 (64 + 1 * (a : ℕ)) (1536 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (64 + (a : ℕ)) (1536 + (b : ℕ))
  unfold CONV
  refine congrArg₂ (· + ·) ?_ (rdB arg5 harg5 x3 1536 _ b (1536 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 64 … 95 and lanes 1024 … 1535. -/
theorem piece5 :
    ∀ p, (kernelRun0_A.sl.HS1_16 c i arg2 harg2 arg3 harg3 arg4 harg4 arg5 harg5 arg9 x0 x1 x2 x3)[5]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![64, 1024] S32x512.size inb_S128x2048_S32x512_64_1024).emb (ix2 a b)) = CONV i x0 x1 x2 x3 (64 + (a : ℕ)) (1024 + (b : ℕ)) := by
    show CONV i x0 x1 x2 x3 (64 + 1 * (a : ℕ)) (1024 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (64 + (a : ℕ)) (1024 + (b : ℕ))
  unfold CONV
  refine congrArg₂ (· + ·) ?_ (rdB arg5 harg5 x3 1024 _ b (1024 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 64 … 95 and lanes 512 … 1023. -/
theorem piece6 :
    ∀ p, (kernelRun0_A.sl.HS1_16 c i arg2 harg2 arg3 harg3 arg4 harg4 arg5 harg5 arg9 x0 x1 x2 x3)[6]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![64, 512] S32x512.size inb_S128x2048_S32x512_64_512).emb (ix2 a b)) = CONV i x0 x1 x2 x3 (64 + (a : ℕ)) (512 + (b : ℕ)) := by
    show CONV i x0 x1 x2 x3 (64 + 1 * (a : ℕ)) (512 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (64 + (a : ℕ)) (512 + (b : ℕ))
  unfold CONV
  refine congrArg₂ (· + ·) ?_ (rdB arg5 harg5 x3 512 _ b (512 + (b : ℕ)) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The chunk of rows 64 … 95 and lanes 0 … 511. -/
theorem piece7 :
    ∀ p, (kernelRun0_A.sl.HS1_16 c i arg2 harg2 arg3 harg3 arg4 harg4 arg5 harg5 arg9 x0 x1 x2 x3)[7]? = some p → ∀ x, p.2 x = CV i x0 x1 x2 x3 (p.1.emb x) := by
  intro p h x
  unfold kernelRun0_A.sl.HS1_16 at h
  simp only [List.getElem?_cons_succ, List.getElem?_cons_zero, Option.some.injEq] at h
  subst h
  have H := holds28 c i arg2 harg2 arg3 harg3 arg9 x0 x1
  obtain ⟨a, b, rfl⟩ : ∃ (a : Fin 32) (b : Fin 512), x = ix2 a b := ⟨x 0, x 1, by blk_ext []⟩
  have e : CV i x0 x1 x2 x3 ((Rect.unit (s := S128x2048) ![64, 0] S32x512.size inb_S128x2048_S32x512_64_0).emb (ix2 a b)) = CONV i x0 x1 x2 x3 (64 + (a : ℕ)) (b : ℕ) := by
    show CONV i x0 x1 x2 x3 (64 + 1 * (a : ℕ)) (0 + 1 * (b : ℕ)) = _
    congr 1 <;> omega
  refine Eq.trans ?_ e.symm
  dsimp only
  pointwise [k0_pay1, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, r_103, r_104, r_105, r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162]
  show _ = CONV i x0 x1 x2 x3 (64 + (a : ℕ)) (b : ℕ)
  unfold CONV
  refine congrArg₂ (· + ·) ?_ (rdB arg5 harg5 x3 0 _ b (b : ℕ) (by omega))
  iterate 30 refine stp ?_ (rdE H arg9 _ _ _ _ (by omega) a b _ _ (by omega) (by omega)) (rdW arg4 harg4 x2 _ _ _ b _ (by omega))
  exact stp1 (rdE H arg9 _ _ _ _ (by omega) a b _ _ (by omega) (by omega)) (rdW arg4 harg4 x2 _ _ _ b _ (by omega))

/-- The convolved block, whole. -/
theorem conv_block (c : Dev nD) (i : grid0.Coords) (arg2 : Memref sig .tc .vmem S1x128x2048 .f32) (harg2 : arg2.IsWhole) (arg3 : Memref sig .tc .vmem S1x32x2048 .f32) (harg3 : arg3.IsWhole)
    (arg4 : Memref sig .tc .vmem S31x2048 .f32) (harg4 : arg4.IsWhole) (arg5 : Memref sig .tc .vmem S1x2048 .f32) (harg5 : arg5.IsWhole) (arg9 : Memref sig .tc .vmem S8x160x2048 .f32)
    (x0 : Vec Ideal S1x128x2048 .f32) (x1 : Vec Ideal S1x32x2048 .f32) (x2 : Vec Ideal S31x2048 .f32) (x3 : Vec Ideal S1x2048 .f32) (y : S128x2048.Idx) :
    View.canon (kernelRun0_A.sl.HS1_16 c i arg2 harg2 arg3 harg3 arg4 harg4 arg5 harg5 arg9 x0 x1 x2 x3) y = CV i x0 x1 x2 x3 y := by
  refine View.canon_apply_of_pieces (CV i x0 x1 x2 x3) _ (fun p hp => ?_) y (View.cover_of_tiledL (s := S128x2048) _ S32x512.size (by sl_kernel_rfl) y)
  obtain ⟨n, hn⟩ := List.mem_iff_getElem?.mp hp
  have hl : n < 16 := by
    by_contra hc
    rw [List.getElem?_eq_none (by show 16 ≤ n; omega)] at hn
    exact absurd hn (by simp)
  match n, hl with
  | 0, _ => exact piece0 c i arg2 harg2 arg3 harg3 arg4 harg4 arg5 harg5 arg9 x0 x1 x2 x3 p hn
  | 1, _ => exact piece1 c i arg2 harg2 arg3 harg3 arg4 harg4 arg5 harg5 arg9 x0 x1 x2 x3 p hn
  | 2, _ => exact piece2 c i arg2 harg2 arg3 harg3 arg4 harg4 arg5 harg5 arg9 x0 x1 x2 x3 p hn
  | 3, _ => exact piece3 c i arg2 harg2 arg3 harg3 arg4 harg4 arg5 harg5 arg9 x0 x1 x2 x3 p hn
  | 4, _ => exact piece4 c i arg2 harg2 arg3 harg3 arg4 harg4 arg5 harg5 arg9 x0 x1 x2 x3 p hn
  | 5, _ => exact piece5 c i arg2 harg2 arg3 harg3 arg4 harg4 arg5 harg5 arg9 x0 x1 x2 x3 p hn
  | 6, _ => exact piece6 c i arg2 harg2 arg3 harg3 arg4 harg4 arg5 harg5 arg9 x0 x1 x2 x3 p hn
  | 7, _ => exact piece7 c i arg2 harg2 arg3 harg3 arg4 harg4 arg5 harg5 arg9 x0 x1 x2 x3 p hn
  | 8, _ => exact piece8 c i arg2 harg2 arg3 harg3 arg4 harg4 arg5 harg5 arg9 x0 x1 x2 x3 p hn
  | 9, _ => exact piece9 c i arg2 harg2 arg3 harg3 arg4 harg4 arg5 harg5 arg9 x0 x1 x2 x3 p hn
  | 10, _ => exact piece10 c i arg2 harg2 arg3 harg3 arg4 harg4 arg5 harg5 arg9 x0 x1 x2 x3 p hn
  | 11, _ => exact piece11 c i arg2 harg2 arg3 harg3 arg4 harg4 arg5 harg5 arg9 x0 x1 x2 x3 p hn
  | 12, _ => exact piece12 c i arg2 harg2 arg3 harg3 arg4 harg4 arg5 harg5 arg9 x0 x1 x2 x3 p hn
  | 13, _ => exact piece13 c i arg2 harg2 arg3 harg3 arg4 harg4 arg5 harg5 arg9 x0 x1 x2 x3 p hn
  | 14, _ => exact piece14 c i arg2 harg2 arg3 harg3 arg4 harg4 arg5 harg5 arg9 x0 x1 x2 x3 p hn
  | 15, _ => exact piece15 c i arg2 harg2 arg3 harg3 arg4 harg4 arg5 harg5 arg9 x0 x1 x2 x3 p hn

end Cert.Proof.Conv

end
-- ==== Proof.ConvD.lean ====
/- What a grid point of the convolution mixer stores: the layer norm of the convolved row, times its own logistic. -/
module

public import proofs.«01_k».proof.Proof.ConvC

@[expose] public section

set_option maxRecDepth 16384

noncomputable section

namespace Cert.Proof.Conv

open Cert.ConvKernelIdeal Cert.ConvKernelIdeal.Gen Idealize.ShloMosaic Idealize.ShloMosaic.TcCoe Idealize.SL.Sem

/-- A row's mean. -/
def MU (Y : ℕ → EReal) : EReal := Ideal.div (∑ x : Fin 2048, Y x) (Ideal.ofBits .f32 0x45000000#32)

/-- An element of the row after the layer norm. -/
def NRM (Y : ℕ → EReal) (l : ℕ) (g b : EReal) : EReal :=
  (Y l - MU Y) * Ideal.rsqrt (Ideal.div (∑ x : Fin 2048, (Y x - MU Y) * (Y x - MU Y)) (Ideal.ofBits .f32 0x45000000#32) + Ideal.ofBits .f32 0x3727C5AC#32) * g + b

/-- An element times its own logistic. -/
def SW (z : EReal) : EReal := z * Ideal.logistic z

/-- What the norm stores, at an index. -/
theorem pay2_at (v : FVec Ideal S16x2048 .f32) (g b : FVec Ideal S1x2048 .f32) (Y : ℕ → EReal) (a : Fin 16) (l : Fin 2048) (hv : ∀ x : Fin 2048, v (ix2 a x) = Y x) :
    (k0_pay2 v g b : FVec Ideal S1x16x2048 .bf16) (ix3 0 a l) = SW (NRM Y l (g (ix2 0 l)) (b (ix2 0 l))) := by
  pointwise [k0_pay2]
  simp only [hv]
  rfl

/-- The rows a trip reads and the rows it writes. -/
theorem offs : ∀ k : Fin k0_t1_loop.trips, k0_off1 k = ![16 * k.val, 0] ∧ k0_off2 k = ![0, 16 * k.val, 0] ∧ k.val < 8 := by decide +kernel

/-- What the stored block holds. -/
def OUT (i : grid0.Coords) (x0 : Vec Ideal S1x128x2048 .f32) (x1 : Vec Ideal S1x32x2048 .f32) (x2 : Vec Ideal S31x2048 .f32) (x3 x4 x5 : Vec Ideal S1x2048 .f32) (y : S1x128x2048.Idx) : Elt Ideal .bf16 :=
  SW (NRM (CONV i x0 x1 x2 x3 (y 1 : ℕ)) (y 2 : ℕ) (x4 (ix2 0 (y 2))) (x5 (ix2 0 (y 2))))

/-- The same at a row and a lane. -/
theorem out_ix (i : grid0.Coords) (x0 : Vec Ideal S1x128x2048 .f32) (x1 : Vec Ideal S1x32x2048 .f32) (x2 : Vec Ideal S31x2048 .f32) (x3 x4 x5 : Vec Ideal S1x2048 .f32) (r : Fin 128) (l : Fin 2048) :
    OUT i x0 x1 x2 x3 x4 x5 (ix3 0 r l) = SW (NRM (CONV i x0 x1 x2 x3 r.val) l.val (x4 (ix2 0 l)) (x5 (ix2 0 l))) := rfl

/-- One trip's piece. -/
theorem trip_at (𝒱 : Variants) (c : Dev nD) (bd : Option 𝒱.V) (i : grid0.Coords) (arg2 : Memref sig .tc .vmem S1x128x2048 .f32) (harg2 : arg2.IsWhole) (arg3 : Memref sig .tc .vmem S1x32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S8x160x2048 .f32) (harg9 : arg9.IsWhole) (arg10 : Memref sig .tc .vmem S128x2048 .f32) (harg10 : arg10.IsWhole)
    (x0 : Vec Ideal S1x128x2048 .f32) (x1 : Vec Ideal S1x32x2048 .f32) (x2 : Vec Ideal S31x2048 .f32) (x3 x4 x5 : Vec Ideal S1x2048 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 (harg6.unread x4) (harg7.unread x5) (arg10.view.writes (Elt Ideal) arg10.view.junk (kernelRun0_A.sl.HS1_16 c i arg2 harg2 arg3 harg3 arg4 harg4 arg5 harg5 arg9 x0 x1 x2 x3)) k, ∀ x, p.2 x = OUT i x0 x1 x2 x3 x4 x5 (p.1.emb x) := by
  obtain ⟨o1, o2, hk⟩ := offs k
  unfold tripL_k0_t1 trip_k0_t1
  dsimp only
  intro p hp
  obtain rfl := List.mem_singleton.mp hp
  intro x
  obtain ⟨z, a, l, rfl⟩ : ∃ (z : Fin 1) (a : Fin 16) (l : Fin 2048), x = ix3 z a l := ⟨x 0, x 1, x 2, by blk_ext []⟩
  obtain rfl : z = 0 := Subsingleton.elim _ _
  have ha := a.isLt
  have hl := l.isLt
  refine (pay2_at _ _ _ (CONV i x0 x1 x2 x3 (16 * k.val + a.val)) a l fun x => ?_).trans ?_
  · rw [View.readAt_writes_junk_eq_canon]
    refine (conv_block c i arg2 harg2 arg3 harg3 arg4 harg4 arg5 harg5 arg9 x0 x1 x2 x3 _).trans ?_
    show CONV i x0 x1 x2 x3 (k0_off1 k 0 + 1 * (a : ℕ)) (k0_off1 k 1 + 1 * (x : ℕ)) = _
    rw [o1]
    show CONV i x0 x1 x2 x3 (16 * k.val + 1 * (a : ℕ)) (0 + 1 * (x : ℕ)) = _
    congr 1 <;> omega
  · have e1 : (Rect.unit (s := S1x128x2048) (k0_off2 k) S1x16x2048.size (k0_off2_inb k)).emb (ix3 0 a l) = ix3 (0 : Fin 1) (⟨16 * k.val + a.val, by omega⟩ : Fin 128) l := by
      funext d
      match d with
      | ⟨0, _⟩ => exact Subsingleton.elim (α := Fin 1) _ _
      | ⟨1, _⟩ => exact Fin.ext (by show k0_off2 k 1 + 1 * (a : ℕ) = 16 * k.val + a.val; rw [o2]; show 16 * k.val + 1 * (a : ℕ) = _; omega)
      | ⟨2, _⟩ => exact Fin.ext (by show k0_off2 k 2 + 1 * (l : ℕ) = l.val; rw [o2]; show 0 + 1 * (l : ℕ) = _; omega)
    have e2 : ∀ j : S1x2048.Idx, (Rect.unit (s := S1x2048) ![0, 0] S1x2048.size inb_S1x2048_S1x2048_0_0).toLoadRect.idx j = j := by
      intro j
      funext d
      match d with
      | ⟨0, _⟩ => exact Fin.ext (by show 0 + 1 * (j 0 : ℕ) = (j 0 : ℕ); omega)
      | ⟨1, _⟩ => exact Fin.ext (by show 0 + 1 * (j 1 : ℕ) = (j 1 : ℕ); omega)
    have g : (View.readAt (Elt Ideal) arg6.view (Rect.unit (s := S1x2048) ![0, 0] S1x2048.size inb_S1x2048_S1x2048_0_0).toLoadRect (harg6.unread x4) : Vec Ideal S1x2048 .f32) (ix2 0 l) = x4 (ix2 0 l) :=
      by
      rw [View.readAt_apply, harg6.read_unread x4, e2]
    have b : (View.readAt (Elt Ideal) arg7.view (Rect.unit (s := S1x2048) ![0, 0] S1x2048.size inb_S1x2048_S1x2048_0_0).toLoadRect (harg7.unread x5) : Vec Ideal S1x2048 .f32) (ix2 0 l) = x5 (ix2 0 l) :=
      by
      rw [View.readAt_apply, harg7.read_unread x5, e2]
    refine Eq.trans ?_ (congrArg (OUT i x0 x1 x2 x3 x4 x5) e1).symm
    rw [out_ix]
    exact congrArg₂ (fun g b => SW (NRM (CONV i x0 x1 x2 x3 (16 * k.val + a.val)) l.val g b)) g b

/-- The pieces of the first `n` trips. -/
theorem trips_at (𝒱 : Variants) (c : Dev nD) (bd : Option 𝒱.V) (i : grid0.Coords) (arg2 : Memref sig .tc .vmem S1x128x2048 .f32) (harg2 : arg2.IsWhole) (arg3 : Memref sig .tc .vmem S1x32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S8x160x2048 .f32) (harg9 : arg9.IsWhole) (arg10 : Memref sig .tc .vmem S128x2048 .f32) (harg10 : arg10.IsWhole)
    (x0 : Vec Ideal S1x128x2048 .f32) (x1 : Vec Ideal S1x32x2048 .f32) (x2 : Vec Ideal S31x2048 .f32) (x3 x4 x5 : Vec Ideal S1x2048 .f32) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 (harg6.unread x4) (harg7.unread x5) (arg10.view.writes (Elt Ideal) arg10.view.junk (kernelRun0_A.sl.HS1_16 c i arg2 harg2 arg3 harg3 arg4 harg4 arg5 harg5 arg9 x0 x1 x2 x3)) n, ∀ x, p.2 x = OUT i x0 x1 x2 x3 x4 x5 (p.1.emb x) := by
  induction n with
  | zero => intro p hp; exact absurd hp List.not_mem_nil
  | succ n ih =>
    intro p hp
    have e := pb_k0_t1_succ (F := Ideal) 𝒱 c bd i arg2 harg2 arg3 harg3 arg4 harg4 arg5 harg5 arg6 harg6 arg7 harg7 arg8 harg8 arg9 harg9 arg10 harg10 (harg6.unread x4) (harg7.unread x5) (arg10.view.writes (Elt Ideal) arg10.view.junk (kernelRun0_A.sl.HS1_16 c i arg2 harg2 arg3 harg3 arg4 harg4 arg5 harg5 arg9 x0 x1 x2 x3)) ⟨n, hn⟩
    rw [show n + 1 = (⟨n, hn⟩ : Fin k0_t1_loop.trips).val + 1 from rfl, e] at hp
    rcases List.mem_append.mp hp with hp | hp
    · exact trip_at 𝒱 c bd i arg2 harg2 arg3 harg3 arg4 harg4 arg5 harg5 arg6 harg6 arg7 harg7 arg8 harg8 arg9 harg9 arg10 harg10 x0 x1 x2 x3 x4 x5 ⟨n, hn⟩ p hp
    · exact ih (by omega) p hp

/-- The stored block, at an index. -/
theorem out_at (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S8x160x2048 .f32) (harg9 : arg9.IsWhole) (arg10 : Memref sig .tc .vmem S128x2048 .f32) (harg10 : arg10.IsWhole)
    (x0 : Vec Ideal S1x128x2048 .f32) (x1 : Vec Ideal S1x32x2048 .f32) (x2 : Vec Ideal S31x2048 .f32) (x3 x4 x5 : Vec Ideal S1x2048 .f32) (y : S1x128x2048.Idx) :
    out0_A_6 (F := Ideal) c i arg2 harg2 arg3 harg3 arg4 harg4 arg5 harg5 arg6 harg6 arg7 harg7 arg8 harg8 arg9 harg9 arg10 harg10 x0 x1 x2 x3 x4 x5 y = OUT i x0 x1 x2 x3 x4 x5 y := by
  have hL : (kernelRun0_A (F := Ideal) c i arg2 harg2 arg3 harg3 arg4 harg4 arg5 harg5 arg6 harg6 arg7 harg7 arg8 harg8 arg9 harg9 arg10 harg10 x0 x1 x2 x3 x4 x5).1
      = pb_k0_t1 (F := Ideal) Variants.none c none i arg2 harg2 arg3 harg3 arg4 harg4 arg5 harg5 arg6 harg6 arg7 harg7 arg8 harg8 arg9 harg9 arg10 harg10 (harg6.unread x4) (harg7.unread x5) (arg10.view.writes (Elt Ideal) arg10.view.junk (kernelRun0_A.sl.HS1_16 c i arg2 harg2 arg3 harg3 arg4 harg4 arg5 harg5 arg9 x0 x1 x2 x3)) k0_t1_loop.trips := by
    unfold kernelRun0_A
    rfl
  unfold out0_A_6
  rw [View.read_writes_junk_eq_canon]
  refine View.canon_apply_of_pieces (OUT i x0 x1 x2 x3 x4 x5) _ ?_ y (cover0_A_6 c i arg2 harg2 arg3 harg3 arg4 harg4 arg5 harg5 arg6 harg6 arg7 harg7 arg8 harg8 arg9 harg9 arg10 harg10 x0 x1 x2 x3 x4 x5 y)
  rw [hL]
  exact trips_at Variants.none c none i arg2 harg2 arg3 harg3 arg4 harg4 arg5 harg5 arg6 harg6 arg7 harg7 arg8 harg8 arg9 harg9 arg10 harg10 x0 x1 x2 x3 x4 x5 _ le_rfl

end Cert.Proof.Conv

end
-- ==== Proof.ConvE.lean ====
/- The reference's convolution mixer, index by index. -/
module

public import proofs.«01_k».proof.Proof.ConvD
public import proofs.«01_k».proof.Proof.Gen.ConvReferenceIdeal.Run
public import Idealize.ShloMosaic.Lib.StableHlo.ReadAt

@[expose] public section

set_option maxRecDepth 16384

noncomputable section

namespace Cert.Proof.Conv

open Cert.ConvReferenceIdeal Cert.ConvReferenceIdeal.Gen Cert.ConvReferenceIdeal.Value Idealize.ShloMosaic Idealize.ShloMosaic.TcCoe Idealize.SL.Sem

/-- A sequence with 30 rows of zeros in front, at row `r` and lane `l`. -/
def XP (x : FVec Ideal S4x4096x2048 .f32) (b : Fin 4) (r l : ℕ) : EReal :=
  if hl : l < 2048 then if h : 30 ≤ r ∧ r - 30 < 4096 then x (ix3 b ⟨r - 30, h.2⟩ ⟨l, hl⟩) else 0 else 0

/-- Tap `j` of lane `l`. -/
def WR (w : FVec Ideal S1x31x2048 .f32) (j l : ℕ) : EReal := if h : j < 31 ∧ l < 2048 then w (ix3 0 ⟨j, h.1⟩ ⟨l, h.2⟩) else 0

/-- The sum of the first `n` products. -/
def RACC (x : FVec Ideal S4x4096x2048 .f32) (w : FVec Ideal S1x31x2048 .f32) (b : Fin 4) (r l : ℕ) : ℕ → EReal
  | 0 => 0
  | n + 1 => RACC x w b r l n + XP x b (r + n) l * WR w n l

/-- The causal depthwise convolution with its bias. -/
def RCONV (x : FVec Ideal S4x4096x2048 .f32) (w : FVec Ideal S1x31x2048 .f32) (u : FVec Ideal S1x2048 .f32) (b : Fin 4) (r l : ℕ) : EReal :=
  RACC x w b r l 31 + if h : l < 2048 then u (ix2 0 ⟨l, h⟩) else 0

/-- The convolution mixer: the layer norm of the convolved row, times its own logistic. -/
def REF (x : FVec Ideal S4x4096x2048 .f32) (w : FVec Ideal S1x31x2048 .f32) (u g d : FVec Ideal S1x2048 .f32) : FVec Ideal S4x4096x2048 .bf16 := fun y =>
  SW (NRM (RCONV x w u (y 0) (y 1 : ℕ)) (y 2 : ℕ) (g (ix2 0 (y 2))) (d (ix2 0 (y 2))))

variable (V0 : Valuation τ sig (Elt Ideal))

/-- The arguments of the reference. -/
abbrev a0 : FVec Ideal S4x4096x2048 .f32 := V0 (Proc.devRef .tc main_arg0)
abbrev a1 : FVec Ideal S1x31x2048 .f32 := V0 (Proc.devRef .tc main_arg1)
abbrev a2 : FVec Ideal S1x2048 .f32 := V0 (Proc.devRef .tc main_arg2)
abbrev a3 : FVec Ideal S1x2048 .f32 := V0 (Proc.devRef .tc main_arg3)
abbrev a4 : FVec Ideal S1x2048 .f32 := V0 (Proc.devRef .tc main_arg4)

/-- A tap, read from the weights. -/
theorem wr_at (w : FVec Ideal S1x31x2048 .f32) (j : ℕ) (h : j < 31) (l : Fin 2048) : w (ix3 0 ⟨j, h⟩ l) = WR w j l := by
  unfold WR; rw [dif_pos ⟨h, l.isLt⟩]

/-- One more product. -/
theorem rstp {x : FVec Ideal S4x4096x2048 .f32} {w : FVec Ideal S1x31x2048 .f32} {b : Fin 4} {r n : ℕ} {l : Fin 2048} {s e v : EReal}
    (hs : s = RACC x w b r l n) (he : e = XP x b (r + n) l) (hw : v = WR w n l) : s + e * v = RACC x w b r l (n + 1) := by
  rw [hs, he, hw]; rfl

/-- The first product. -/
theorem rstp1 {x : FVec Ideal S4x4096x2048 .f32} {w : FVec Ideal S1x31x2048 .f32} {b : Fin 4} {r : ℕ} {l : Fin 2048} {e v : EReal}
    (he : e = XP x b (r + 0) l) (hw : v = WR w 0 l) : e * v = RACC x w b r l 1 :=
  (zero_add _).symm.trans (rstp (n := 0) rfl he hw)

/-- The padded sequence. -/
theorem v0_at (b : Fin 4) (r : Fin 4126) (l : Fin 2048) (n : ℕ) (hn : r.val = n) : (res_main_v0 V0 : FVec Ideal S4x4126x2048 .f32) (ix3 b r l) = XP (a0 V0) b n l := by
  subst hn
  pointwise [res_main_v0]
  have hr := r.isLt
  have hl := l.isLt
  unfold XP
  rw [dif_pos hl]
  by_cases h : 30 ≤ r.val ∧ r.val - 30 < 4096
  · rw [dif_pos h, dif_pos]
    intro a
    match a with
    | ⟨0, _⟩ => exact ⟨Nat.zero_le _, Nat.mod_one _, by show (b.val - 0) / 1 < 4; omega⟩
    | ⟨1, _⟩ => exact ⟨h.1, Nat.mod_one _, by show (r.val - 30) / 1 < 4096; omega⟩
    | ⟨2, _⟩ => exact ⟨Nat.zero_le _, Nat.mod_one _, by show (l.val - 0) / 1 < 2048; omega⟩
  · rw [dif_neg h, dif_neg]
    · show (((0#32 : BitVec 32).toInt : ℝ) : EReal) = 0
      norm_num
    · intro hc
      have h1 := hc (1 : Fin 3)
      exact h ⟨h1.1, by have := h1.2.2; change (r.val - 30) / 1 < 4096 at this; omega⟩

/-- The sum of the first 11 products. -/
theorem v76_at (b : Fin 4) (r : Fin 4096) (l : Fin 2048) : (res_main_v76 V0 : FVec Ideal S4x4096x2048 .f32) (ix3 b r l) = RACC (a0 V0) (a1 V0) b r l 11 := by
  have hr := r.isLt
  pointwise [res_main_v76]
  exact (rstp (rstp (rstp (rstp (rstp (rstp (rstp (rstp (rstp (rstp (rstp1 (v0_at V0 b ⟨(r : ℕ), by omega⟩ l _ (by simp only; omega)) (wr_at _ 0 (by decide) l)) (v0_at V0 b ⟨1 + (r : ℕ), by omega⟩ l _ (by simp only; omega)) (wr_at _ 1 (by decide) l)) (v0_at V0 b ⟨2 + (r : ℕ), by omega⟩ l _ (by simp only; omega)) (wr_at _ 2 (by decide) l)) (v0_at V0 b ⟨3 + (r : ℕ), by omega⟩ l _ (by simp only; omega)) (wr_at _ 3 (by decide) l)) (v0_at V0 b ⟨4 + (r : ℕ), by omega⟩ l _ (by simp only; omega)) (wr_at _ 4 (by decide) l)) (v0_at V0 b ⟨5 + (r : ℕ), by omega⟩ l _ (by simp only; omega)) (wr_at _ 5 (by decide) l)) (v0_at V0 b ⟨6 + (r : ℕ), by omega⟩ l _ (by simp only; omega)) (wr_at _ 6 (by decide) l)) (v0_at V0 b ⟨7 + (r : ℕ), by omega⟩ l _ (by simp only; omega)) (wr_at _ 7 (by decide) l)) (v0_at V0 b ⟨8 + (r : ℕ), by omega⟩ l _ (by simp only; omega)) (wr_at _ 8 (by decide) l)) (v0_at V0 b ⟨9 + (r : ℕ), by omega⟩ l _ (by simp only; omega)) (wr_at _ 9 (by decide) l)) (v0_at V0 b ⟨10 + (r : ℕ), by omega⟩ l _ (by simp only; omega)) (wr_at _ 10 (by decide) l))

/-- The sum of the first 21 products. -/
theorem v146_at (b : Fin 4) (r : Fin 4096) (l : Fin 2048) : (res_main_v146 V0 : FVec Ideal S4x4096x2048 .f32) (ix3 b r l) = RACC (a0 V0) (a1 V0) b r l 21 := by
  have H := v76_at V0 b r l
  have hr := r.isLt
  pointwise [res_main_v146]
  exact (rstp (rstp (rstp (rstp (rstp (rstp (rstp (rstp (rstp (rstp H (v0_at V0 b ⟨11 + (r : ℕ), by omega⟩ l _ (by simp only; omega)) (wr_at _ 11 (by decide) l)) (v0_at V0 b ⟨12 + (r : ℕ), by omega⟩ l _ (by simp only; omega)) (wr_at _ 12 (by decide) l)) (v0_at V0 b ⟨13 + (r : ℕ), by omega⟩ l _ (by simp only; omega)) (wr_at _ 13 (by decide) l)) (v0_at V0 b ⟨14 + (r : ℕ), by omega⟩ l _ (by simp only; omega)) (wr_at _ 14 (by decide) l)) (v0_at V0 b ⟨15 + (r : ℕ), by omega⟩ l _ (by simp only; omega)) (wr_at _ 15 (by decide) l)) (v0_at V0 b ⟨16 + (r : ℕ), by omega⟩ l _ (by simp only; omega)) (wr_at _ 16 (by decide) l)) (v0_at V0 b ⟨17 + (r : ℕ), by omega⟩ l _ (by simp only; omega)) (wr_at _ 17 (by decide) l)) (v0_at V0 b ⟨18 + (r : ℕ), by omega⟩ l _ (by simp only; omega)) (wr_at _ 18 (by decide) l)) (v0_at V0 b ⟨19 + (r : ℕ), by omega⟩ l _ (by simp only; omega)) (wr_at _ 19 (by decide) l)) (v0_at V0 b ⟨20 + (r : ℕ), by omega⟩ l _ (by simp only; omega)) (wr_at _ 20 (by decide) l))

/-- The sum of the first 31 products. -/
theorem v216_at (b : Fin 4) (r : Fin 4096) (l : Fin 2048) : (res_main_v216 V0 : FVec Ideal S4x4096x2048 .f32) (ix3 b r l) = RACC (a0 V0) (a1 V0) b r l 31 := by
  have H := v146_at V0 b r l
  have hr := r.isLt
  pointwise [res_main_v216]
  exact (rstp (rstp (rstp (rstp (rstp (rstp (rstp (rstp (rstp (rstp H (v0_at V0 b ⟨21 + (r : ℕ), by omega⟩ l _ (by simp only; omega)) (wr_at _ 21 (by decide) l)) (v0_at V0 b ⟨22 + (r : ℕ), by omega⟩ l _ (by simp only; omega)) (wr_at _ 22 (by decide) l)) (v0_at V0 b ⟨23 + (r : ℕ), by omega⟩ l _ (by simp only; omega)) (wr_at _ 23 (by decide) l)) (v0_at V0 b ⟨24 + (r : ℕ), by omega⟩ l _ (by simp only; omega)) (wr_at _ 24 (by decide) l)) (v0_at V0 b ⟨25 + (r : ℕ), by omega⟩ l _ (by simp only; omega)) (wr_at _ 25 (by decide) l)) (v0_at V0 b ⟨26 + (r : ℕ), by omega⟩ l _ (by simp only; omega)) (wr_at _ 26 (by decide) l)) (v0_at V0 b ⟨27 + (r : ℕ), by omega⟩ l _ (by simp only; omega)) (wr_at _ 27 (by decide) l)) (v0_at V0 b ⟨28 + (r : ℕ), by omega⟩ l _ (by simp only; omega)) (wr_at _ 28 (by decide) l)) (v0_at V0 b ⟨29 + (r : ℕ), by omega⟩ l _ (by simp only; omega)) (wr_at _ 29 (by decide) l)) (v0_at V0 b ⟨30 + (r : ℕ), by omega⟩ l _ (by simp only; omega)) (wr_at _ 30 (by decide) l))

/-- The convolution with its bias. -/
theorem v220_at (b : Fin 4) (r : Fin 4096) (l : Fin 2048) : (res_main_v220 V0 : FVec Ideal S4x4096x2048 .f32) (ix3 b r l) = RCONV (a0 V0) (a1 V0) (a2 V0) b r l := by
  pointwise [res_main_v220]
  unfold RCONV
  rw [dif_pos l.isLt]
  exact congrArg (· + a2 V0 (ix2 0 l)) (v216_at V0 b r l)

/-- The layer norm. -/
theorem v246_at (b : Fin 4) (r : Fin 4096) (l : Fin 2048) : (res_main_v246 V0 : FVec Ideal S4x4096x2048 .f32) (ix3 b r l)
    = NRM (RCONV (a0 V0) (a1 V0) (a2 V0) b r) l (a3 V0 (ix2 0 l)) (a4 V0 (ix2 0 l)) := by
  pointwise [res_main_v246, res_main_v228, res_main_v226]
  simp only [v220_at]
  rfl

/-- What the reference returns. -/
theorem ref_at : (truncf .bf16 (mulf (res_main_v246 V0) (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (res_main_v246 V0)))))) bitsLt_bf16_f32 : FVec Ideal S4x4096x2048 .bf16)
    = REF (a0 V0) (a1 V0) (a2 V0) (a3 V0) (a4 V0) := by
  funext y
  obtain ⟨b, r, l, rfl⟩ : ∃ (b : Fin 4) (r : Fin 4096) (l : Fin 2048), y = ix3 b r l := ⟨y 0, y 1, y 2, by blk_ext []⟩
  pointwise
  rw [v246_at]
  rfl

end Cert.Proof.Conv

end
-- ==== Proof.ConvValue.lean ====
/- The convolution mixer's value: what its grid points store is, index by index, the reference's. -/
module

public import proofs.«01_k».proof.Proof.ConvE

@[expose] public section

set_option maxRecDepth 16384

noncomputable section

namespace Cert.Proof.Conv

open Cert.ConvKernelIdeal Cert.ConvKernelIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at every grid point. -/
theorem idx : ∀ t : Fin cfg0.N, win0_0.index t = ![(grid0.coords t 0).val, (grid0.coords t 1).val, 0]
    ∧ win0_1.index t = ![(grid0.coords t 0).val, 4 * (grid0.coords t 1).val - 1, 0] ∧ win0_2.index t = ![0, 0] ∧ win0_3.index t = ![0, 0]
    ∧ win0_4.index t = ![0, 0] ∧ win0_5.index t = ![0, 0] ∧ win0_6.index t = ![(grid0.coords t 0).val, (grid0.coords t 1).val, 0]
    ∧ (grid0.coords t 0).val < 4 ∧ (grid0.coords t 1).val < 32 :=
  (by decide +kernel : ∀ t : Fin grid0.N, _)

/-- The arguments. -/
abbrev b0 (c : Dev nD) : FVec Ideal S4x4096x2048 .f32 := m ((c : Thread nD τ).loc main_arg0)
abbrev b1 (c : Dev nD) : FVec Ideal S1x31x2048 .f32 := m ((c : Thread nD τ).loc main_arg1)
abbrev b2 (c : Dev nD) : FVec Ideal S1x2048 .f32 := m ((c : Thread nD τ).loc main_arg2)
abbrev b3 (c : Dev nD) : FVec Ideal S1x2048 .f32 := m ((c : Thread nD τ).loc main_arg3)
abbrev b4 (c : Dev nD) : FVec Ideal S1x2048 .f32 := m ((c : Thread nD τ).loc main_arg4)

/-- The current block. -/
theorem w0 (c : Dev nD) (t : Fin cfg0.N) (r : Fin 128) (l : Fin 2048) (b : Fin 4) (n : Fin 4096) (hb : b.val = (grid0.coords t 0).val)
    (hn : n.val = 128 * (grid0.coords t 1).val + r.val) : (iblk m c 0 t : FVec Ideal S1x128x2048 .f32) (ix3 0 r l) = b0 m c (ix3 b n l) := by
  obtain ⟨e0, e1, e2, e3, e4, e5, e6, h0, h1⟩ := idx t
  blk_ext [iblk, V, e0]

/-- The halo, where it is read. -/
theorem w1 (c : Dev nD) (t : Fin cfg0.N) (r : Fin 32) (l : Fin 2048) (b : Fin 4) (n : Fin 4096) (hb : b.val = (grid0.coords t 0).val)
    (ht : 0 < (grid0.coords t 1).val) (hn : n.val + 32 = 128 * (grid0.coords t 1).val + r.val) : (iblk m c 1 t : FVec Ideal S1x32x2048 .f32) (ix3 0 r l) = b0 m c (ix3 b n l) := by
  obtain ⟨e0, e1, e2, e3, e4, e5, e6, h0, h1⟩ := idx t
  blk_ext [iblk, V, e1]

/-- The taps. -/
theorem w2 (c : Dev nD) (t : Fin cfg0.N) (j : Fin 31) (l : Fin 2048) : (iblk m c 2 t : FVec Ideal S31x2048 .f32) (ix2 j l) = b1 m c (ix3 0 j l) := by
  obtain ⟨e0, e1, e2, e3, e4, e5, e6, h0, h1⟩ := idx t
  have hemb : ((cfg0.win 2).blk t).view.emb (ix2 j l) = ix2 j l := by
    blk_ext [e2]
  refine (congrArg (V m c main_v0) hemb).trans ?_
  unfold V
  after_reads_at

/-- The bias. -/
theorem w3 (c : Dev nD) (t : Fin cfg0.N) (l : Fin 2048) : (iblk m c 3 t : FVec Ideal S1x2048 .f32) (ix2 0 l) = b2 m c (ix2 0 l) := by
  obtain ⟨e0, e1, e2, e3, e4, e5, e6, h0, h1⟩ := idx t
  blk_ext [iblk, V, e3]

/-- The norm's scale. -/
theorem w4 (c : Dev nD) (t : Fin cfg0.N) (l : Fin 2048) : (iblk m c 4 t : FVec Ideal S1x2048 .f32) (ix2 0 l) = b3 m c (ix2 0 l) := by
  obtain ⟨e0, e1, e2, e3, e4, e5, e6, h0, h1⟩ := idx t
  blk_ext [iblk, V, e4]

/-- The norm's offset. -/
theorem w5 (c : Dev nD) (t : Fin cfg0.N) (l : Fin 2048) : (iblk m c 5 t : FVec Ideal S1x2048 .f32) (ix2 0 l) = b4 m c (ix2 0 l) := by
  obtain ⟨e0, e1, e2, e3, e4, e5, e6, h0, h1⟩ := idx t
  blk_ext [iblk, V, e5]

/-- The block behind its halo is the padded sequence. -/
theorem E_eq (c : Dev nD) (t : Fin cfg0.N) (b : Fin 4) (hb : b.val = (grid0.coords t 0).val) (r j l : ℕ) (hr : r < 128) (hj : j < 31) :
    E (grid0.coords t) (iblk m c 0 t) (iblk m c 1 t) (r + 2 + j) l = XP (b0 m c) b (128 * (grid0.coords t 1).val + r + j) l := by
  obtain ⟨e0, e1, e2, e3, e4, e5, e6, h0, h1⟩ := idx t
  unfold E XP
  by_cases hl : l < 2048
  · rw [dif_pos hl, dif_pos hl]
    by_cases h : r + 2 + j < 32
    · rw [dif_pos h]
      by_cases ht : 0 < (grid0.coords t 1).val
      · rw [if_pos ht, dif_pos ⟨by omega, by omega⟩]
        exact w1 m c t _ _ b _ hb ht (by simp only; omega)
      · rw [if_neg ht, dif_neg (by omega)]
    · rw [dif_neg h, dif_pos (by omega), dif_pos ⟨by omega, by omega⟩]
      exact w0 m c t _ _ b _ hb (by simp only; omega)
  · rw [dif_neg hl, dif_neg hl]

/-- The taps agree. -/
theorem W_eq (c : Dev nD) (t : Fin cfg0.N) (j l : ℕ) : Wt (iblk m c 2 t) j l = WR (b1 m c) j l := by
  unfold Wt WR
  by_cases h : j < 31 ∧ l < 2048
  · rw [dif_pos h, dif_pos h]; exact w2 m c t _ _
  · rw [dif_neg h, dif_neg h]

/-- So do the sums. -/
theorem ACC_eq (c : Dev nD) (t : Fin cfg0.N) (b : Fin 4) (hb : b.val = (grid0.coords t 0).val) (r l : ℕ) (hr : r < 128) : ∀ n, n ≤ 31 →
    ACC (grid0.coords t) (iblk m c 0 t) (iblk m c 1 t) (iblk m c 2 t) r l n = RACC (b0 m c) (b1 m c) b (128 * (grid0.coords t 1).val + r) l n
  | 0, _ => rfl
  | n + 1, hn => congrArg₂ (· + ·) (ACC_eq c t b hb r l hr n (by omega)) (congrArg₂ (· * ·) (E_eq m c t b hb r n l hr (by omega)) (W_eq m c t n l))

/-- And the convolved rows. -/
theorem CONV_eq (c : Dev nD) (t : Fin cfg0.N) (b : Fin 4) (hb : b.val = (grid0.coords t 0).val) (r : ℕ) (hr : r < 128) :
    CONV (grid0.coords t) (iblk m c 0 t) (iblk m c 1 t) (iblk m c 2 t) (iblk m c 3 t) r = RCONV (b0 m c) (b1 m c) (b2 m c) b (128 * (grid0.coords t 1).val + r) := by
  funext l
  unfold CONV RCONV Bi
  rw [ACC_eq m c t b hb r l hr 31 le_rfl]
  by_cases h : l < 2048
  · rw [dif_pos h, dif_pos h, w3]
  · rw [dif_neg h, dif_neg h]

/-- A stored element is the reference's at the place where its block lies. -/
theorem point (c : Dev nD) (t : Fin cfg0.N) (y : S1x128x2048.Idx) :
    OUT (grid0.coords t) (iblk m c 0 t) (iblk m c 1 t) (iblk m c 2 t) (iblk m c 3 t) (iblk m c 4 t) (iblk m c 5 t) y
      = REF (b0 m c) (b1 m c) (b2 m c) (b3 m c) (b4 m c) (((cfg0.win 6).blk t).view.emb y) := by
  obtain ⟨e0, e1, e2, e3, e4, e5, e6, h0, h1⟩ := idx t
  obtain ⟨z, r, l, rfl⟩ : ∃ (z : Fin 1) (r : Fin 128) (l : Fin 2048), y = ix3 z r l := ⟨y 0, y 1, y 2, by blk_ext []⟩
  obtain rfl : z = 0 := Subsingleton.elim _ _
  have hr := r.isLt
  have hemb : ((cfg0.win 6).blk t).view.emb (ix3 0 r l)
      = ix3 (⟨(grid0.coords t 0).val, by omega⟩ : Fin 4) (⟨128 * (grid0.coords t 1).val + r.val, by omega⟩ : Fin 4096) l := by
    blk_ext [e6]
  refine Eq.trans ?_ (congrArg (REF _ _ _ _ _) hemb).symm
  rw [out_ix, CONV_eq m c t ⟨(grid0.coords t 0).val, by omega⟩ rfl r.val hr, w4, w5]
  rfl

/-- The result array after the run is the reference's term of the arguments. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold outsAt0
  exact (out_at c _ _ _ _ _ _ _ _ _ _ _ _ _ _ _ _ _ _ _ _ _ _ _ _ _ y).trans (point m c t y)

end Cert.Proof.Conv

end
-- ==== Proof.OutRun.lean ====
module

public import proofs.«01_k».proof.Proof.Gen.OutKernel.Frame
public import proofs.«01_k».proof.Proof.Gen.OutKernel.Loops
public import Idealize.ShloMosaic.Lib.Pipeline.DatRel

@[expose] public section

set_option maxRecDepth 16384

noncomputable section

namespace Cert.OutKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [BitOps F]

local notation "𝕄" => MT nD τ sig Unit (Elt F) ℕ (UR sig nD τ) ℕ

/-- Condition 1 of the body, as an equation of the point number. -/
theorem cond1_iff : ∀ t : Fin cfg0.N, k0_cond1 (grid0.coords t) = 1#1 ↔ t.val % 8 = 0 :=
  (by decide +kernel : ∀ t : Fin grid0.N, _)

/-- Condition 2 of the body, as an equation of the point number. -/
theorem cond2_iff : ∀ t : Fin cfg0.N, k0_cond2 (grid0.coords t) = 1#1 ↔ t.val % 8 = 1 :=
  (by decide +kernel : ∀ t : Fin grid0.N, _)

/-- Condition 3 of the body, as an equation of the point number. -/
theorem cond3_iff : ∀ t : Fin cfg0.N, k0_cond3 (grid0.coords t) = 1#1 ↔ t.val % 8 = 2 :=
  (by decide +kernel : ∀ t : Fin grid0.N, _)

/-- Condition 4 of the body, as an equation of the point number. -/
theorem cond4_iff : ∀ t : Fin cfg0.N, k0_cond4 (grid0.coords t) = 1#1 ↔ t.val % 8 = 3 :=
  (by decide +kernel : ∀ t : Fin grid0.N, _)

/-- Condition 5 of the body, as an equation of the point number. -/
theorem cond5_iff : ∀ t : Fin cfg0.N, k0_cond5 (grid0.coords t) = 1#1 ↔ t.val % 8 = 4 :=
  (by decide +kernel : ∀ t : Fin grid0.N, _)

/-- Condition 6 of the body, as an equation of the point number. -/
theorem cond6_iff : ∀ t : Fin cfg0.N, k0_cond6 (grid0.coords t) = 1#1 ↔ t.val % 8 = 5 :=
  (by decide +kernel : ∀ t : Fin grid0.N, _)

/-- Condition 7 of the body, as an equation of the point number. -/
theorem cond7_iff : ∀ t : Fin cfg0.N, k0_cond7 (grid0.coords t) = 1#1 ↔ t.val % 8 = 6 :=
  (by decide +kernel : ∀ t : Fin grid0.N, _)

/-- Condition 8 of the body, as an equation of the point number. -/
theorem cond8_iff : ∀ t : Fin cfg0.N, k0_cond8 (grid0.coords t) = 1#1 ↔ t.val % 8 = 7 :=
  (by decide +kernel : ∀ t : Fin grid0.N, _)

/-- Condition 9 of the body, as an equation of the point number. -/
theorem cond9_iff : ∀ t : Fin cfg0.N, k0_cond9 (grid0.coords t) = 1#1 ↔ t.val % 8 = 7 :=
  (by decide +kernel : ∀ t : Fin grid0.N, _)

set_option maxHeartbeats 8000000 in
/-- The body at a point of column block 0: it runs to the continuation with the inputs as they were and the product
    stored in that block of the first output; the other outputs and the scratch rows stay as found. -/
def run0 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 1: it runs to the continuation with the inputs as they were and the product
    stored in that block of the first output; the other outputs and the scratch rows stay as found. -/
def run1 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 2: it runs to the continuation with the inputs as they were and the product
    stored in that block of the first output; the other outputs and the scratch rows stay as found. -/
def run2 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 3: it runs to the continuation with the inputs as they were and the product
    stored in that block of the first output; the other outputs and the scratch rows stay as found. -/
def run3 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 4: it runs to the continuation with the inputs as they were and the product
    stored in that block of the first output; the other outputs and the scratch rows stay as found. -/
def run4 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 5: it runs to the continuation with the inputs as they were and the product
    stored in that block of the first output; the other outputs and the scratch rows stay as found. -/
def run5 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 6: it runs to the continuation with the inputs as they were and the product
    stored in that block of the first output; the other outputs and the scratch rows stay as found. -/
def run6 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 16000000 in
/-- The body at a point of the last column block: besides the product it normalises the rows and stores them, packs
    them, and stores the routing logits; what it stores in the outputs is found by the run. -/
def run7 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2048 .i32) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1) (h9 : k0_cond9 i = 1#1)
    (Y9 : Vec F S512x4096 .f32) (Y14 : Vec F S512x4096 .bf16) :
    Σ' (L9 : List (View.Piece (Elt F) S512x4096 .f32)), { L11 : List (View.Piece (Elt F) S512x128 .f32) //
      ∀ (Y11 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ owns (c : Thread nD τ) arg13 fullShare Y11 ∗ owns (c : Thread nD τ) arg14 fullShare Y14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ owns (c : Thread nD τ) arg13 fullShare (arg13.view.read (Elt F) (arg13.view.writes (Elt F) (harg13.unread Y11) (L11))) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun Y11 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _; isplitr; swap; · iexact H11
      ipureintro; rfl
    iexists _, _; isplitr; swap; · iexact HS
    ipureintro; rfl

end Cert.OutKernel.Gen

end
-- ==== Proof.OutRunIdeal.lean ====
module

public import proofs.«01_k».proof.Proof.Gen.OutKernelIdeal.Frame
public import proofs.«01_k».proof.Proof.Gen.OutKernelIdeal.Loops
public import Idealize.ShloMosaic.Lib.Pipeline.DatRel

@[expose] public section

set_option maxRecDepth 16384

noncomputable section

namespace Cert.OutKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- Condition 1 of the body, as an equation of the point number. -/
theorem cond1_iff : ∀ t : Fin cfg0.N, k0_cond1 (grid0.coords t) = 1#1 ↔ t.val % 8 = 0 :=
  (by decide +kernel : ∀ t : Fin grid0.N, _)

/-- Condition 2 of the body, as an equation of the point number. -/
theorem cond2_iff : ∀ t : Fin cfg0.N, k0_cond2 (grid0.coords t) = 1#1 ↔ t.val % 8 = 1 :=
  (by decide +kernel : ∀ t : Fin grid0.N, _)

/-- Condition 3 of the body, as an equation of the point number. -/
theorem cond3_iff : ∀ t : Fin cfg0.N, k0_cond3 (grid0.coords t) = 1#1 ↔ t.val % 8 = 2 :=
  (by decide +kernel : ∀ t : Fin grid0.N, _)

/-- Condition 4 of the body, as an equation of the point number. -/
theorem cond4_iff : ∀ t : Fin cfg0.N, k0_cond4 (grid0.coords t) = 1#1 ↔ t.val % 8 = 3 :=
  (by decide +kernel : ∀ t : Fin grid0.N, _)

/-- Condition 5 of the body, as an equation of the point number. -/
theorem cond5_iff : ∀ t : Fin cfg0.N, k0_cond5 (grid0.coords t) = 1#1 ↔ t.val % 8 = 4 :=
  (by decide +kernel : ∀ t : Fin grid0.N, _)

/-- Condition 6 of the body, as an equation of the point number. -/
theorem cond6_iff : ∀ t : Fin cfg0.N, k0_cond6 (grid0.coords t) = 1#1 ↔ t.val % 8 = 5 :=
  (by decide +kernel : ∀ t : Fin grid0.N, _)

/-- Condition 7 of the body, as an equation of the point number. -/
theorem cond7_iff : ∀ t : Fin cfg0.N, k0_cond7 (grid0.coords t) = 1#1 ↔ t.val % 8 = 6 :=
  (by decide +kernel : ∀ t : Fin grid0.N, _)

/-- Condition 8 of the body, as an equation of the point number. -/
theorem cond8_iff : ∀ t : Fin cfg0.N, k0_cond8 (grid0.coords t) = 1#1 ↔ t.val % 8 = 7 :=
  (by decide +kernel : ∀ t : Fin grid0.N, _)

/-- Condition 9 of the body, as an equation of the point number. -/
theorem cond9_iff : ∀ t : Fin cfg0.N, k0_cond9 (grid0.coords t) = 1#1 ↔ t.val % 8 = 7 :=
  (by decide +kernel : ∀ t : Fin grid0.N, _)

set_option maxHeartbeats 8000000 in
/-- The body at a point of column block 0: it runs to the continuation with the inputs as they were and the product
    stored in that block of the first output; the other outputs and the scratch rows stay as found. -/
def run0 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 1: it runs to the continuation with the inputs as they were and the product
    stored in that block of the first output; the other outputs and the scratch rows stay as found. -/
def run1 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 2: it runs to the continuation with the inputs as they were and the product
    stored in that block of the first output; the other outputs and the scratch rows stay as found. -/
def run2 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 3: it runs to the continuation with the inputs as they were and the product
    stored in that block of the first output; the other outputs and the scratch rows stay as found. -/
def run3 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 4: it runs to the continuation with the inputs as they were and the product
    stored in that block of the first output; the other outputs and the scratch rows stay as found. -/
def run4 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 5: it runs to the continuation with the inputs as they were and the product
    stored in that block of the first output; the other outputs and the scratch rows stay as found. -/
def run5 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 8000000 in
/-- The body at a point of column block 6: it runs to the continuation with the inputs as they were and the product
    stored in that block of the first output; the other outputs and the scratch rows stay as found. -/
def run6 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1) (h9 : ¬ k0_cond9 i = 1#1) :
    { L9 : List (View.Piece (Elt F) S512x4096 .f32) //
      ∀ (Y9 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, fun Y9 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS
    ipureintro; rfl

set_option maxHeartbeats 16000000 in
/-- The body at a point of the last column block: besides the product it normalises the rows and stores them, packs
    them, and stores the routing logits; what it stores in the outputs is found by the run. -/
def run7 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole)
    (x0 : Vec F S512x2048 .bf16) (x1 : Vec F S512x2048 .bf16) (x2 : Vec F S2048x512 .bf16) (x3 : Vec F S2048x512 .bf16) (x4 : Vec F S512x512 .f32) (x5 : Vec F S1x4096 .f32) (x6 : Vec F S1x4096 .f32) (x7 : Vec F S4096x128 .bf16) (x8 : Vec F S1x128 .f32)
    (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1) (h9 : k0_cond9 i = 1#1)
    (Y9 : Vec F S512x4096 .f32) (Y14 : Vec F S512x4096 .bf16) :
    Σ' (L9 : List (View.Piece (Elt F) S512x4096 .f32)), { L11 : List (View.Piece (Elt F) S512x128 .f32) //
      ∀ (Y11 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare Y9 ∗ (∃ d, owns (c : Thread nD τ) arg12 fullShare d) ∗ owns (c : Thread nD τ) arg13 fullShare Y11 ∗ owns (c : Thread nD τ) arg14 fullShare Y14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (arg11.view.read (Elt F) (arg11.view.writes (Elt F) (harg11.unread Y9) (L9))) ∗ (∃ d, owns (c : Thread nD τ) arg12 fullShare d) ∗ owns (c : Thread nD τ) arg13 fullShare (arg13.view.read (Elt F) (arg13.view.writes (Elt F) (harg13.unread Y11) (L11))) ∗ (∃ d, owns (c : Thread nD τ) arg14 fullShare d)) -∗ K ⟨⟩))
          ⊢ wp frame (wpE (defs₀ (F := F)) Variants.none c none) E (cc0_out_proj_ln1 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun Y11 E K => ?run⟩
  case run =>
    simp only [cc0_out_proj_ln1_eq_skeleton]; unfold cc0_out_proj_ln1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _, _; isplitr; swap; · iexact H10
      ipureintro; rfl
    isplitl [H11]
    · iexists _; isplitr; swap; · iexact H11
      ipureintro; rfl
    iexists _, _; isplitr; swap; · iexact HS
    ipureintro; rfl

end Cert.OutKernelIdeal.Gen

end
-- ==== Proof.OutFrameIdeal.lean ====
module

public import proofs.«01_k».proof.Proof.OutRunIdeal
public import Idealize.ShloMosaic.Lib.Pipeline.DatRel

@[expose] public section

set_option maxRecDepth 16384

noncomputable section

namespace Cert.OutKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point of column block 0 leaves in the first output's buffer, of what it finds there. -/
def left0 (c : Dev nD) (t : Fin cfg0.N) (ht : t.val % 8 = 0) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) ((cond1_iff t).2 (by omega)) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).1))

/-- What a point of column block 1 leaves in the first output's buffer, of what it finds there. -/
def left1 (c : Dev nD) (t : Fin cfg0.N) (ht : t.val % 8 = 1) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) ((cond2_iff t).2 (by omega)) (fun h => by have := (cond3_iff t).1 h; omega) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).1))

/-- What a point of column block 2 leaves in the first output's buffer, of what it finds there. -/
def left2 (c : Dev nD) (t : Fin cfg0.N) (ht : t.val % 8 = 2) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) ((cond3_iff t).2 (by omega)) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).1))

/-- What a point of column block 3 leaves in the first output's buffer, of what it finds there. -/
def left3 (c : Dev nD) (t : Fin cfg0.N) (ht : t.val % 8 = 3) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) ((cond4_iff t).2 (by omega)) (fun h => by have := (cond5_iff t).1 h; omega) (fun h => by have := (cond6_iff t).1 h; omega) (fun h => by have := (cond7_iff t).1 h; omega) (fun h => by have := (cond8_iff t).1 h; omega) (fun h => by have := (cond9_iff t).1 h; omega)).1))

/-- What a point of column block 4 leaves in the first output's buffer, of what it finds there. -/
def left4 (c : Dev nD) (t : Fin cfg0.N) (ht : t.val % 8 = 4) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) ((cond5_iff t).2 (by omega)) (fun h => by have := (cond6_iff t).1 h; omega) (fun h => by have := (cond7_iff t).1 h; omega) (fun h => by have := (cond8_iff t).1 h; omega) (fun h => by have := (cond9_iff t).1 h; omega)).1))

/-- What a point of column block 5 leaves in the first output's buffer, of what it finds there. -/
def left5 (c : Dev nD) (t : Fin cfg0.N) (ht : t.val % 8 = 5) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) ((cond6_iff t).2 (by omega)) (fun h => by have := (cond7_iff t).1 h; omega) (fun h => by have := (cond8_iff t).1 h; omega) (fun h => by have := (cond9_iff t).1 h; omega)).1))

/-- What a point of column block 6 leaves in the first output's buffer, of what it finds there. -/
def left6 (c : Dev nD) (t : Fin cfg0.N) (ht : t.val % 8 = 6) (Y : Vec F S512x4096 .f32) : Vec F S512x4096 .f32 :=
  (win0_9.stage (cfg0.slots t 9)).view.read (Elt F) ((win0_9.stage (cfg0.slots t 9)).view.writes (Elt F) ((hstage0_9 ((cfg0.slots t 9).cast nbuf0_9)).unread Y) ((run6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) ((cond7_iff t).2 (by omega)) (fun h => by have := (cond8_iff t).1 h; omega) (fun h => by have := (cond9_iff t).1 h; omega)).1))

/-- What a point of the last column block leaves in the first output's buffer, of what it finds there and in the
    scratch rows. -/
def left7 (c : Dev nD) (t : Fin cfg0.N) (ht : t.val % 8 = 7) (Y9 : Vec F S512x4096 .f32) (Y14 : Vec F S512x4096 .bf16) : Vec F S512x4096 .f32 :=
  (win0_9.stage (cfg0.slots t 9)).view.read (Elt F) ((win0_9.stage (cfg0.slots t 9)).view.writes (Elt F) ((hstage0_9 ((cfg0.slots t 9).cast nbuf0_9)).unread Y9) ((run7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) ((cond8_iff t).2 (by omega)) ((cond9_iff t).2 (by omega)) Y9 Y14).1))

/-- What a point of the last column block leaves in the logits' buffer. -/
def logits7 (c : Dev nD) (t : Fin cfg0.N) (ht : t.val % 8 = 7) (Y9 : Vec F S512x4096 .f32) (Y14 : Vec F S512x4096 .bf16) (Y11 : Vec F S512x128 .f32) : Vec F S512x128 .f32 :=
  (win0_11.stage (cfg0.slots t 11)).view.read (Elt F) ((win0_11.stage (cfg0.slots t 11)).view.writes (Elt F) ((hstage0_11 ((cfg0.slots t 11).cast nbuf0_11)).unread Y11) ((run7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) ((cond8_iff t).2 (by omega)) ((cond9_iff t).2 (by omega)) Y9 Y14).2.1))

/-- The point before `t`. -/
abbrev prev (t : Fin cfg0.N) : Fin cfg0.N := ⟨t.val - 1, Nat.lt_of_le_of_lt (Nat.sub_le _ _) t.isLt⟩

/-- Predicates of the first output's and the logits' buffers that the body keeps, point by point. -/
structure Keeps (R9 : Dev nD → Fin cfg0.N → Vec F S512x4096 .f32 → Prop) (R11 : Dev nD → Fin cfg0.N → Vec F S512x128 .f32 → Prop) : Prop where
  s0 : ∀ c t (ht : t.val % 8 = 0) Y, R9 c t (left0 m c t ht Y)
  s1 : ∀ c t (ht : t.val % 8 = 1) Y, R9 c (prev t) Y → R9 c t (left1 m c t ht Y)
  s2 : ∀ c t (ht : t.val % 8 = 2) Y, R9 c (prev t) Y → R9 c t (left2 m c t ht Y)
  s3 : ∀ c t (ht : t.val % 8 = 3) Y, R9 c (prev t) Y → R9 c t (left3 m c t ht Y)
  s4 : ∀ c t (ht : t.val % 8 = 4) Y, R9 c (prev t) Y → R9 c t (left4 m c t ht Y)
  s5 : ∀ c t (ht : t.val % 8 = 5) Y, R9 c (prev t) Y → R9 c t (left5 m c t ht Y)
  s6 : ∀ c t (ht : t.val % 8 = 6) Y, R9 c (prev t) Y → R9 c t (left6 m c t ht Y)
  s7 : ∀ c t (ht : t.val % 8 = 7) Y Y14, R9 c (prev t) Y → R9 c t (left7 m c t ht Y Y14)
  l7 : ∀ c t (ht : t.val % 8 = 7) Y Y14 Y11, R9 c (prev t) Y → R11 c t (logits7 m c t ht Y Y14 Y11)
  l : ∀ c t, t.val % 8 ≠ 7 → ∀ X, R11 c t X

/-- The proof data: the inputs' buffers keep their blocks; nothing is stated here of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun _ => Classical.arbitrary _
    | ⟨10, _⟩ => fun _ => Classical.arbitrary _
    | ⟨11, _⟩ => fun _ => Classical.arbitrary _
  Φ _ := Pipeline.ΦA spec0 c
  q w := fullShare
  owed _ := 0

/-- The data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d

/-- The windows whose contents are held to a predicate: the three outputs. -/
def fgt (w : Fin cfg0.W) : Bool := decide (9 ≤ w.val)

variable (R9 : Dev nD → Fin cfg0.N → Vec F S512x4096 .f32 → Prop) (R11 : Dev nD → Fin cfg0.N → Vec F S512x128 .f32 → Prop)

/-- The predicates of the windows. -/
def Rl (c : Dev nD) (w : Fin cfg0.W) (t : Fin cfg0.N) (X : (cfg0.win w).block.Idx → Elt F (cfg0.win w).elt) : Prop :=
  match w, X with
  | ⟨9, _⟩, X => R9 c t X
  | ⟨11, _⟩, X => R11 c t X
  | _, _ => True

/-- The scratch rows, whole. -/
abbrev scM : Memref sig .tc .vmem S512x4096 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Away from the first column block the body finds in the first output's buffer what the point before left. -/
theorem finds9 (c : Dev nD) (t : Fin cfg0.N) (ht : t.val % 8 ≠ 0) (Y : (cfg0.win 9).block.Idx → Elt F (cfg0.win 9).elt)
    (h : ((dats m 0 c).toRRel fgt (Rl R9 R11 c)).Finds 9 t Y) : R9 c (prev t) Y := by
  have h0 : t.val ≠ 0 := by omega
  rw [RDat.finds_of_pos _ rfl h0] at h
  rcases h with h | h
  · have := (flush0_9 (prev t)).1 h
    have e : (prev t).val = t.val - 1 := rfl
    omega
  · exact (dats m 0 c).toRRel_leaves (w := 9) rfl h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))
    ∗ (∃ Y, ⌜((dats m 0 c).toRRel fgt (Rl R9 R11 c)).Finds 9 t Y⌝ ∗ owns (c : Thread nD τ) (st0_9 t) fullShare Y)
    ∗ (∃ Y, ⌜((dats m 0 c).toRRel fgt (Rl R9 R11 c)).Finds 10 t Y⌝ ∗ owns (c : Thread nD τ) (st0_10 t) fullShare Y)
    ∗ (∃ Y, ⌜((dats m 0 c).toRRel fgt (Rl R9 R11 c)).Finds 11 t Y⌝ ∗ owns (c : Thread nD τ) (st0_11 t) fullShare Y))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t)
    ∗ (∃ X, ⌜Rl R9 R11 c 9 t X⌝ ∗ owns (c : Thread nD τ) (st0_9 t) fullShare X)
    ∗ (∃ X, ⌜Rl R9 R11 c 10 t X⌝ ∗ owns (c : Thread nD τ) (st0_10 t) fullShare X)
    ∗ (∃ X, ⌜Rl R9 R11 c 11 t X⌝ ∗ owns (c : Thread nD τ) (st0_11 t) fullShare X))

set_option maxHeartbeats 1600000 in
theorem body0 (hR : Keeps m R9 R11) (c : Dev nD) (t : Fin cfg0.N) (ht : t.val % 8 = 0) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) ((cond1_iff t).2 (by omega)) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left0 m c t ht Y9); isplitr
    · ipureintro; exact (hR.s0 c t ht Y9)
    iexact H9
  isplitl [H10]
  · iexists _; isplitr; swap; · iexact H10
    ipureintro; trivial
  iexists _; isplitr; swap; · iexact H11
  ipureintro; exact hR.l c t (by omega) _

set_option maxHeartbeats 1600000 in
theorem body1 (hR : Keeps m R9 R11) (c : Dev nD) (t : Fin cfg0.N) (ht : t.val % 8 = 1) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) ((cond2_iff t).2 (by omega)) (fun h => by have := (cond3_iff t).1 h; omega) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left1 m c t ht Y9); isplitr
    · ipureintro; exact (hR.s1 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body2 (hR : Keeps m R9 R11) (c : Dev nD) (t : Fin cfg0.N) (ht : t.val % 8 = 2) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) ((cond3_iff t).2 (by omega)) (fun h => by have := (cond4_iff t).1 h; omega) (fun h => by have := (cond5_iff t).1 h; omega) (fun h => by have := (cond6_iff t).1 h; omega) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left2 m c t ht Y9); isplitr
    · ipureintro; exact (hR.s2 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body3 (hR : Keeps m R9 R11) (c : Dev nD) (t : Fin cfg0.N) (ht : t.val % 8 = 3) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) ((cond4_iff t).2 (by omega)) (fun h => by have := (cond5_iff t).1 h; omega) (fun h => by have := (cond6_iff t).1 h; omega) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left3 m c t ht Y9); isplitr
    · ipureintro; exact (hR.s3 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body4 (hR : Keeps m R9 R11) (c : Dev nD) (t : Fin cfg0.N) (ht : t.val % 8 = 4) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) ((cond5_iff t).2 (by omega)) (fun h => by have := (cond6_iff t).1 h; omega) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left4 m c t ht Y9); isplitr
    · ipureintro; exact (hR.s4 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body5 (hR : Keeps m R9 R11) (c : Dev nD) (t : Fin cfg0.N) (ht : t.val % 8 = 5) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) ((cond6_iff t).2 (by omega)) (fun h => by have := (cond7_iff t).1 h; omega) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left5 m c t ht Y9); isplitr
    · ipureintro; exact (hR.s5 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body6 (hR : Keeps m R9 R11) (c : Dev nD) (t : Fin cfg0.N) (ht : t.val % 8 = 6) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) ((cond7_iff t).2 (by omega)) (fun h => by have := (cond8_iff t).1 h; omega) (fun h => by have := (cond9_iff t).1 h; omega)).2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  iintro ⟨H0, H1, H2, H3, H4, H5, H6, H7, H8, H9, ⟨%e10, H10⟩, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left6 m c t ht Y9); isplitr
    · ipureintro; exact (hR.s6 c t ht Y9 (finds9 m R9 R11 c t (by omega) Y9 hY9))
    iexact H9
  isplitl [H10]
  · iexists _; isplitr; swap; · iexact H10
    ipureintro; trivial
  iexists _; isplitr; swap; · iexact H11
  ipureintro; exact hR.l c t (by omega) _

set_option maxHeartbeats 1600000 in
theorem body7 (hR : Keeps m R9 R11) (c : Dev nD) (t : Fin cfg0.N) (ht : t.val % 8 = 7) :
    bodyPre m R9 R11 c t ⊢ wp frame (wpE (defs₀ (F := F)) Variants.none c none) Set.univ (bodyAt0 t) (fun _ => bodyPost m R9 R11 c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨%Y14, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, -, H10⟩, ⟨%Y11, -, H11⟩⟩
  iapply ((run7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) ((cond8_iff t).2 (by omega)) ((cond9_iff t).2 (by omega)) Y9 Y14).2.2 Y11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS]; · iexact HS
  iintro ⟨H0, H1, H2, H3, H4, H5, H6, H7, H8, H9, ⟨%e10, H10⟩, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (left7 m c t ht Y9 Y14); isplitr
    · ipureintro; exact hR.s7 c t ht Y9 Y14 (finds9 m R9 R11 c t (by omega) Y9 hY9)
    iexact H9
  isplitl [H10]
  · iexists _; isplitr; swap; · iexact H10
    ipureintro; trivial
  iexists (logits7 m c t ht Y9 Y14 Y11); isplitr
  · ipureintro; exact hR.l7 c t ht Y9 Y14 Y11 (finds9 m R9 R11 c t (by omega) Y9 hY9)
  iexact H11

/-- The body at any point. -/
theorem sound_body (hR : Keeps m R9 R11) (c : Dev nD) (t : Fin cfg0.N) :
    bodyPre m R9 R11 c t ⊢ wp frame (wpE (defs₀ (F := F)) Variants.none c none) Set.univ (bodyAt0 t) (fun _ => bodyPost m R9 R11 c t) := by
  have h : t.val % 8 < 8 := Nat.mod_lt _ (by omega)
  rcases (by omega : t.val % 8 = 0 ∨ t.val % 8 = 1 ∨ t.val % 8 = 2 ∨ t.val % 8 = 3 ∨ t.val % 8 = 4 ∨ t.val % 8 = 5 ∨ t.val % 8 = 6 ∨ t.val % 8 = 7) with h | h | h | h | h | h | h | h
  · exact body0 m R9 R11 hR c t h
  · exact body1 m R9 R11 hR c t h
  · exact body2 m R9 R11 hR c t h
  · exact body3 m R9 R11 hR c t h
  · exact body4 m R9 R11 hR c t h
  · exact body5 m R9 R11 hR c t h
  · exact body6 m R9 R11 hR c t h
  · exact body7 m R9 R11 hR c t h

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (hR : Keeps m R9 R11) (c : Dev nD) :
    BodyObligationRel (dats (F := F) m 0 c) (defs₀ (F := F)) Variants.none () Set.univ fgt (Rl R9 R11 c) := fun t => by
  rw [bigSep_W0, bigSep_W0, defs₀_row]
  exact triple_restated (sound_body m R9 R11 hR c t) rfl .rfl fun _ => .rfl

/-- The relational proof data of the run. -/
abbrev rdat (c : Dev nD) : RDat τ (Elt F) Unit ℕ (UR sig nD τ) ℕ cfg0 c := (dats (F := F) m 0 c).toRRel fgt (Rl R9 R11 c)

set_option backward.isDefEq.respectTransparency.types false in
/-- The run of the program: each output's array is made of blocks that meet the predicates, every other array is as the
    region found it, every counter is zero. -/
theorem run_main (hR : Keeps m R9 R11) : θ_run defs (onTc (τ := τ) (main (F := F))) (s₀ m ρ)
    (fun r => RDat.FramePost cfg0 (rdat m R9 R11) (V m) r ∧ r.2.sem = fun _ => 0) :=
  Pipeline.RDat.θ_run_frame (Q' := _) cfgs (0 : Fin 1) launch0 defs₀ Variants.none (rdat m R9 R11) m ρ main
    (hbody := fun c => (body_obligation m R9 R11 hR c).toRRel) (hshare := fun c w => by fin_cases w <;> rfl)
    (howed := fun _ _ => rfl) (V := V m) (hmain := hmain m Variants.none) (hA := A_eq m) (hΦ := fun _ _ => rfl)

/-- The argument arrays end unchanged. -/
theorem args_of {r : PUnit × MemSt nD τ sig (Elt F)}
    (h : RDat.FramePost cfg0 (rdat m R9 R11) (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h.1.arr_in c 0 rfl).trans (V_main_arg0 m c),
    (h.1.arr_in c 1 rfl).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (h.1.arr_in c 5 rfl).trans (V_main_arg4 m c),
    (h.1.arr_in c 6 rfl).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c)⟩

/-- The frame: the program runs, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => args_of m (fun _ _ _ => True) (fun _ _ _ => True) h c, h.2⟩)
    (run_main m ρ (fun _ _ _ => True) (fun _ _ _ => True) ⟨fun _ _ _ _ => trivial, fun _ _ _ _ _ => trivial, fun _ _ _ _ _ => trivial, fun _ _ _ _ _ => trivial, fun _ _ _ _ _ => trivial, fun _ _ _ _ _ => trivial, fun _ _ _ _ _ => trivial, fun _ _ _ _ _ _ => trivial, fun _ _ _ _ _ _ _ => trivial, fun _ _ _ _ => trivial⟩)

end Cert.OutKernelIdeal.Gen

end
-- ==== Proof.OutA.lean ====
/- What the output projection's last column block does: the layer norm of every row, four times sixteen rows a trip. -/
module

public import proofs.«01_k».proof.Proof.OutFrameIdeal
public import Idealize.ShloMosaic.Lib.Pipeline.ValueKit
public import Idealize.ShloMosaic.Lib.StableHlo.ReadAt
public import Idealize.ShloMosaic.Lib.WritesUnit

@[expose] public section

set_option maxRecDepth 16384

noncomputable section

namespace Cert.Proof.Out

open Cert.OutKernelIdeal Cert.OutKernelIdeal.Gen Idealize.ShloMosaic Idealize.ShloMosaic.TcCoe Idealize.SL.Sem

/-- A row's mean. -/
def MU (Y : ℕ → EReal) : EReal := Ideal.div (∑ x : Fin 4096, Y x) (Ideal.ofBits .f32 0x45800000#32)

/-- An element of the row after the layer norm. -/
def NRM (Y : ℕ → EReal) (l : ℕ) (g b : EReal) : EReal :=
  (Y l - MU Y) * Ideal.rsqrt (Ideal.div (∑ x : Fin 4096, (Y x - MU Y) * (Y x - MU Y)) (Ideal.ofBits .f32 0x45800000#32) + Ideal.ofBits .f32 0x3727C5AC#32) * g + b

/-- One form of the layer norm, at an index. -/
theorem norm0 (v : Vec Ideal S16x4096 .f32) (g b : Vec Ideal S1x4096 .f32) (Y : ℕ → EReal) (a : Fin 16) (l : Fin 4096) (hv : ∀ x : Fin 4096, v (ix2 a x) = Y x) :
    (k0_pay11 g b (k0_pay9 v) (k0_pay10 v) : FVec Ideal S16x4096 .f32) (ix2 a l) = NRM Y l (g (ix2 0 l)) (b (ix2 0 l)) := by
  pointwise [k0_pay11, k0_pay9, k0_pay10]
  simp only [hv]
  rfl

/-- One form of the layer norm, at an index. -/
theorem norm1 (v : Vec Ideal S16x4096 .f32) (g b : Vec Ideal S1x4096 .f32) (Y : ℕ → EReal) (a : Fin 16) (l : Fin 4096) (hv : ∀ x : Fin 4096, v (ix2 a x) = Y x) :
    (k0_pay12 (k0_pay6 v) g b : FVec Ideal S16x4096 .f32) (ix2 a l) = NRM Y l (g (ix2 0 l)) (b (ix2 0 l)) := by
  pointwise [k0_pay12, k0_pay6]
  simp only [hv]
  rfl

/-- One form of the layer norm, at an index. -/
theorem norm2 (v : Vec Ideal S16x4096 .f32) (g b : Vec Ideal S1x4096 .f32) (Y : ℕ → EReal) (a : Fin 16) (l : Fin 4096) (hv : ∀ x : Fin 4096, v (ix2 a x) = Y x) :
    (k0_pay14 (k0_pay7 v) g b (k0_pay13 (k0_pay7 v)) : FVec Ideal S16x4096 .f32) (ix2 a l) = NRM Y l (g (ix2 0 l)) (b (ix2 0 l)) := by
  pointwise [k0_pay14, k0_pay13, k0_pay7]
  simp only [hv]
  rfl

/-- One form of the layer norm, at an index. -/
theorem norm3 (v : Vec Ideal S16x4096 .f32) (g b : Vec Ideal S1x4096 .f32) (Y : ℕ → EReal) (a : Fin 16) (l : Fin 4096) (hv : ∀ x : Fin 4096, v (ix2 a x) = Y x) :
    (k0_pay15 (k0_pay8 v) g b : FVec Ideal S16x4096 .f32) (ix2 a l) = NRM Y l (g (ix2 0 l)) (b (ix2 0 l)) := by
  pointwise [k0_pay15, k0_pay8]
  simp only [hv]
  rfl

/-- The rounded copy, at an index: the row itself. -/
theorem round1 (v : FVec Ideal S16x4096 .f32) (a : Fin 16) (l : Fin 4096) : (k0_pay1 v : FVec Ideal S16x4096 .bf16) (ix2 a l) = v (ix2 a l) := by
  pointwise [k0_pay1]

/-- The rounded copy, at an index: the row itself. -/
theorem round2 (v : FVec Ideal S16x4096 .f32) (a : Fin 16) (l : Fin 4096) : (k0_pay2 v : FVec Ideal S16x4096 .bf16) (ix2 a l) = v (ix2 a l) := by
  pointwise [k0_pay2]

/-- The rounded copy, at an index: the row itself. -/
theorem round3 (v : FVec Ideal S16x4096 .f32) (a : Fin 16) (l : Fin 4096) : (k0_pay3 v : FVec Ideal S16x4096 .bf16) (ix2 a l) = v (ix2 a l) := by
  pointwise [k0_pay3]

/-- The rounded copy, at an index: the row itself. -/
theorem round16 (v : FVec Ideal S16x4096 .f32) (a : Fin 16) (l : Fin 4096) : (k0_pay16 v : FVec Ideal S16x4096 .bf16) (ix2 a l) = v (ix2 a l) := by
  pointwise [k0_pay16]

/-- The product of a column block added to the scaled residual, at an index. -/
theorem block_at (v0 : Vec Ideal S512x2048 .bf16) (v1 : Vec Ideal S2048x512 .bf16) (v4 : Vec Ideal S512x2048 .bf16) (v5 : Vec Ideal S2048x512 .bf16) (v9 : Vec Ideal S512x512 .f32) (r l : Fin 512) :
    (k0_pay17 v0 v1 v4 v5 v9 : FVec Ideal S512x512 .f32) (ix2 r l)
      = Ideal.ofBits .f32 0x3F9837F0#32 * v9 (ix2 r l) + ((∑ k : Fin 2048, v0 (ix2 r k) * v1 (ix2 k l)) + ∑ k : Fin 2048, v4 (ix2 r k) * v5 (ix2 k l)) := by
  pointwise [k0_pay17]

/-- The router's product, at an index. -/
theorem logit_at (v43 : Vec Ideal S512x4096 .bf16) (v44 : Vec Ideal S4096x128 .bf16) (v47 : Vec Ideal S1x128 .f32) (r : Fin 512) (l : Fin 128) :
    (k0_pay5 v43 v44 v47 : FVec Ideal S512x128 .f32) (ix2 r l) = (∑ k : Fin 4096, v43 (ix2 r k) * v44 (ix2 k l)) + v47 (ix2 0 l) := by
  pointwise [k0_pay5]

/-- The rows of a trip's four stores. -/
theorem offs : ∀ k : Fin k0_t1_loop.trips, k0_off1 k 0#32 = ![64 * k.val + 0, 0] ∧ k0_off1 k 1#32 = ![64 * k.val + 16, 0]
    ∧ k0_off1 k 2#32 = ![64 * k.val + 32, 0] ∧ k0_off1 k 3#32 = ![64 * k.val + 48, 0] ∧ k.val < 8 := by decide +kernel

/-- Four stores of sixteen rows each, one after another: the buffer's rows of the four are the stored ones, the others what they were. -/
theorem read4 {sg : RefSig} {κ : Kind} {sp : Space} {e : EltTy} {Val : EltTy → Type} (v : View sg κ sp S512x4096 e) (f : v.ty.Contents Val) (k : ℕ) (hk : k < 8)
    (o0 o1 o2 o3 : Fin 2 → ℕ) (i0 : ∀ a, o0 a + S16x4096.size a ≤ S512x4096.size a) (i1 : ∀ a, o1 a + S16x4096.size a ≤ S512x4096.size a) (i2 : ∀ a, o2 a + S16x4096.size a ≤ S512x4096.size a) (i3 : ∀ a, o3 a + S16x4096.size a ≤ S512x4096.size a)
    (h0 : o0 = ![64 * k + 0, 0]) (h1 : o1 = ![64 * k + 16, 0]) (h2 : o2 = ![64 * k + 32, 0]) (h3 : o3 = ![64 * k + 48, 0])
    (w0 : S16x4096.Idx → Val e) (w1 : S16x4096.Idx → Val e) (w2 : S16x4096.Idx → Val e) (w3 : S16x4096.Idx → Val e)
    (G : Fin 512 → Fin 4096 → Val e)
    (e0 : ∀ (a : Fin 16) (l : Fin 4096), w0 (ix2 a l) = G ⟨64 * k + 0 + a.val, by omega⟩ l) (e1 : ∀ (a : Fin 16) (l : Fin 4096), w1 (ix2 a l) = G ⟨64 * k + 16 + a.val, by omega⟩ l) (e2 : ∀ (a : Fin 16) (l : Fin 4096), w2 (ix2 a l) = G ⟨64 * k + 32 + a.val, by omega⟩ l) (e3 : ∀ (a : Fin 16) (l : Fin 4096), w3 (ix2 a l) = G ⟨64 * k + 48 + a.val, by omega⟩ l)
    (r : Fin 512) (l : Fin 4096) :
    v.read Val (v.writes Val f [(⟨Rect.unit (s := S512x4096) o3 S16x4096.size i3, w3⟩ : View.Piece Val S512x4096 e), (⟨Rect.unit (s := S512x4096) o2 S16x4096.size i2, w2⟩ : View.Piece Val S512x4096 e), (⟨Rect.unit (s := S512x4096) o1 S16x4096.size i1, w1⟩ : View.Piece Val S512x4096 e), (⟨Rect.unit (s := S512x4096) o0 S16x4096.size i0, w0⟩ : View.Piece Val S512x4096 e)]) (ix2 r l)
      = if 64 * k ≤ r.val ∧ r.val < 64 * k + 64 then G r l else v.read Val f (ix2 r l) := by
  have hr := r.isLt
  by_cases q3 : 64 * k + 48 ≤ r.val ∧ r.val < 64 * k + 48 + 16
  · rw [if_pos (by omega)]
    refine (View.read_writes_cons_rows_of_mem v f i3 w3 _ (ix2 r l) (ix2 (⟨r.val - (64 * k + 48), by omega⟩ : Fin 16) l) h3 ?_ rfl).trans ((e3 _ _).trans ?_)
    · show r.val = 64 * k + 48 + (r.val - (64 * k + 48)); omega
    · exact congrArg (fun z => G z l) (Fin.ext (by show 64 * k + 48 + (r.val - (64 * k + 48)) = r.val; omega))
  refine (View.read_writes_cons_rows_of_not_mem (W := 16) v f i3 w3 _ (ix2 r l) h3 rfl (by show r.val < 64 * k + 48 ∨ 64 * k + 48 + 16 ≤ r.val; omega)).trans ?_
  by_cases q2 : 64 * k + 32 ≤ r.val ∧ r.val < 64 * k + 32 + 16
  · rw [if_pos (by omega)]
    refine (View.read_writes_cons_rows_of_mem v f i2 w2 _ (ix2 r l) (ix2 (⟨r.val - (64 * k + 32), by omega⟩ : Fin 16) l) h2 ?_ rfl).trans ((e2 _ _).trans ?_)
    · show r.val = 64 * k + 32 + (r.val - (64 * k + 32)); omega
    · exact congrArg (fun z => G z l) (Fin.ext (by show 64 * k + 32 + (r.val - (64 * k + 32)) = r.val; omega))
  refine (View.read_writes_cons_rows_of_not_mem (W := 16) v f i2 w2 _ (ix2 r l) h2 rfl (by show r.val < 64 * k + 32 ∨ 64 * k + 32 + 16 ≤ r.val; omega)).trans ?_
  by_cases q1 : 64 * k + 16 ≤ r.val ∧ r.val < 64 * k + 16 + 16
  · rw [if_pos (by omega)]
    refine (View.read_writes_cons_rows_of_mem v f i1 w1 _ (ix2 r l) (ix2 (⟨r.val - (64 * k + 16), by omega⟩ : Fin 16) l) h1 ?_ rfl).trans ((e1 _ _).trans ?_)
    · show r.val = 64 * k + 16 + (r.val - (64 * k + 16)); omega
    · exact congrArg (fun z => G z l) (Fin.ext (by show 64 * k + 16 + (r.val - (64 * k + 16)) = r.val; omega))
  refine (View.read_writes_cons_rows_of_not_mem (W := 16) v f i1 w1 _ (ix2 r l) h1 rfl (by show r.val < 64 * k + 16 ∨ 64 * k + 16 + 16 ≤ r.val; omega)).trans ?_
  by_cases q0 : 64 * k + 0 ≤ r.val ∧ r.val < 64 * k + 0 + 16
  · rw [if_pos (by omega)]
    refine (View.read_writes_cons_rows_of_mem v f i0 w0 _ (ix2 r l) (ix2 (⟨r.val - (64 * k + 0), by omega⟩ : Fin 16) l) h0 ?_ rfl).trans ((e0 _ _).trans ?_)
    · show r.val = 64 * k + 0 + (r.val - (64 * k + 0)); omega
    · exact congrArg (fun z => G z l) (Fin.ext (by show 64 * k + 0 + (r.val - (64 * k + 0)) = r.val; omega))
  refine (View.read_writes_cons_rows_of_not_mem (W := 16) v f i0 w0 _ (ix2 r l) h0 rfl (by show r.val < 64 * k + 0 ∨ 64 * k + 0 + 16 ≤ r.val; omega)).trans ?_
  rw [if_neg (by omega)]
  rfl

/-- Sixteen rows read at a trip's offset. -/
theorem rows_at {sg : RefSig} {κ : Kind} {sp : Space} {e : EltTy} {Val : EltTy → Type} (v : View sg κ sp S512x4096 e) (f : v.ty.Contents Val) (o : Fin 2 → ℕ) (n : ℕ)
    (inb : ∀ a, o a + S16x4096.size a ≤ S512x4096.size a) (ho : o = ![n, 0]) (a : Fin 16) (l : Fin 4096) (hn : n + a.val < 512) :
    (View.readAt Val v (Rect.unit (s := S512x4096) o S16x4096.size inb).toLoadRect f : S16x4096.Idx → Val e) (ix2 a l) = v.read Val f (ix2 ⟨n + a.val, hn⟩ l) := by
  subst ho
  rw [View.readAt_apply]
  refine congrArg (v.read Val f) ?_
  funext d
  match d with
  | ⟨0, _⟩ => exact Fin.ext (by show n + 1 * (a : ℕ) = n + a.val; omega)
  | ⟨1, _⟩ => exact Fin.ext (by show 0 + 1 * (l : ℕ) = l.val; omega)

/-- One trip: the rows that it normalises, in the output's buffer and in the rounded copy. -/
theorem trip_at (𝒱 : Variants) (c : Dev nD) (bd : Option 𝒱.V) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole) (h9 : k0_cond9 i = 1#1)
    (X7 : BufTy.Contents (Elt Ideal) arg7.view.ty) (X8 : BufTy.Contents (Elt Ideal) arg8.view.ty) (gg bb : Fin 4096 → EReal)
    (hg : ∀ l : Fin 4096, (View.readAt (Elt Ideal) arg7.view (Rect.unit (s := S1x4096) ![0, 0] S1x4096.size inb_S1x4096_S1x4096_0_0).toLoadRect X7 : Vec Ideal S1x4096 .f32) (ix2 0 l) = gg l)
    (hb : ∀ l : Fin 4096, (View.readAt (Elt Ideal) arg8.view (Rect.unit (s := S1x4096) ![0, 0] S1x4096.size inb_S1x4096_S1x4096_0_0).toLoadRect X8 : Vec Ideal S1x4096 .f32) (ix2 0 l) = bb l)
    (Y : ℕ → ℕ → EReal)
    (f11 : BufTy.Contents (Elt Ideal) arg11.view.ty) (f14 : BufTy.Contents (Elt Ideal) arg14.view.ty) (k : Fin k0_t1_loop.trips)
    (hf : ∀ (r : Fin 512) (l : Fin 4096), 64 * k.val ≤ r.val → (arg11.view.read (Elt Ideal) f11 : Vec Ideal S512x4096 .f32) (ix2 r l) = Y r l) (r : Fin 512) (l : Fin 4096) :
    ((arg11.view.read (Elt Ideal) (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 k f11 f14).1) : Vec Ideal S512x4096 .f32) (ix2 r l)
        = if 64 * k.val ≤ r.val ∧ r.val < 64 * k.val + 64 then NRM (Y r) l (gg l) (bb l) else (arg11.view.read (Elt Ideal) f11 : Vec Ideal S512x4096 .f32) (ix2 r l))
      ∧ ((arg14.view.read (Elt Ideal) (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 k f11 f14).2) : Vec Ideal S512x4096 .bf16) (ix2 r l)
        = if 64 * k.val ≤ r.val ∧ r.val < 64 * k.val + 64 then NRM (Y r) l (gg l) (bb l) else (arg14.view.read (Elt Ideal) f14 : Vec Ideal S512x4096 .bf16) (ix2 r l)) := by
  obtain ⟨h0, h1, h2, h3, hk⟩ := offs k
  have q (o : Fin 2 → ℕ) (j : ℕ) (inb : ∀ a, o a + S16x4096.size a ≤ S512x4096.size a) (ho : o = ![64 * k.val + j, 0]) (hj : j ≤ 48) (a : Fin 16) (x : Fin 4096) :
      (View.readAt (Elt Ideal) arg11.view (Rect.unit (s := S512x4096) o S16x4096.size inb).toLoadRect f11 : Vec Ideal S16x4096 .f32) (ix2 a x) = Y (64 * k.val + j + a.val) x :=
    (rows_at arg11.view f11 o (64 * k.val + j) inb ho a x (by omega)).trans (hf _ _ (by show 64 * k.val ≤ 64 * k.val + j + a.val; omega))
  have n0 (a : Fin 16) (x : Fin 4096) : (trip_k0_t1.sl.r_7 i arg7 arg8 arg11 h9 X7 X8 k f11 : FVec Ideal S16x4096 .f32) (ix2 a x) = NRM (Y (64 * k.val + 0 + a.val)) x (gg x) (bb x) := by
    refine (norm0 _ _ _ (Y (64 * k.val + 0 + a.val)) a x (q _ 0 _ h0 (by omega) a)).trans ?_
    exact congrArg₂ (NRM (Y (64 * k.val + 0 + a.val)) x) (hg x) (hb x)
  have n1 (a : Fin 16) (x : Fin 4096) : (trip_k0_t1.sl.r_8 i arg7 arg8 arg11 h9 X7 X8 k f11 : FVec Ideal S16x4096 .f32) (ix2 a x) = NRM (Y (64 * k.val + 16 + a.val)) x (gg x) (bb x) := by
    refine (norm1 _ _ _ (Y (64 * k.val + 16 + a.val)) a x (q _ 16 _ h1 (by omega) a)).trans ?_
    exact congrArg₂ (NRM (Y (64 * k.val + 16 + a.val)) x) (hg x) (hb x)
  have n2 (a : Fin 16) (x : Fin 4096) : (trip_k0_t1.sl.r_10 i arg7 arg8 arg11 h9 X7 X8 k f11 : FVec Ideal S16x4096 .f32) (ix2 a x) = NRM (Y (64 * k.val + 32 + a.val)) x (gg x) (bb x) := by
    refine (norm2 _ _ _ (Y (64 * k.val + 32 + a.val)) a x (q _ 32 _ h2 (by omega) a)).trans ?_
    exact congrArg₂ (NRM (Y (64 * k.val + 32 + a.val)) x) (hg x) (hb x)
  have n3 (a : Fin 16) (x : Fin 4096) : (trip_k0_t1.sl.r_11 i arg7 arg8 arg11 h9 X7 X8 k f11 : FVec Ideal S16x4096 .f32) (ix2 a x) = NRM (Y (64 * k.val + 48 + a.val)) x (gg x) (bb x) := by
    refine (norm3 _ _ _ (Y (64 * k.val + 48 + a.val)) a x (q _ 48 _ h3 (by omega) a)).trans ?_
    exact congrArg₂ (NRM (Y (64 * k.val + 48 + a.val)) x) (hg x) (hb x)
  unfold tripL_k0_t1 trip_k0_t1
  dsimp only
  constructor
  · exact read4 arg11.view f11 k.val hk _ _ _ _ _ _ _ _ h0 h1 h2 h3 _ _ _ _ (fun r l => NRM (Y r) l (gg l) (bb l)) n0 n1 n2 n3 r l
  · exact read4 arg14.view f14 k.val hk _ _ _ _ _ _ _ _ h0 h1 h2 h3 _ _ _ _ (fun r l => NRM (Y r) l (gg l) (bb l))
      (fun a x => (round16 _ a x).trans (n0 a x)) (fun a x => (round1 _ a x).trans (n1 a x)) (fun a x => (round2 _ a x).trans (n2 a x)) (fun a x => (round3 _ a x).trans (n3 a x)) r l

/-- The first `n` trips: the rows below are normalised, the others what they were. -/
theorem trips_at (𝒱 : Variants) (c : Dev nD) (bd : Option 𝒱.V) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S4096x128 .bf16) (harg9 : arg9.IsWhole) (arg10 : Memref sig .tc .vmem S1x128 .f32) (harg10 : arg10.IsWhole) (arg11 : Memref sig .tc .vmem S512x4096 .f32) (harg11 : arg11.IsWhole) (arg12 : Memref sig .tc .vmem S512x2x2048 .bf16) (harg12 : arg12.IsWhole) (arg13 : Memref sig .tc .vmem S512x128 .f32) (harg13 : arg13.IsWhole) (arg14 : Memref sig .tc .vmem S512x4096 .bf16) (harg14 : arg14.IsWhole) (h9 : k0_cond9 i = 1#1)
    (X7 : BufTy.Contents (Elt Ideal) arg7.view.ty) (X8 : BufTy.Contents (Elt Ideal) arg8.view.ty) (gg bb : Fin 4096 → EReal)
    (hg : ∀ l : Fin 4096, (View.readAt (Elt Ideal) arg7.view (Rect.unit (s := S1x4096) ![0, 0] S1x4096.size inb_S1x4096_S1x4096_0_0).toLoadRect X7 : Vec Ideal S1x4096 .f32) (ix2 0 l) = gg l)
    (hb : ∀ l : Fin 4096, (View.readAt (Elt Ideal) arg8.view (Rect.unit (s := S1x4096) ![0, 0] S1x4096.size inb_S1x4096_S1x4096_0_0).toLoadRect X8 : Vec Ideal S1x4096 .f32) (ix2 0 l) = bb l)
    (Y : ℕ → ℕ → EReal)
    (G11 : BufTy.Contents (Elt Ideal) arg11.view.ty) (G14 : BufTy.Contents (Elt Ideal) arg14.view.ty)
    (hG : ∀ (r : Fin 512) (l : Fin 4096), (arg11.view.read (Elt Ideal) G11 : Vec Ideal S512x4096 .f32) (ix2 r l) = Y r l) (n : ℕ) (hn : n ≤ k0_t1_loop.trips) :
    (∀ (r : Fin 512) (l : Fin 4096), (arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 G11 G14 n).1) : Vec Ideal S512x4096 .f32) (ix2 r l)
        = if r.val < 64 * n then NRM (Y r) l (gg l) (bb l) else Y r l)
      ∧ ∀ (r : Fin 512) (l : Fin 4096), r.val < 64 * n → (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 G11 G14 n).2) : Vec Ideal S512x4096 .bf16) (ix2 r l)
        = NRM (Y r) l (gg l) (bb l) := by
  induction n with
  | zero => exact ⟨fun r l => by rw [if_neg (by omega)]; exact hG r l, fun r l h => absurd h (by omega)⟩
  | succ n ih =>
    obtain ⟨i1, i2⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 G11 G14 ⟨n, hn⟩
    have s := trip_at 𝒱 c bd i arg2 harg2 arg3 harg3 arg4 harg4 arg5 harg5 arg6 harg6 arg7 harg7 arg8 harg8 arg9 harg9 arg10 harg10 arg11 harg11 arg12 harg12 arg13 harg13 arg14 harg14 h9 X7 X8 gg bb hg hb Y (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 G11 G14 n).1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h9 X7 X8 G11 G14 n).2) ⟨n, hn⟩
      (fun r l h => (i1 r l).trans (if_neg (by have : 64 * n ≤ r.val := h; omega)))
    rw [show n + 1 = (⟨n, hn⟩ : Fin k0_t1_loop.trips).val + 1 from rfl, e]
    refine ⟨fun r l => ?_, fun r l h => ?_⟩
    · rw [View.writes_append]
      refine ((s r l).1).trans ?_
      show (if 64 * n ≤ r.val ∧ r.val < 64 * n + 64 then _ else _) = if r.val < 64 * (n + 1) then _ else _
      by_cases h : 64 * n ≤ r.val ∧ r.val < 64 * n + 64
      · rw [if_pos h, if_pos (by omega)]
      · rw [if_neg h]
        refine (i1 r l).trans ?_
        by_cases h' : r.val < 64 * n
        · rw [if_pos h', if_pos (by omega)]
        · rw [if_neg h', if_neg (by omega)]
    · rw [View.writes_append]
      refine ((s r l).2).trans ?_
      show (if 64 * n ≤ r.val ∧ r.val < 64 * n + 64 then _ else _) = _
      have h : r.val < 64 * (n + 1) := h
      by_cases h' : 64 * n ≤ r.val ∧ r.val < 64 * n + 64
      · rw [if_pos h']
      · rw [if_neg h']
        exact i2 r l (by omega)

end Cert.Proof.Out

end
-- ==== Proof.OutB.lean ====
/- What the output projection's windows hold, and the values that its body computes of them. -/
module

public import proofs.«01_k».proof.Proof.OutA

@[expose] public section

set_option maxRecDepth 16384

noncomputable section

namespace Cert.Proof.Out

open Cert.OutKernelIdeal Cert.OutKernelIdeal.Gen Idealize.ShloMosaic Idealize.ShloMosaic.TcCoe Idealize.SL.Sem

variable (m : (ℓ : Loc nD τ sig) → Buf (Elt Ideal) ℓ)

/-- The residual, scaled, plus the two halves' products: what the layer norm is taken of. -/
def Z (conv attn : FVec Ideal S16384x2048 .bf16) (w : FVec Ideal S1x4096x4096 .f32) (x : FVec Ideal S4x4096x4096 .f32) (n : Fin 16384) (l : Fin 4096) : EReal :=
  Ideal.ofBits .f32 0x3F9837F0#32 * x (ix3 ⟨n.val / 4096, by omega⟩ ⟨n.val % 4096, by omega⟩ l)
    + ((∑ k : Fin 2048, conv (ix2 n k) * w (ix3 0 ⟨k.val, by omega⟩ l)) + ∑ k : Fin 2048, attn (ix2 n k) * w (ix3 0 ⟨2048 + k.val, by omega⟩ l))

/-- The same at natural numbers. -/
def YR (conv attn : FVec Ideal S16384x2048 .bf16) (w : FVec Ideal S1x4096x4096 .f32) (x : FVec Ideal S4x4096x4096 .f32) (n l : ℕ) : EReal :=
  Z conv attn w x ⟨n % 16384, by omega⟩ ⟨l % 4096, by omega⟩

/-- The two agree. -/
theorem yr_eq (conv attn : FVec Ideal S16384x2048 .bf16) (w : FVec Ideal S1x4096x4096 .f32) (x : FVec Ideal S4x4096x4096 .f32) (n : Fin 16384) (l : Fin 4096) :
    YR conv attn w x n l = Z conv attn w x n l :=
  congrArg₂ (Z conv attn w x) (Fin.ext (Nat.mod_eq_of_lt n.isLt)) (Fin.ext (Nat.mod_eq_of_lt l.isLt))

/-- The row's element after the layer norm. -/
def H (conv attn : FVec Ideal S16384x2048 .bf16) (w : FVec Ideal S1x4096x4096 .f32) (x : FVec Ideal S4x4096x4096 .f32) (g b : FVec Ideal S1x4096 .f32) (n : ℕ) (l : Fin 4096) : EReal :=
  NRM (YR conv attn w x n) l (g (ix2 0 l)) (b (ix2 0 l))

/-- The routers' weights, side by side, with zero columns after them. -/
def WR (wg : FVec Ideal S1x4096x4 .f32) (we : FVec Ideal S1x4096x32 .f32) (k : Fin 4096) (l : Fin 128) : EReal :=
  if h : l.val < 4 then wg (ix3 0 k ⟨l.val, h⟩) else if h' : l.val < 36 then we (ix3 0 k ⟨l.val - 4, by omega⟩) else 0

/-- The routers' biases likewise. -/
def BR (bg : FVec Ideal S1x4 .f32) (be : FVec Ideal S1x32 .f32) (l : Fin 128) : EReal :=
  if h : l.val < 4 then bg (ix2 0 ⟨l.val, h⟩) else if h' : l.val < 36 then be (ix2 0 ⟨l.val - 4, by omega⟩) else 0

/-- The windows' block indices at every grid point. -/
theorem idx : ∀ t : Fin cfg0.N, win0_0.index t = ![t.val / 8, 0] ∧ win0_1.index t = ![t.val / 8, 0] ∧ win0_2.index t = ![0, t.val % 8]
    ∧ win0_3.index t = ![0, t.val % 8] ∧ win0_4.index t = ![t.val / 8, t.val % 8] ∧ win0_5.index t = ![0, 0] ∧ win0_6.index t = ![0, 0]
    ∧ win0_7.index t = ![0, 0] ∧ win0_8.index t = ![0, 0] ∧ win0_9.index t = ![t.val / 8, 0] ∧ win0_11.index t = ![t.val / 8, 0] ∧ t.val < 256 :=
  (by decide +kernel : ∀ t : Fin grid0.N, _)

/-- The integer zero read as a float is zero. -/
theorem sitofp_zero (φ : FTy) : (FloatOps.sitofp φ (0#32) : Ideal φ) = (0 : EReal) := by
  show (((0#32 : BitVec 32).toInt : ℝ) : EReal) = 0
  simp

/-- The weights' upper half. -/
theorem v12_at (c : Dev nD) (k : Fin 2048) (l : Fin 4096) : (V m c main_v12 : FVec Ideal S2048x4096 .bf16) (ix2 k l)
    = (m ((c : Thread nD τ).loc main_arg2) : FVec Ideal S1x4096x4096 .f32) (ix3 0 ⟨k.val, by omega⟩ l) := by
  unfold V
  simp only [hostOps0, hostOps0_1, hostOps0_2, hostOps0_3, hostOps0_4, List.flatten_cons, List.flatten_nil, List.append_nil, List.cons_append, List.nil_append]
  after_reads_at

/-- The weights' lower half. -/
theorem v15_at (c : Dev nD) (k : Fin 2048) (l : Fin 4096) : (V m c main_v15 : FVec Ideal S2048x4096 .bf16) (ix2 k l)
    = (m ((c : Thread nD τ).loc main_arg2) : FVec Ideal S1x4096x4096 .f32) (ix3 0 ⟨2048 + k.val, by omega⟩ l) := by
  unfold V
  simp only [hostOps0, hostOps0_1, hostOps0_2, hostOps0_3, hostOps0_4, List.flatten_cons, List.flatten_nil, List.append_nil, List.cons_append, List.nil_append]
  after_reads_at

/-- The residual as rows. -/
theorem v16_at (c : Dev nD) (n : Fin 16384) (l : Fin 4096) : (V m c main_v16 : FVec Ideal S16384x4096 .f32) (ix2 n l)
    = (m ((c : Thread nD τ).loc main_arg3) : FVec Ideal S4x4096x4096 .f32) (ix3 ⟨n.val / 4096, by omega⟩ ⟨n.val % 4096, by omega⟩ l) := by
  unfold V
  simp only [hostOps0, hostOps0_1, hostOps0_2, hostOps0_3, hostOps0_4, List.flatten_cons, List.flatten_nil, List.append_nil, List.cons_append, List.nil_append]
  after_reads_at

/-- The routers' weights, padded. -/
theorem v4_at (c : Dev nD) (k : Fin 4096) (l : Fin 128) : (V m c main_v4 : FVec Ideal S4096x128 .bf16) (ix2 k l)
    = WR (m ((c : Thread nD τ).loc main_arg6)) (m ((c : Thread nD τ).loc main_arg8)) k l := by
  unfold V
  simp only [hostOps0, hostOps0_1, hostOps0_2, hostOps0_3, hostOps0_4, List.flatten_cons, List.flatten_nil, List.append_nil, List.cons_append, List.nil_append]
  after_reads_at
  unfold WR
  by_cases h : l.val < 4
  · simp only [dif_pos h, dif_pos (show l.val < 36 by omega)]
    after_reads_at
  · by_cases h' : l.val < 36
    · simp only [dif_neg h, dif_pos h']
      after_reads_at
    · simp only [dif_neg h, dif_neg h']
      exact sitofp_zero _

/-- The routers' biases, padded. -/
theorem v9_at (c : Dev nD) (l : Fin 128) : (V m c main_v9 : FVec Ideal S1x128 .f32) (ix2 0 l)
    = BR (m ((c : Thread nD τ).loc main_arg7)) (m ((c : Thread nD τ).loc main_arg9)) l := by
  unfold V
  simp only [hostOps0, hostOps0_1, hostOps0_2, hostOps0_3, hostOps0_4, List.flatten_cons, List.flatten_nil, List.append_nil, List.cons_append, List.nil_append]
  after_reads_at
  unfold BR
  by_cases h : l.val < 4
  · simp only [dif_pos h, dif_pos (show l.val < 36 by omega)]
    after_reads_at
  · by_cases h' : l.val < 36
    · simp only [dif_neg h, dif_pos h']
      after_reads_at
    · simp only [dif_neg h, dif_neg h']
      exact sitofp_zero _

/-- The convolution's rows of a point. -/
theorem x0 (c : Dev nD) (t : Fin cfg0.N) (r : Fin 512) (k : Fin 2048) (n : Fin 16384) (hn : n.val = 512 * (t.val / 8) + r.val) :
    (iblk m c 0 t : FVec Ideal S512x2048 .bf16) (ix2 r k) = (m ((c : Thread nD τ).loc main_arg0) : FVec Ideal S16384x2048 .bf16) (ix2 n k) := by
  obtain ⟨e0, e1, e2, e3, e4, e5, e6, e7, e8, e9, e11, ht⟩ := idx t
  have hemb : ((cfg0.win 0).blk t).view.emb (ix2 r k) = ix2 n k := by blk_ext [e0]
  refine (congrArg (V m c main_arg0) hemb).trans ?_
  unfold V
  simp only [hostOps0, hostOps0_1, hostOps0_2, hostOps0_3, hostOps0_4, List.flatten_cons, List.flatten_nil, List.append_nil, List.cons_append, List.nil_append]
  after_reads_at

/-- The attention's rows of a point. -/
theorem x1 (c : Dev nD) (t : Fin cfg0.N) (r : Fin 512) (k : Fin 2048) (n : Fin 16384) (hn : n.val = 512 * (t.val / 8) + r.val) :
    (iblk m c 1 t : FVec Ideal S512x2048 .bf16) (ix2 r k) = (m ((c : Thread nD τ).loc main_arg1) : FVec Ideal S16384x2048 .bf16) (ix2 n k) := by
  obtain ⟨e0, e1, e2, e3, e4, e5, e6, e7, e8, e9, e11, ht⟩ := idx t
  have hemb : ((cfg0.win 1).blk t).view.emb (ix2 r k) = ix2 n k := by blk_ext [e1]
  refine (congrArg (V m c main_arg1) hemb).trans ?_
  unfold V
  simp only [hostOps0, hostOps0_1, hostOps0_2, hostOps0_3, hostOps0_4, List.flatten_cons, List.flatten_nil, List.append_nil, List.cons_append, List.nil_append]
  after_reads_at

/-- The upper weights' columns of a point. -/
theorem x2 (c : Dev nD) (t : Fin cfg0.N) (k : Fin 2048) (l : Fin 512) (n : Fin 4096) (hn : n.val = 512 * (t.val % 8) + l.val) :
    (iblk m c 2 t : FVec Ideal S2048x512 .bf16) (ix2 k l) = (m ((c : Thread nD τ).loc main_arg2) : FVec Ideal S1x4096x4096 .f32) (ix3 0 ⟨k.val, by omega⟩ n) := by
  obtain ⟨e0, e1, e2, e3, e4, e5, e6, e7, e8, e9, e11, ht⟩ := idx t
  have hemb : ((cfg0.win 2).blk t).view.emb (ix2 k l) = ix2 k n := by blk_ext [e2]
  exact (congrArg (V m c main_v12) hemb).trans (v12_at m c k n)

/-- The lower weights' columns of a point. -/
theorem x3 (c : Dev nD) (t : Fin cfg0.N) (k : Fin 2048) (l : Fin 512) (n : Fin 4096) (hn : n.val = 512 * (t.val % 8) + l.val) :
    (iblk m c 3 t : FVec Ideal S2048x512 .bf16) (ix2 k l) = (m ((c : Thread nD τ).loc main_arg2) : FVec Ideal S1x4096x4096 .f32) (ix3 0 ⟨2048 + k.val, by omega⟩ n) := by
  obtain ⟨e0, e1, e2, e3, e4, e5, e6, e7, e8, e9, e11, ht⟩ := idx t
  have hemb : ((cfg0.win 3).blk t).view.emb (ix2 k l) = ix2 k n := by blk_ext [e3]
  exact (congrArg (V m c main_v15) hemb).trans (v15_at m c k n)

/-- The residual's block of a point. -/
theorem x4 (c : Dev nD) (t : Fin cfg0.N) (r l : Fin 512) (n : Fin 16384) (q : Fin 4096) (hn : n.val = 512 * (t.val / 8) + r.val) (hq : q.val = 512 * (t.val % 8) + l.val) :
    (iblk m c 4 t : FVec Ideal S512x512 .f32) (ix2 r l)
      = (m ((c : Thread nD τ).loc main_arg3) : FVec Ideal S4x4096x4096 .f32) (ix3 ⟨n.val / 4096, by omega⟩ ⟨n.val % 4096, by omega⟩ q) := by
  obtain ⟨e0, e1, e2, e3, e4, e5, e6, e7, e8, e9, e11, ht⟩ := idx t
  have hemb : ((cfg0.win 4).blk t).view.emb (ix2 r l) = ix2 n q := by blk_ext [e4]
  exact (congrArg (V m c main_v16) hemb).trans (v16_at m c n q)

/-- The layer norm's gain. -/
theorem x5 (c : Dev nD) (t : Fin cfg0.N) (l : Fin 4096) :
    (iblk m c 5 t : FVec Ideal S1x4096 .f32) (ix2 0 l) = (m ((c : Thread nD τ).loc main_arg4) : FVec Ideal S1x4096 .f32) (ix2 0 l) := by
  obtain ⟨e0, e1, e2, e3, e4, e5, e6, e7, e8, e9, e11, ht⟩ := idx t
  have hemb : ((cfg0.win 5).blk t).view.emb (ix2 0 l) = ix2 0 l := by blk_ext [e5]
  refine (congrArg (V m c main_arg4) hemb).trans ?_
  unfold V
  simp only [hostOps0, hostOps0_1, hostOps0_2, hostOps0_3, hostOps0_4, List.flatten_cons, List.flatten_nil, List.append_nil, List.cons_append, List.nil_append]
  after_reads_at

/-- The layer norm's offset. -/
theorem x6 (c : Dev nD) (t : Fin cfg0.N) (l : Fin 4096) :
    (iblk m c 6 t : FVec Ideal S1x4096 .f32) (ix2 0 l) = (m ((c : Thread nD τ).loc main_arg5) : FVec Ideal S1x4096 .f32) (ix2 0 l) := by
  obtain ⟨e0, e1, e2, e3, e4, e5, e6, e7, e8, e9, e11, ht⟩ := idx t
  have hemb : ((cfg0.win 6).blk t).view.emb (ix2 0 l) = ix2 0 l := by blk_ext [e6]
  refine (congrArg (V m c main_arg5) hemb).trans ?_
  unfold V
  simp only [hostOps0, hostOps0_1, hostOps0_2, hostOps0_3, hostOps0_4, List.flatten_cons, List.flatten_nil, List.append_nil, List.cons_append, List.nil_append]
  after_reads_at

/-- The routers' weights. -/
theorem x7 (c : Dev nD) (t : Fin cfg0.N) (k : Fin 4096) (l : Fin 128) :
    (iblk m c 7 t : FVec Ideal S4096x128 .bf16) (ix2 k l) = WR (m ((c : Thread nD τ).loc main_arg6)) (m ((c : Thread nD τ).loc main_arg8)) k l := by
  obtain ⟨e0, e1, e2, e3, e4, e5, e6, e7, e8, e9, e11, ht⟩ := idx t
  have hemb : ((cfg0.win 7).blk t).view.emb (ix2 k l) = ix2 k l := by blk_ext [e7]
  exact (congrArg (V m c main_v4) hemb).trans (v4_at m c k l)

/-- The routers' biases. -/
theorem x8 (c : Dev nD) (t : Fin cfg0.N) (l : Fin 128) :
    (iblk m c 8 t : FVec Ideal S1x128 .f32) (ix2 0 l) = BR (m ((c : Thread nD τ).loc main_arg7)) (m ((c : Thread nD τ).loc main_arg9)) l := by
  obtain ⟨e0, e1, e2, e3, e4, e5, e6, e7, e8, e9, e11, ht⟩ := idx t
  have hemb : ((cfg0.win 8).blk t).view.emb (ix2 0 l) = ix2 0 l := by blk_ext [e8]
  exact (congrArg (V m c main_v9) hemb).trans (v9_at m c l)

/-- The row that a point's `r` is, of the program's arguments. -/
abbrev YM (c : Dev nD) (t : Fin cfg0.N) (r l : ℕ) : EReal :=
  YR (m ((c : Thread nD τ).loc main_arg0)) (m ((c : Thread nD τ).loc main_arg1)) (m ((c : Thread nD τ).loc main_arg2)) (m ((c : Thread nD τ).loc main_arg3)) (512 * (t.val / 8) + r) l

/-- The product block of given operands. -/
theorem point_gen (conv attn : FVec Ideal S16384x2048 .bf16) (w : FVec Ideal S1x4096x4096 .f32) (x : FVec Ideal S4x4096x4096 .f32) (n : Fin 16384) (q : Fin 4096) (r l : Fin 512)
    (v0 : Vec Ideal S512x2048 .bf16) (v1 : Vec Ideal S2048x512 .bf16) (v4 : Vec Ideal S512x2048 .bf16) (v5 : Vec Ideal S2048x512 .bf16) (v9 : Vec Ideal S512x512 .f32)
    (h0 : ∀ k : Fin 2048, v0 (ix2 r k) = conv (ix2 n k)) (h1 : ∀ k : Fin 2048, v1 (ix2 k l) = w (ix3 0 ⟨k.val, by omega⟩ q))
    (h4 : ∀ k : Fin 2048, v4 (ix2 r k) = attn (ix2 n k)) (h5 : ∀ k : Fin 2048, v5 (ix2 k l) = w (ix3 0 ⟨2048 + k.val, by omega⟩ q))
    (h9 : v9 (ix2 r l) = x (ix3 ⟨n.val / 4096, by omega⟩ ⟨n.val % 4096, by omega⟩ q)) :
    (k0_pay17 v0 v1 v4 v5 v9 : FVec Ideal S512x512 .f32) (ix2 r l) = Z conv attn w x n q := by
  refine (block_at v0 v1 v4 v5 v9 r l).trans ?_
  unfold Z
  rw [h9]
  simp only [h0, h1, h4, h5]

/-- A point's product block holds its columns of the rows. -/
theorem point_at (c : Dev nD) (t : Fin cfg0.N) (r l : Fin 512) (q : Fin 4096) (hq : q.val = 512 * (t.val % 8) + l.val) :
    (k0_pay17 (iblk m c 0 t) (iblk m c 2 t) (iblk m c 1 t) (iblk m c 3 t) (iblk m c 4 t) : FVec Ideal S512x512 .f32) (ix2 r l) = YM m c t r q := by
  obtain ⟨e0, e1, e2, e3, e4, e5, e6, e7, e8, e9, e11, ht⟩ := idx t
  have hr := r.isLt
  obtain ⟨n, hn⟩ : ∃ n : Fin 16384, n.val = 512 * (t.val / 8) + r.val := ⟨⟨512 * (t.val / 8) + r.val, by omega⟩, rfl⟩
  unfold YM
  rw [← hn]
  exact (point_gen _ _ _ _ n q r l _ _ _ _ _ (fun k => x0 m c t r k n hn) (fun k => x2 m c t k l q hq) (fun k => x1 m c t r k n hn)
    (fun k => x3 m c t k l q hq) (x4 m c t r l n q hn hq)).trans (yr_eq _ _ _ _ n q).symm

/-- A buffer's whole rank-two contents, read at the origin. -/
theorem read_all {sg : RefSig} {sp : Space} {d : Fin 2 → ℕ} {e : EltTy} (M : Memref sg .tc sp (⟨2, d⟩ : Shape) e) (hM : M.IsWhole) (x : Vec Ideal (⟨2, d⟩ : Shape) e)
    (inb : ∀ a : Fin 2, (![0, 0] : Fin 2 → ℕ) a + d a ≤ d a) :
    View.readAt (Elt Ideal) M.view (Rect.unit (s := (⟨2, d⟩ : Shape)) ![0, 0] d inb).toLoadRect (hM.unread x) = x := by
  funext y
  rw [View.readAt_apply, hM.read_unread x]
  refine congrArg x ?_
  funext a
  match a with
  | ⟨0, _⟩ => exact Fin.ext (by show 0 + 1 * (y 0 : ℕ) = (y 0 : ℕ); omega)
  | ⟨1, _⟩ => exact Fin.ext (by show 0 + 1 * (y 1 : ℕ) = (y 1 : ℕ); omega)

/-- A column block's store over columns that already hold `G`. -/
theorem col_store {sg : RefSig} {κ : Kind} {sp : Space} {e : EltTy} {Val : EltTy → Type} (v : View sg κ sp S512x4096 e) (f : v.ty.Contents Val) (n : ℕ)
    (o : Fin 2 → ℕ) (inb : ∀ a, o a + (![512, 512] : Fin 2 → ℕ) a ≤ S512x4096.size a) (ho : o = ![0, n]) (w : S512x512.Idx → Val e) (G : Fin 512 → Fin 4096 → Val e)
    (hf : ∀ (r : Fin 512) (l : Fin 4096), l.val < n → v.read Val f (ix2 r l) = G r l)
    (hw : ∀ (r l : Fin 512) (q : Fin 4096), q.val = n + l.val → w (ix2 r l) = G r q) (r : Fin 512) (l : Fin 4096) (hl : l.val < n + 512) :
    v.read Val (v.writes Val f [(⟨Rect.unit (s := S512x4096) o ![512, 512] inb, w⟩ : View.Piece Val S512x4096 e)]) (ix2 r l) = G r l := by
  by_cases h : l.val < n
  · refine (View.read_writes_cons_unit_of_not_mem (s := S512x4096) (off' := ![0, n]) v f inb w [] (ix2 r l) ho (1 : Fin 2) ?_).trans (hf r l h)
    show l.val < n ∨ n + 512 ≤ l.val
    omega
  · refine (View.read_writes_cons_unit_of_mem (s := S512x4096) (off' := ![0, n]) v f inb w [] (ix2 r l) (ix2 r (⟨l.val - n, by omega⟩ : Fin 512)) ho ?_).trans ?_
    · intro a
      match a with
      | ⟨0, _⟩ => show r.val = 0 + r.val; omega
      | ⟨1, _⟩ => show l.val = n + (l.val - n); omega
    · exact hw r _ l (by show l.val = n + (l.val - n); omega)

/-- After a column block's store the buffer holds the rows' columns up to its own. -/
theorem step (c : Dev nD) (t : Fin cfg0.N) (n : ℕ) (hn : 512 * (t.val % 8) = n) (M : Memref sig .tc .vmem S512x4096 .f32) (hM : M.IsWhole) (Y : Vec Ideal S512x4096 .f32)
    (w : FVec Ideal S512x512 .f32) (hw : w = k0_pay17 (iblk m c 0 t) (iblk m c 2 t) (iblk m c 1 t) (iblk m c 3 t) (iblk m c 4 t))
    (o : Fin 2 → ℕ) (inb : ∀ a, o a + (![512, 512] : Fin 2 → ℕ) a ≤ S512x4096.size a) (ho : o = ![0, n])
    (hY : ∀ (r : Fin 512) (l : Fin 4096), l.val < n → Y (ix2 r l) = YM m c t r l) (r : Fin 512) (l : Fin 4096) (hl : l.val < n + 512) :
    (M.view.read (Elt Ideal) (M.view.writes (Elt Ideal) (hM.unread Y) [⟨Rect.unit (s := S512x4096) o ![512, 512] inb, w⟩]) : Vec Ideal S512x4096 .f32) (ix2 r l) = YM m c t r l :=
  col_store M.view (hM.unread Y) n o inb ho w (fun r l => YM m c t r l) (fun r l h => (congrFun (hM.read_unread Y) _).trans (hY r l h))
    (fun r l q hq => (congrFun hw _).trans (point_at m c t r l q (by omega))) r l hl

end Cert.Proof.Out

end
-- ==== Proof.OutC.lean ====
/- What each grid point of the output projection leaves in the outputs' buffers. -/
module

public import proofs.«01_k».proof.Proof.OutB

@[expose] public section

set_option maxRecDepth 16384

noncomputable section

namespace Cert.Proof.Out

open Cert.OutKernelIdeal Cert.OutKernelIdeal.Gen Idealize.ShloMosaic Idealize.ShloMosaic.TcCoe Idealize.SL.Sem

variable (m : (ℓ : Loc nD τ sig) → Buf (Elt Ideal) ℓ)

/-- The product block of whole buffers is that of their contents. -/
theorem pay_reads (M0 : Memref sig .tc .vmem S512x2048 .bf16) (h0 : M0.IsWhole) (M1 : Memref sig .tc .vmem S512x2048 .bf16) (h1 : M1.IsWhole) (M2 : Memref sig .tc .vmem S2048x512 .bf16) (h2 : M2.IsWhole) (M3 : Memref sig .tc .vmem S2048x512 .bf16) (h3 : M3.IsWhole) (M4 : Memref sig .tc .vmem S512x512 .f32) (h4 : M4.IsWhole)
    (x0 : Vec Ideal S512x2048 .bf16) (x1 : Vec Ideal S512x2048 .bf16) (x2 : Vec Ideal S2048x512 .bf16) (x3 : Vec Ideal S2048x512 .bf16) (x4 : Vec Ideal S512x512 .f32)
    (i0 : ∀ a, (![0, 0] : Fin 2 → ℕ) a + S512x2048.size a ≤ S512x2048.size a) (i1 : ∀ a, (![0, 0] : Fin 2 → ℕ) a + S512x2048.size a ≤ S512x2048.size a) (i2 : ∀ a, (![0, 0] : Fin 2 → ℕ) a + S2048x512.size a ≤ S2048x512.size a) (i3 : ∀ a, (![0, 0] : Fin 2 → ℕ) a + S2048x512.size a ≤ S2048x512.size a) (i4 : ∀ a, (![0, 0] : Fin 2 → ℕ) a + S512x512.size a ≤ S512x512.size a) :
    (k0_pay17 (View.readAt (Elt Ideal) M0.view (Rect.unit (s := S512x2048) ![0, 0] S512x2048.size i0).toLoadRect (h0.unread x0)) (View.readAt (Elt Ideal) M2.view (Rect.unit (s := S2048x512) ![0, 0] S2048x512.size i2).toLoadRect (h2.unread x2)) (View.readAt (Elt Ideal) M1.view (Rect.unit (s := S512x2048) ![0, 0] S512x2048.size i1).toLoadRect (h1.unread x1)) (View.readAt (Elt Ideal) M3.view (Rect.unit (s := S2048x512) ![0, 0] S2048x512.size i3).toLoadRect (h3.unread x3)) (View.readAt (Elt Ideal) M4.view (Rect.unit (s := S512x512) ![0, 0] S512x512.size i4).toLoadRect (h4.unread x4)) : FVec Ideal S512x512 .f32) = k0_pay17 x0 x2 x1 x3 x4 := by
  have e0 : (View.readAt (Elt Ideal) M0.view (Rect.unit (s := S512x2048) ![0, 0] S512x2048.size i0).toLoadRect (h0.unread x0)) = x0 := read_all M0 h0 x0 i0
  have e1 : (View.readAt (Elt Ideal) M1.view (Rect.unit (s := S512x2048) ![0, 0] S512x2048.size i1).toLoadRect (h1.unread x1)) = x1 := read_all M1 h1 x1 i1
  have e2 : (View.readAt (Elt Ideal) M2.view (Rect.unit (s := S2048x512) ![0, 0] S2048x512.size i2).toLoadRect (h2.unread x2)) = x2 := read_all M2 h2 x2 i2
  have e3 : (View.readAt (Elt Ideal) M3.view (Rect.unit (s := S2048x512) ![0, 0] S2048x512.size i3).toLoadRect (h3.unread x3)) = x3 := read_all M3 h3 x3 i3
  have e4 : (View.readAt (Elt Ideal) M4.view (Rect.unit (s := S512x512) ![0, 0] S512x512.size i4).toLoadRect (h4.unread x4)) = x4 := read_all M4 h4 x4 i4
  rw [e0, e1, e2, e3, e4]

/-- The layer norm's element of a point's row, of the program's arguments. -/
abbrev HM (c : Dev nD) (t : Fin cfg0.N) (r : ℕ) (l : Fin 4096) : EReal :=
  NRM (YM m c t r) l ((m ((c : Thread nD τ).loc main_arg4) : FVec Ideal S1x4096 .f32) (ix2 0 l)) ((m ((c : Thread nD τ).loc main_arg5) : FVec Ideal S1x4096 .f32) (ix2 0 l))

/-- What the first output's buffer holds after a point: the rows' columns so far, and after the last column block the layer norm. -/
def R9 (c : Dev nD) (t : Fin cfg0.N) (X : Vec Ideal S512x4096 .f32) : Prop :=
  if t.val % 8 = 7 then ∀ (r : Fin 512) (l : Fin 4096), X (ix2 r l) = HM m c t r l
  else ∀ (r : Fin 512) (l : Fin 4096), l.val < 512 * (t.val % 8) + 512 → X (ix2 r l) = YM m c t r l

/-- What the logits' buffer holds after a last column block. -/
def R11 (c : Dev nD) (t : Fin cfg0.N) (X : Vec Ideal S512x128 .f32) : Prop :=
  t.val % 8 = 7 → ∀ (r : Fin 512) (l : Fin 128), X (ix2 r l)
    = (∑ k : Fin 4096, HM m c t r k * WR (m ((c : Thread nD τ).loc main_arg6)) (m ((c : Thread nD τ).loc main_arg8)) k l)
      + BR (m ((c : Thread nD τ).loc main_arg7)) (m ((c : Thread nD τ).loc main_arg9)) l

/-- Before a later column block the buffer holds the rows' columns of the earlier ones. -/
theorem before (c : Dev nD) (t : Fin cfg0.N) (n : ℕ) (hn : 512 * (t.val % 8) = n) (h0 : t.val % 8 ≠ 0) (Y : Vec Ideal S512x4096 .f32) (hY : R9 m c (prev t) Y)
    (r : Fin 512) (l : Fin 4096) (hl : l.val < n) : Y (ix2 r l) = YM m c t r l := by
  have hp : (prev t).val = t.val - 1 := rfl
  unfold R9 at hY
  rw [if_neg (by omega)] at hY
  refine (hY r l (by omega)).trans ?_
  unfold YM
  rw [show (prev t).val / 8 = t.val / 8 by omega]

/-- Column block 0. -/
theorem s0 (c : Dev nD) (t : Fin cfg0.N) (ht : t.val % 8 = 0) (Y : Vec Ideal S512x4096 .f32) : R9 m c t (left0 m c t ht Y) := by
  unfold R9
  rw [if_neg (by omega)]
  intro r l hl
  unfold left0 run0
  dsimp only
  exact step m c t 0 (by omega) _ _ Y _ (pay_reads _ _ _ _ _ _ _ _ _ _ _ _ _ _ _ _ _ _ _ _) _ _ rfl
    (fun r l h => absurd h (Nat.not_lt_zero _)) r l (by omega)

/-- Column block 1. -/
theorem s1 (c : Dev nD) (t : Fin cfg0.N) (ht : t.val % 8 = 1) (Y : Vec Ideal S512x4096 .f32) (hY : R9 m c (prev t) Y) : R9 m c t (left1 m c t ht Y) := by
  unfold R9
  rw [if_neg (by omega)]
  intro r l hl
  unfold left1 run1
  dsimp only
  exact step m c t 512 (by omega) _ _ Y _ (pay_reads _ _ _ _ _ _ _ _ _ _ _ _ _ _ _ _ _ _ _ _) _ _ rfl
    (before m c t 512 (by omega) (by omega) Y hY) r l (by omega)

/-- Column block 2. -/
theorem s2 (c : Dev nD) (t : Fin cfg0.N) (ht : t.val % 8 = 2) (Y : Vec Ideal S512x4096 .f32) (hY : R9 m c (prev t) Y) : R9 m c t (left2 m c t ht Y) := by
  unfold R9
  rw [if_neg (by omega)]
  intro r l hl
  unfold left2 run2
  dsimp only
  exact step m c t 1024 (by omega) _ _ Y _ (pay_reads _ _ _ _ _ _ _ _ _ _ _ _ _ _ _ _ _ _ _ _) _ _ rfl
    (before m c t 1024 (by omega) (by omega) Y hY) r l (by omega)

/-- Column block 3. -/
theorem s3 (c : Dev nD) (t : Fin cfg0.N) (ht : t.val % 8 = 3) (Y : Vec Ideal S512x4096 .f32) (hY : R9 m c (prev t) Y) : R9 m c t (left3 m c t ht Y) := by
  unfold R9
  rw [if_neg (by omega)]
  intro r l hl
  unfold left3 run3
  dsimp only
  exact step m c t 1536 (by omega) _ _ Y _ (pay_reads _ _ _ _ _ _ _ _ _ _ _ _ _ _ _ _ _ _ _ _) _ _ rfl
    (before m c t 1536 (by omega) (by omega) Y hY) r l (by omega)

/-- Column block 4. -/
theorem s4 (c : Dev nD) (t : Fin cfg0.N) (ht : t.val % 8 = 4) (Y : Vec Ideal S512x4096 .f32) (hY : R9 m c (prev t) Y) : R9 m c t (left4 m c t ht Y) := by
  unfold R9
  rw [if_neg (by omega)]
  intro r l hl
  unfold left4 run4
  dsimp only
  exact step m c t 2048 (by omega) _ _ Y _ (pay_reads _ _ _ _ _ _ _ _ _ _ _ _ _ _ _ _ _ _ _ _) _ _ rfl
    (before m c t 2048 (by omega) (by omega) Y hY) r l (by omega)

/-- Column block 5. -/
theorem s5 (c : Dev nD) (t : Fin cfg0.N) (ht : t.val % 8 = 5) (Y : Vec Ideal S512x4096 .f32) (hY : R9 m c (prev t) Y) : R9 m c t (left5 m c t ht Y) := by
  unfold R9
  rw [if_neg (by omega)]
  intro r l hl
  unfold left5 run5
  dsimp only
  exact step m c t 2560 (by omega) _ _ Y _ (pay_reads _ _ _ _ _ _ _ _ _ _ _ _ _ _ _ _ _ _ _ _) _ _ rfl
    (before m c t 2560 (by omega) (by omega) Y hY) r l (by omega)

/-- Column block 6. -/
theorem s6 (c : Dev nD) (t : Fin cfg0.N) (ht : t.val % 8 = 6) (Y : Vec Ideal S512x4096 .f32) (hY : R9 m c (prev t) Y) : R9 m c t (left6 m c t ht Y) := by
  unfold R9
  rw [if_neg (by omega)]
  intro r l hl
  unfold left6 run6
  dsimp only
  exact step m c t 3072 (by omega) _ _ Y _ (pay_reads _ _ _ _ _ _ _ _ _ _ _ _ _ _ _ _ _ _ _ _) _ _ rfl
    (before m c t 3072 (by omega) (by omega) Y hY) r l (by omega)

end Cert.Proof.Out

end
-- ==== Proof.OutD.lean ====
/- What the last column block of the output projection leaves: the layer norm of the rows, and the routers' products of them. -/
module

public import proofs.«01_k».proof.Proof.OutC

@[expose] public section

set_option maxRecDepth 16384

noncomputable section

namespace Cert.Proof.Out

open Cert.OutKernelIdeal Cert.OutKernelIdeal.Gen Idealize.ShloMosaic Idealize.ShloMosaic.TcCoe Idealize.SL.Sem

variable (m : (ℓ : Loc nD τ sig) → Buf (Elt Ideal) ℓ)

/-- A buffer's whole contents, loaded at the origin. -/
theorem load_all {sg : RefSig} {κ : Kind} {sp : Space} {d : Fin 2 → ℕ} {e : EltTy} (v : View sg κ sp (⟨2, d⟩ : Shape) e) (f : v.ty.Contents (Elt Ideal))
    (inb : ∀ a : Fin 2, (![0, 0] : Fin 2 → ℕ) a + d a ≤ d a) :
    View.readAt (Elt Ideal) v (Rect.unit (s := (⟨2, d⟩ : Shape)) ![0, 0] d inb).toLoadRect f = v.read (Elt Ideal) f := by
  funext y
  rw [View.readAt_apply]
  refine congrArg (v.read (Elt Ideal) f) ?_
  funext a
  match a with
  | ⟨0, _⟩ => exact Fin.ext (by show 0 + 1 * (y 0 : ℕ) = (y 0 : ℕ); omega)
  | ⟨1, _⟩ => exact Fin.ext (by show 0 + 1 * (y 1 : ℕ) = (y 1 : ℕ); omega)

/-- The loop makes eight trips. -/
theorem trips_eq : k0_t1_loop.trips = 8 := by decide +kernel

/-- The last column block: the layer norm. -/
theorem s7 (c : Dev nD) (t : Fin cfg0.N) (ht : t.val % 8 = 7) (Y : Vec Ideal S512x4096 .f32) (Y14 : Vec Ideal S512x4096 .bf16) (hY : R9 m c (prev t) Y) :
    R9 m c t (left7 m c t ht Y Y14) := by
  unfold R9
  rw [if_pos ht]
  intro r l
  have hr := r.isLt
  unfold left7 run7
  dsimp only
  rw [View.writes_append]
  refine Eq.trans ((trips_at Variants.none c none _ _ _ _ _ _ _ _ _ _ _ _ _ _ _ _ _ _ _ _ _ _ _ _ _ _ _ _ _ _ (fun l => (m ((c : Thread nD τ).loc main_arg4) : FVec Ideal S1x4096 .f32) (ix2 0 l))
    (fun l => (m ((c : Thread nD τ).loc main_arg5) : FVec Ideal S1x4096 .f32) (ix2 0 l)) (by
      intro l
      exact (congrFun (read_all _ _ _ _) _).trans (x5 m c t l)) (by
      intro l
      exact (congrFun (read_all _ _ _ _) _).trans (x6 m c t l)) (YM m c t) _ _ (by
      intro r l
      exact step m c t 3584 (by omega) _ _ Y _ (pay_reads _ _ _ _ _ _ _ _ _ _ _ _ _ _ _ _ _ _ _ _) _ _ rfl
        (before m c t 3584 (by omega) (by omega) Y hY) r l (by omega)) _ le_rfl).1 r l) ?_
  rw [if_pos]
  rw [trips_eq]
  omega

/-- The last column block: the routers' products. -/
theorem l7 (c : Dev nD) (t : Fin cfg0.N) (ht : t.val % 8 = 7) (Y : Vec Ideal S512x4096 .f32) (Y14 : Vec Ideal S512x4096 .bf16) (Y11 : Vec Ideal S512x128 .f32)
    (hY : R9 m c (prev t) Y) : R11 m c t (logits7 m c t ht Y Y14 Y11) := by
  intro _ r l
  have hr := r.isLt
  unfold logits7 run7
  dsimp only
  refine (View.read_writes_cons_rows_of_mem (o := 0) _ _ _ _ [] (ix2 r l) (ix2 r l) rfl (by omega) rfl).trans ?_
  refine (logit_at _ _ _ r l).trans ?_
  refine congrArg₂ (fun a b : EReal => a + b) (Finset.sum_congr rfl fun k _ => congrArg₂ (fun a b : EReal => a * b) ?_ ?_) ?_
  · unfold run7.sl.v43
    rw [load_all]
    refine (trips_at Variants.none c none _ _ _ _ _ _ _ _ _ _ _ _ _ _ _ _ _ _ _ _ _ _ _ _ _ _ _ _ _ _ (fun l => (m ((c : Thread nD τ).loc main_arg4) : FVec Ideal S1x4096 .f32) (ix2 0 l))
      (fun l => (m ((c : Thread nD τ).loc main_arg5) : FVec Ideal S1x4096 .f32) (ix2 0 l)) (by
        intro l
        exact (congrFun (read_all _ _ _ _) _).trans (x5 m c t l)) (by
        intro l
        exact (congrFun (read_all _ _ _ _) _).trans (x6 m c t l)) (YM m c t) _ _ (by
        intro r l
        exact step m c t 3584 (by omega) _ _ Y _ (pay_reads _ _ _ _ _ _ _ _ _ _ _ _ _ _ _ _ _ _ _ _) _ _ rfl
          (before m c t 3584 (by omega) (by omega) Y hY) r l (by omega)) _ le_rfl).2 r k ?_
    rw [trips_eq]
    omega
  · exact (congrFun (read_all _ _ _ _) _).trans (x7 m c t k l)
  · exact (congrFun (read_all _ _ _ _) _).trans (x8 m c t l)

/-- The body keeps the two predicates, point by point. -/
theorem keeps : Keeps m (R9 m) (R11 m) where
  s0 := s0 m
  s1 := s1 m
  s2 := s2 m
  s3 := s3 m
  s4 := s4 m
  s5 := s5 m
  s6 := s6 m
  s7 := s7 m
  l7 := l7 m
  l := fun c t ht X h => absurd h ht

end Cert.Proof.Out

end
-- ==== Proof.OutE.lean ====
/- The reference of the output projection, at an index: the layer norm of the scaled residual plus the heads' product, and the routers' products. -/
module

public import proofs.«01_k».proof.Proof.OutB
public import proofs.«01_k».proof.Proof.Gen.OutReferenceIdeal.Run

@[expose] public section

set_option maxRecDepth 16384

noncomputable section

namespace Cert.Proof.Out

open Cert.OutReferenceIdeal Cert.OutReferenceIdeal.Gen Idealize.ShloMosaic Idealize.ShloMosaic.TcCoe Idealize.SL.Sem

/-- The reference's sum of the scaled residual and the heads' product. -/
abbrev PRE (conv attn : FVec Ideal S16384x2048 .bf16) (w : FVec Ideal S1x4096x4096 .f32) (x : FVec Ideal S4x4096x4096 .f32) : FVec Ideal S16384x4096 .f32 :=
  (addf (mulf (broadcastInDim S16384x4096 ![] bcast_S_S16384x4096 (constant S_ .f32 0x3F9837F0#32)) (shapeCast S16384x4096 x shapeCasts_S4x4096x4096_S16384x4096)) (Host.dotGeneral dot_S16384x4096_S4096x4096_S16384x4096_1_0_0_1_n_n none (concatenate S16384x4096 1 [⟨S16384x2048, (extf .f32 conv bitsLt_bf16_f32)⟩, ⟨S16384x2048, (extf .f32 attn bitsLt_bf16_f32)⟩] concatenates_S16384x2048_S16384x2048_S16384x4096_d1) (shapeCast S4096x4096 w shapeCasts_S1x4096x4096_S4096x4096)))

/-- The reference's layer norm. -/
abbrev LN (y : FVec Ideal S16384x4096 .f32) (g b : FVec Ideal S1x4096 .f32) : FVec Ideal S16384x4096 .f32 :=
  addf (mulf (mulf (subf y (broadcastInDim S16384x4096 ![0, 1] bcast_S16384x1_S16384x4096_0_1 (Host.divf (broadcastInDim S16384x1 ![0] bcast_S16384_S16384x1_0 (Host.reduceAdd y (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf y (broadcastInDim S16384x4096 ![0, 1] bcast_S16384x1_S16384x4096_0_1 (Host.divf (broadcastInDim S16384x1 ![0] bcast_S16384_S16384x1_0 (Host.reduceAdd y (constant S_ .f32 0x00000000#32) reducesTo_S16384x4096_S16384_d1 h_S_)) (broadcastInDim S16384x1 ![] bcast_S_S16384x1 (constant S_ .f32 0x45800000#32))))) (subf y (broadcastInDim S16384x4096 ![0, 1] bcast_S16384x1_S16384x4096_0_1 (Host.divf (broadcastInDim S16384x1 ![0] bcast_S16384_S16384x1_0 (Host.reduceAdd y (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast S4096 g shapeCasts_S1x4096_S4096)))) (broadcastInDim S16384x4096 ![0, 1] bcast_S1x4096_S16384x4096_0_1 (broadcastInDim S1x4096 ![1] bcast_S4096_S1x4096_1 (shapeCast S4096 b shapeCasts_S1x4096_S4096)))

/-- The reference's routers. -/
abbrev ROUTE (h : FVec Ideal S16384x4096 .f32) (wg : FVec Ideal S1x4096x4 .f32) (bg : FVec Ideal S1x4 .f32) (we : FVec Ideal S1x4096x32 .f32) (be : FVec Ideal S1x32 .f32) : FVec Ideal S16384x128 .f32 :=
  pad S16384x128 ![0, 0] ![0, 92] ![0, 0] (concatenate S16384x36 1 [⟨S16384x4, (addf (Host.dotGeneral dot_S16384x4096_S4096x4_S16384x4_1_0_0_1_n_n none h (shapeCast _ wg shapeCasts_S1x4096x4_S4096x4)) (broadcastInDim S16384x4 ![0, 1] bcast_S1x4_S16384x4_0_1 (broadcastInDim S1x4 ![1] bcast_S4_S1x4_1 (shapeCast _ bg shapeCasts_S1x4_S4))))⟩, ⟨S16384x32, (addf (Host.dotGeneral dot_S16384x4096_S4096x32_S16384x32_1_0_0_1_n_n none h (shapeCast _ we shapeCasts_S1x4096x32_S4096x32)) (broadcastInDim S16384x32 ![0, 1] bcast_S1x32_S16384x32_0_1 (broadcastInDim S1x32 ![1] bcast_S32_S1x32_1 (shapeCast _ be shapeCasts_S1x32_S32))))⟩] concatenates_S16384x4_S16384x32_S16384x36_d1) (sitofp .f32 (constantI S_ 32 0#32)) pads_S16384x36_S16384x128_000_0920 h_S_

/-- The sum at an index. -/
theorem pre_at (conv attn : FVec Ideal S16384x2048 .bf16) (w : FVec Ideal S1x4096x4096 .f32) (x : FVec Ideal S4x4096x4096 .f32) (n : Fin 16384) (l : Fin 4096) :
    PRE conv attn w x (ix2 n l) = Z conv attn w x n l := by
  pointwise [PRE]
  rfl

/-- The layer norm at an index. -/
theorem ln_at (y : FVec Ideal S16384x4096 .f32) (g b : FVec Ideal S1x4096 .f32) (f : ℕ → EReal) (n : Fin 16384) (l : Fin 4096) (hy : ∀ x : Fin 4096, y (ix2 n x) = f x) :
    LN y g b (ix2 n l) = NRM f l (g (ix2 0 l)) (b (ix2 0 l)) := by
  pointwise [LN]
  simp only [hy]
  rfl

/-- The routers at an index. -/
theorem route_at (h : FVec Ideal S16384x4096 .f32) (wg : FVec Ideal S1x4096x4 .f32) (bg : FVec Ideal S1x4 .f32) (we : FVec Ideal S1x4096x32 .f32) (be : FVec Ideal S1x32 .f32)
    (n : Fin 16384) (l : Fin 128) :
    ROUTE h wg bg we be (ix2 n l) = (∑ k : Fin 4096, h (ix2 n k) * WR wg we k l) + BR bg be l := by
  pointwise [ROUTE]
  unfold WR BR
  by_cases q : l.val < 4
  · simp only [dif_pos q, dif_pos (show l.val < 36 by omega)]
  · by_cases q' : l.val < 36
    · simp only [dif_neg q, dif_pos q']
    · simp only [dif_neg q, dif_neg q', mul_zero, Finset.sum_const_zero, add_zero]
      exact sitofp_zero _

/-- The first result is the layer norm of the sum. -/
theorem res34 (m : (ℓ : Loc nD τ sig) → Buf (Elt Ideal) ℓ) (c : Dev nD) : Cert.OutReferenceIdeal.Value.res_main_v34 m c
    = LN (PRE (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

/-- The second result is the routers' products of the first. -/
theorem res48 (m : (ℓ : Loc nD τ sig) → Buf (Elt Ideal) ℓ) (c : Dev nD) : Cert.OutReferenceIdeal.Value.res_main_v48 m c
    = ROUTE (LN (PRE (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9)) := rfl

end Cert.Proof.Out

end
-- ==== Proof.OutValue.lean ====
/- The output projection's results after the run: the reference's. -/
module

public import proofs.«01_k».proof.Proof.OutD
public import proofs.«01_k».proof.Proof.OutE
public import Idealize.ShloMosaic.Lib.Pipeline.ArrRel

@[expose] public section

set_option maxRecDepth 16384

noncomputable section

namespace Cert.Proof.Out

open Cert.OutKernelIdeal Cert.OutKernelIdeal.Gen Idealize.ShloMosaic Idealize.ShloMosaic.TcCoe Idealize.SL.Sem
open Idealize.ShloMosaic.Pipeline (Dat RDat)

variable (m : (ℓ : Loc nD τ sig) → Buf (Elt Ideal) ℓ)

/-- The reference's first result, of the kernel's arguments. -/
abbrev OUT0 (c : Dev nD) : FVec Ideal S16384x4096 .f32 :=
  LN (PRE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))

/-- The reference's second result, of the kernel's arguments. -/
abbrev OUT1 (c : Dev nD) : FVec Ideal S16384x128 .f32 :=
  ROUTE (OUT0 m c) (m ((c : Thread nD τ).loc main_arg6)) (m ((c : Thread nD τ).loc main_arg7)) (m ((c : Thread nD τ).loc main_arg8)) (m ((c : Thread nD τ).loc main_arg9))

/-- The outputs are written back after the last column block alone. -/
theorem flush9 : ∀ t : Fin cfg0.N, (cfg0.win 9).flush t = true → t.val % 8 = 7 := (by decide +kernel : ∀ t : Fin grid0.N, _)
theorem flush11 : ∀ t : Fin cfg0.N, (cfg0.win 11).flush t = true → t.val % 8 = 7 := (by decide +kernel : ∀ t : Fin grid0.N, _)

/-- The reference's first result at a row of a point. -/
theorem out0_at (c : Dev nD) (t : Fin cfg0.N) (r : Fin 512) (n : Fin 16384) (hn : n.val = 512 * (t.val / 8) + r.val) (l : Fin 4096) : OUT0 m c (ix2 n l) = HM m c t r l := by
  refine (ln_at (PRE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (YM m c t r) n l fun x => ?_)
  refine (pre_at _ _ _ _ n x).trans ?_
  unfold YM
  rw [← hn]
  exact (yr_eq _ _ _ _ n x).symm

/-- The first result array after the run. -/
theorem final9 {r : PUnit × MemSt nD τ sig (Elt Ideal)} (h : RDat.FramePost cfg0 (rdat m (R9 m) (R11 m)) (V m) r ∧ r.2.sem = fun _ => 0) (c : Dev nD) :
    r.2.mem ((c : Thread nD τ).loc main_v17_0) = OUT0 m c := by
  obtain ⟨after, hL, hA⟩ := RDat.FramePost.exists_exact h.1 c
  refine (hA 9).trans ?_
  refine Dat.arrAt_eq_of_covers _ 9 _ (by decide +kernel) fun t hf y => ?_
  have hR : R9 m c t (after 9 t) := Dat.toRRel_leaves (dats m 0 c) (w := 9) rfl (hL 9 t hf)
  have ht := flush9 t hf
  unfold R9 at hR
  rw [if_pos ht] at hR
  obtain ⟨e0, e1, e2, e3, e4, e5, e6, e7, e8, e9, e11, h0⟩ := idx t
  blk_simp
  obtain ⟨a, l, rfl⟩ : ∃ (a : Fin 512) (l : Fin 4096), y = ix2 a l := ⟨y 0, y 1, eq_ix2 y⟩
  have ha := a.isLt
  have hemb : ((cfg0.win 9).blk t).view.emb (ix2 a l) = ix2 (⟨512 * (t.val / 8) + a.val, by omega⟩ : Fin 16384) l := by blk_ext [e9]
  refine (hR a l).trans ?_
  refine Eq.trans ?_ (congrArg (OUT0 m c) hemb.symm)
  exact (out0_at m c t a _ rfl l).symm

/-- The second result array after the run. -/
theorem final11 {r : PUnit × MemSt nD τ sig (Elt Ideal)} (h : RDat.FramePost cfg0 (rdat m (R9 m) (R11 m)) (V m) r ∧ r.2.sem = fun _ => 0) (c : Dev nD) :
    r.2.mem ((c : Thread nD τ).loc main_v17_2) = OUT1 m c := by
  obtain ⟨after, hL, hA⟩ := RDat.FramePost.exists_exact h.1 c
  refine (hA 11).trans ?_
  refine Dat.arrAt_eq_of_covers _ 11 _ (by decide +kernel) fun t hf y => ?_
  have hR : R11 m c t (after 11 t) := Dat.toRRel_leaves (dats m 0 c) (w := 11) rfl (hL 11 t hf)
  have hR := hR (flush11 t hf)
  obtain ⟨e0, e1, e2, e3, e4, e5, e6, e7, e8, e9, e11, h0⟩ := idx t
  blk_simp
  obtain ⟨a, l, rfl⟩ : ∃ (a : Fin 512) (l : Fin 128), y = ix2 a l := ⟨y 0, y 1, eq_ix2 y⟩
  have ha := a.isLt
  have hemb : ((cfg0.win 11).blk t).view.emb (ix2 a l) = ix2 (⟨512 * (t.val / 8) + a.val, by omega⟩ : Fin 16384) l := by blk_ext [e11]
  refine (hR a l).trans ?_
  refine Eq.trans ?_ (congrArg (OUT1 m c) hemb.symm)
  refine Eq.trans ?_ (route_at (OUT0 m c) _ _ _ _ _ l).symm
  refine congrArg₂ (fun a b : EReal => a + b) (Finset.sum_congr rfl fun k _ => congrArg₂ (fun a b : EReal => a * b) ?_ rfl) rfl
  exact (out0_at m c t a _ rfl k).symm

/-- What the kernel computes: the reference's two results, the arguments unchanged. -/
theorem run (ρ : Dev nD → PrngReg) : θ_run (defs (F := Ideal)) (onTc (τ := τ) (main (F := Ideal))) ⟨m, fun _ => 0, ρ⟩ (fun r => ∀ c : Dev nD,
    r.2.mem ((c : Thread nD τ).loc main_v17_0) = OUT0 m c ∧ r.2.mem ((c : Thread nD τ).loc main_v17_2) = OUT1 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  (θ_run _ _ _).mono (fun r h c => ⟨final9 m h c, final11 m h c, args_of m (R9 m) (R11 m) h c⟩) (run_main m ρ (R9 m) (R11 m) (keeps m))

end Cert.Proof.Out

end
-- ==== Proof.GluValue.lean ====
/- Hand-written, untrusted: THE GATED PROJECTION'S VALUE. What a grid point of `GluKernelIdeal` stores is, index by index,
   the reference's gated product of the same rows and columns; the 64 blocks fill the result. -/
module

public import proofs.«01_k».proof.Proof.Gen.GluKernelIdeal.Value
public import proofs.«01_k».proof.Proof.Gen.GluReferenceIdeal.Run
public import Idealize.ShloMosaic.Lib.Pipeline.ValueKit

@[expose] public section

set_option maxRecDepth 16384

noncomputable section

namespace Cert.Proof.Glu

open Cert.GluKernelIdeal Cert.GluKernelIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the product with the whole weight matrix, its first 2048 columns gated by the logistic
    function of the next 2048. -/
abbrev REF (x : FVec Ideal S16384x4096 .bf16) (w : FVec Ideal S1x4096x8272 .f32) : FVec Ideal S16384x2048 .f32 :=
  mulf (extractStridedSlice Cert.GluReferenceIdeal.S16384x2048 ![0, 0] (Host.dotGeneral Cert.GluReferenceIdeal.dot_S16384x4096_S4096x8272_S16384x8272_1_0_0_1_n_n none (extf .f32 x Cert.GluReferenceIdeal.Gen.bitsLt_bf16_f32) (shapeCast Cert.GluReferenceIdeal.S4096x8272 w Cert.GluReferenceIdeal.Gen.shapeCasts_S1x4096x8272_S4096x8272)) Cert.GluReferenceIdeal.Gen.slices_S16384x8272_S16384x2048_0_0) (Host.divf (broadcastInDim Cert.GluReferenceIdeal.S16384x2048 ![] Cert.GluReferenceIdeal.Gen.bcast_S_S16384x2048 (constant Cert.GluReferenceIdeal.S_ .f32 0x3F800000#32)) (addf (broadcastInDim Cert.GluReferenceIdeal.S16384x2048 ![] Cert.GluReferenceIdeal.Gen.bcast_S_S16384x2048 (constant Cert.GluReferenceIdeal.S_ .f32 0x3F800000#32)) (Host.exp (Host.negf (extractStridedSlice Cert.GluReferenceIdeal.S16384x2048 ![0, 2048] (Host.dotGeneral Cert.GluReferenceIdeal.dot_S16384x4096_S4096x8272_S16384x8272_1_0_0_1_n_n none (extf .f32 x Cert.GluReferenceIdeal.Gen.bitsLt_bf16_f32) (shapeCast Cert.GluReferenceIdeal.S4096x8272 w Cert.GluReferenceIdeal.Gen.shapeCasts_S1x4096x8272_S4096x8272)) Cert.GluReferenceIdeal.Gen.slices_S16384x8272_S16384x2048_0_2048)))))

/-- The windows' block indices at every grid point. -/
theorem idx : ∀ t : Fin cfg0.N, win0_0.index t = ![(grid0.coords t 0).val, 0]
    ∧ win0_1.index t = ![0, (grid0.coords t 1).val] ∧ win0_2.index t = ![0, 4 + (grid0.coords t 1).val]
    ∧ win0_3.index t = ![(grid0.coords t 0).val, (grid0.coords t 1).val] ∧ (grid0.coords t 1).val < 4 ∧ (grid0.coords t 0).val < 16 :=
  (by decide +kernel : ∀ t : Fin grid0.N, _)

/-- What the second window's buffer holds: its columns of the weight matrix. -/
theorem x1 (c : Dev nD) (t : Fin cfg0.N) (k : Fin 4096) (l : Fin 512) (n : Fin 8272) (hn : n.val = 512 * (grid0.coords t 1).val + l.val) :
    (X0_1 m c t : FVec Ideal S4096x512 .bf16) (ix2 k l) = (m ((c : Thread nD τ).loc main_arg1) : FVec Ideal S1x4096x8272 .f32) (ix3 0 k n) := by
  obtain ⟨e0, e1, e2, e3, h1, h0⟩ := idx t
  unfold X0_1 Pipeline.Window.fill
  rw [dif_pos (moved0_1 t _)]
  blk_simp [iblk, e1]
  entry_read
  pointwise
  blk_ext [e1]

/-- What the third window's buffer holds: the columns 2048 further on. -/
theorem x2 (c : Dev nD) (t : Fin cfg0.N) (k : Fin 4096) (l : Fin 512) (n : Fin 8272) (hn : n.val = 2048 + 512 * (grid0.coords t 1).val + l.val) :
    (X0_2 m c t : FVec Ideal S4096x512 .bf16) (ix2 k l) = (m ((c : Thread nD τ).loc main_arg1) : FVec Ideal S1x4096x8272 .f32) (ix3 0 k n) := by
  obtain ⟨e0, e1, e2, e3, h1, h0⟩ := idx t
  unfold X0_2 Pipeline.Window.fill
  rw [dif_pos (moved0_2 t _)]
  blk_simp [iblk, e2]
  entry_read
  pointwise
  blk_ext [e2]

/-- What the first window's buffer holds: its rows of the activations. -/
theorem x0 (c : Dev nD) (t : Fin cfg0.N) (r : Fin 1024) (k : Fin 4096) (n : Fin 16384) (hn : n.val = 1024 * (grid0.coords t 0).val + r.val) :
    (iblk m c 0 t : FVec Ideal S1024x4096 .bf16) (ix2 r k) = (m ((c : Thread nD τ).loc main_arg0) : FVec Ideal S16384x4096 .bf16) (ix2 n k) := by
  obtain ⟨e0, e1, e2, e3, h1, h0⟩ := idx t
  blk_ext [iblk, V, e0]

/-- What the body stores, at an index: a product gated by another. -/
theorem pay_at (a : FVec Ideal S1024x4096 .bf16) (w1 w2 : FVec Ideal S4096x512 .bf16) (r : Fin 1024) (l : Fin 512) :
    (k0_pay1 a w1 w2 : FVec Ideal S1024x512 .f32) (ix2 r l) = (∑ k : Fin 4096, a (ix2 r k) * w1 (ix2 k l)) * Ideal.logistic (∑ k : Fin 4096, a (ix2 r k) * w2 (ix2 k l)) := by
  pointwise [k0_pay1]

/-- The reference's term at an index. -/
theorem ref_at (x : FVec Ideal S16384x4096 .bf16) (w : FVec Ideal S1x4096x8272 .f32) (r : Fin 16384) (l : Fin 2048) :
    REF x w (ix2 r l) = (∑ k : Fin 4096, x (ix2 r k) * w (ix3 0 k ⟨l.val, by omega⟩))
      * Ideal.logistic (∑ k : Fin 4096, x (ix2 r k) * w (ix3 0 k ⟨2048 + l.val, by omega⟩)) := by
  pointwise [REF]
  rfl

/-- A stored element is the reference's at the place where its block lies. -/
theorem point (c : Dev nD) (t : Fin cfg0.N) (y : S1024x512.Idx) : k0_pay1 (iblk m c 0 t) (X0_1 m c t) (X0_2 m c t) y
    = REF (m ((c : Thread nD τ).loc main_arg0)) (m ((c : Thread nD τ).loc main_arg1)) (((cfg0.win 3).blk t).view.emb y) := by
  obtain ⟨e0, e1, e2, e3, h1, h0⟩ := idx t
  obtain ⟨r, l, rfl⟩ : ∃ (r : Fin 1024) (l : Fin 512), y = ix2 r l := ⟨y 0, y 1, eq_ix2 y⟩
  have hr := r.isLt
  have hl := l.isLt
  have hemb : ((cfg0.win 3).blk t).view.emb (ix2 r l)
      = ix2 (⟨1024 * (grid0.coords t 0).val + r.val, by omega⟩ : Fin 16384) (⟨512 * (grid0.coords t 1).val + l.val, by omega⟩ : Fin 2048) := by
    blk_ext [e3]
  refine (pay_at _ _ _ r l).trans ?_
  refine Eq.trans ?_ (congrArg (REF _ _) hemb.symm)
  refine Eq.trans ?_ (ref_at _ _ _ _).symm
  refine congrArg₂ (· * ·) ?_ (congrArg Ideal.logistic ?_)
  · refine Finset.sum_congr rfl fun k _ => congrArg₂ (· * ·) (x0 m c t r k _ rfl) (x1 m c t k l _ rfl)
  · refine Finset.sum_congr rfl fun k _ => congrArg₂ (· * ·) (x0 m c t r k _ rfl) (x2 m c t k l _ ?_)
    simp only; omega

/-- The result array after the run is the reference's term of the arguments. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  exact point m c t y

end Cert.Proof.Glu

end
-- ==== Proof.QkviValue.lean ====
/- Hand-written, untrusted: THE SCALED PROJECTION'S VALUE. The query, key, value and index-query columns of one product, each group of columns at its
   own constant: what a grid point of `QkviKernelIdeal` stores is, index by index, the reference's. -/
module

public import proofs.«01_k».proof.Proof.Gen.QkviKernelIdeal.Value
public import proofs.«01_k».proof.Proof.Gen.QkviReferenceIdeal.Run
public import Idealize.ShloMosaic.Lib.Pipeline.ValueKit
public import Idealize.ShloMosaic.Lib.StableHlo.ReadAt

@[expose] public section

set_option maxRecDepth 16384

noncomputable section

namespace Cert.Proof.Qkvi

open Cert.QkviKernelIdeal Cert.QkviKernelIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term. -/
abbrev REF (x : FVec Ideal S16384x4096 .bf16) (w : FVec Ideal S1x4096x8272 .f32) : FVec Ideal S16384x4096 .bf16 :=
  truncf .bf16 ((concatenate Cert.QkviReferenceIdeal.S16384x4096 1 [⟨Cert.QkviReferenceIdeal.S16384x2048, (mulf (extractStridedSlice Cert.QkviReferenceIdeal.S16384x2048 ![0, 4096] (Host.dotGeneral Cert.QkviReferenceIdeal.dot_S16384x4096_S4096x8272_S16384x8272_1_0_0_1_n_n none (extf .f32 x Cert.QkviReferenceIdeal.Gen.bitsLt_bf16_f32) (shapeCast Cert.QkviReferenceIdeal.S4096x8272 w Cert.QkviReferenceIdeal.Gen.shapeCasts_S1x4096x8272_S4096x8272)) Cert.QkviReferenceIdeal.Gen.slices_S16384x8272_S16384x2048_0_4096) (broadcastInDim Cert.QkviReferenceIdeal.S16384x2048 ![] Cert.QkviReferenceIdeal.Gen.bcast_S_S16384x2048 (constant Cert.QkviReferenceIdeal.S_ .f32 0x3E0293EE#32)))⟩, ⟨Cert.QkviReferenceIdeal.S16384x1024, ((extractStridedSlice Cert.QkviReferenceIdeal.S16384x1024 ![0, 6144] (Host.dotGeneral Cert.QkviReferenceIdeal.dot_S16384x4096_S4096x8272_S16384x8272_1_0_0_1_n_n none (extf .f32 x Cert.QkviReferenceIdeal.Gen.bitsLt_bf16_f32) (shapeCast Cert.QkviReferenceIdeal.S4096x8272 w Cert.QkviReferenceIdeal.Gen.shapeCasts_S1x4096x8272_S4096x8272)) Cert.QkviReferenceIdeal.Gen.slices_S16384x8272_S16384x1024_0_6144) : (⟨Cert.QkviReferenceIdeal.S16384x1024, .f32⟩ : BufTy).Contents (Elt Ideal))⟩, ⟨Cert.QkviReferenceIdeal.S16384x1024, (mulf (extractStridedSlice Cert.QkviReferenceIdeal.S16384x1024 ![0, 7168] (Host.dotGeneral Cert.QkviReferenceIdeal.dot_S16384x4096_S4096x8272_S16384x8272_1_0_0_1_n_n none (extf .f32 x Cert.QkviReferenceIdeal.Gen.bitsLt_bf16_f32) (shapeCast Cert.QkviReferenceIdeal.S4096x8272 w Cert.QkviReferenceIdeal.Gen.shapeCasts_S1x4096x8272_S4096x8272)) Cert.QkviReferenceIdeal.Gen.slices_S16384x8272_S16384x1024_0_7168) (broadcastInDim Cert.QkviReferenceIdeal.S16384x1024 ![] Cert.QkviReferenceIdeal.Gen.bcast_S_S16384x1024 (constant Cert.QkviReferenceIdeal.S_ .f32 0x3E000000#32)))⟩] Cert.QkviReferenceIdeal.Gen.concatenates_S16384x2048_S16384x1024_S16384x1024_S16384x4096_d1 : (⟨Cert.QkviReferenceIdeal.S16384x4096, .f32⟩ : BufTy).Contents (Elt Ideal))) Cert.QkviReferenceIdeal.Gen.bitsLt_bf16_f32

/-- The windows' block indices at every grid point. -/
theorem idx : ∀ t : Fin cfg0.N, win0_0.index t = ![(grid0.coords t 0).val, 0]
    ∧ win0_1.index t = ![0, 8 + (grid0.coords t 1).val] ∧ win0_2.index t = ![0, (grid0.coords t 1).val]
    ∧ win0_3.index t = ![(grid0.coords t 0).val, (grid0.coords t 1).val] ∧ (grid0.coords t 1).val < 8 ∧ (grid0.coords t 0).val < 16 :=
  (by decide +kernel : ∀ t : Fin grid0.N, _)

/-- The constant that multiplies a column: one for the queries, one (of value 1) for the keys and values, one for the
    index queries. -/
def scale (n : Nat) : EReal :=
  if n < 2048 then Ideal.ofBits .f32 0x3E0293EE#32 else if n < 3072 then 1 else Ideal.ofBits .f32 0x3E000000#32

/-- What the second window's buffer holds: its columns of the weight matrix. -/
theorem x1 (c : Dev nD) (t : Fin cfg0.N) (k : Fin 4096) (l : Fin 512) (n : Fin 8272) (hn : n.val = 4096 + 512 * (grid0.coords t 1).val + l.val) :
    (X0_1 m c t : FVec Ideal S4096x512 .bf16) (ix2 k l) = (m ((c : Thread nD τ).loc main_arg1) : FVec Ideal S1x4096x8272 .f32) (ix3 0 k n) := by
  obtain ⟨e0, e1, e2, e3, h1, h0⟩ := idx t
  unfold X0_1 Pipeline.Window.fill
  rw [dif_pos (moved0_1 t _)]
  blk_simp [iblk, e1]
  entry_read
  pointwise
  blk_ext [e1]

/-- What the first window's buffer holds: its rows of the activations. -/
theorem x0 (c : Dev nD) (t : Fin cfg0.N) (r : Fin 1024) (k : Fin 4096) (n : Fin 16384) (hn : n.val = 1024 * (grid0.coords t 0).val + r.val) :
    (iblk m c 0 t : FVec Ideal S1024x4096 .bf16) (ix2 r k) = (m ((c : Thread nD τ).loc main_arg0) : FVec Ideal S16384x4096 .bf16) (ix2 n k) := by
  obtain ⟨e0, e1, e2, e3, h1, h0⟩ := idx t
  blk_ext [iblk, V, e0]

/-- The row of constants, as the host prepares it. -/
theorem v4_at (c : Dev nD) (n : Fin 4096) : (V m c main_v4 : FVec Ideal S1x4096 .f32) (ix2 0 n) = scale n.val := by
  unfold V
  after_reads_at
  unfold scale
  by_cases h1 : n.val < 2048
  · rw [dif_pos h1, if_pos h1]
    after_reads_at
  · rw [dif_neg h1, if_neg h1]
    by_cases h2 : n.val < 3072
    · rw [dif_pos (by omega), if_pos h2]
      after_reads_at
    · rw [dif_neg (by omega), if_neg h2]
      after_reads_at

/-- What the third window's buffer holds: its columns' constants. -/
theorem x2 (c : Dev nD) (t : Fin cfg0.N) (l : Fin 512) (n : Nat) (hn : n = 512 * (grid0.coords t 1).val + l.val) :
    (iblk m c 2 t : FVec Ideal S1x512 .f32) (ix2 0 l) = scale n := by
  obtain ⟨e0, e1, e2, e3, h1, h0⟩ := idx t
  have hl := l.isLt
  have hemb : ((cfg0.win 2).blk t).view.emb (ix2 0 l) = ix2 (0 : Fin 1) (⟨n, by omega⟩ : Fin 4096) := by
    blk_ext [e2]
  exact (congrArg (V m c main_v4) hemb).trans (v4_at m c _)

/-- What the body stores, at an index. -/
theorem pay_at (a : FVec Ideal S1024x4096 .bf16) (w1 : FVec Ideal S4096x512 .bf16) (s : FVec Ideal S1x512 .f32) (r : Fin 1024) (l : Fin 512) :
    (k0_pay1 a w1 s : FVec Ideal S1024x512 .bf16) (ix2 r l) = (∑ k : Fin 4096, a (ix2 r k) * w1 (ix2 k l)) * s (ix2 0 l) := by
  pointwise [k0_pay1]

/-- The reference's term at an index. -/
theorem ref_at (x : FVec Ideal S16384x4096 .bf16) (w : FVec Ideal S1x4096x8272 .f32) (r : Fin 16384) (l : Fin 4096) :
    REF x w (ix2 r l) = (∑ k : Fin 4096, x (ix2 r k) * w (ix3 0 k ⟨4096 + l.val, by omega⟩)) * scale l.val := by
  pointwise [REF]
  unfold scale
  by_cases h1 : l.val < 2048
  · rw [dif_pos h1, if_pos h1]
  · rw [dif_neg h1, if_neg h1]
    by_cases h2 : l.val < 3072
    · rw [dif_pos (by omega), if_pos h2, mul_one]
      simp only [show 6144 + (l.val - 2048) = 4096 + l.val by omega]
    · rw [dif_neg (by omega), if_neg h2]
      simp only [show 7168 + (l.val - 2048 - 1024) = 4096 + l.val by omega]

/-- A stored element is the reference's at the place where its block lies. -/
theorem point (c : Dev nD) (t : Fin cfg0.N) (y : S1024x512.Idx) : k0_pay1 (iblk m c 0 t) (X0_1 m c t) (iblk m c 2 t) y
    = REF (m ((c : Thread nD τ).loc main_arg0)) (m ((c : Thread nD τ).loc main_arg1)) (((cfg0.win 3).blk t).view.emb y) := by
  obtain ⟨e0, e1, e2, e3, h1, h0⟩ := idx t
  obtain ⟨r, l, rfl⟩ : ∃ (r : Fin 1024) (l : Fin 512), y = ix2 r l := ⟨y 0, y 1, eq_ix2 y⟩
  have hr := r.isLt
  have hl := l.isLt
  have hemb : ((cfg0.win 3).blk t).view.emb (ix2 r l)
      = ix2 (⟨1024 * (grid0.coords t 0).val + r.val, by omega⟩ : Fin 16384) (⟨512 * (grid0.coords t 1).val + l.val, by omega⟩ : Fin 4096) := by
    blk_ext [e3]
  refine (pay_at _ _ _ r l).trans ?_
  refine Eq.trans ?_ (congrArg (REF _ _) hemb.symm)
  refine Eq.trans ?_ (ref_at _ _ _ _).symm
  refine congrArg₂ (· * ·) ?_ (x2 m c t l _ rfl)
  refine Finset.sum_congr rfl fun k _ => congrArg₂ (· * ·) (x0 m c t r k _ rfl) (x1 m c t k l _ ?_)
  simp only; omega

/-- The result array after the run is the reference's term of the arguments. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  exact point m c t y

end Cert.Proof.Qkvi

end
-- ==== Proof.IdxValue.lean ====
/- Hand-written, untrusted: THE INDEXER PROJECTION'S VALUES. The activations rounded (at the ideal reading the activations themselves), and the
   last 80 columns of the product, padded with 48 zero columns. -/
module

public import proofs.«01_k».proof.Proof.Gen.IdxKernelIdeal.Value
public import proofs.«01_k».proof.Proof.Gen.IdxReferenceIdeal.Run
public import Idealize.ShloMosaic.Lib.Pipeline.ValueKit
public import Idealize.ShloMosaic.Lib.StableHlo.ReadAt

@[expose] public section

set_option maxRecDepth 16384

noncomputable section

namespace Cert.Proof.Idx

open Cert.IdxKernelIdeal Cert.IdxKernelIdeal.Gen Idealize.ShloMosaic Idealize.ShloMosaic.TcCoe Idealize.SL.Sem
open Idealize.ShloMosaic.Pipeline (Dat)

variable (m : (ℓ : Loc nD τ sig) → Buf (Elt Ideal) ℓ)

/-- The reference's first result: the activations, rounded. -/
abbrev REF2 (x : FVec Ideal S4x4096x4096 .f32) : FVec Ideal S16384x4096 .bf16 :=
  truncf .bf16 (shapeCast Cert.IdxReferenceIdeal.S16384x4096 x Cert.IdxReferenceIdeal.Gen.shapeCasts_S4x4096x4096_S16384x4096) Cert.IdxReferenceIdeal.Gen.bitsLt_bf16_f32

/-- The reference's second result: the product's last columns, padded. -/
abbrev REF3 (x : FVec Ideal S4x4096x4096 .f32) (w : FVec Ideal S1x4096x8272 .f32) : FVec Ideal S16384x128 .f32 :=
  pad Cert.IdxReferenceIdeal.S16384x128 ![0, 0] ![0, 48] ![0, 0] (extractStridedSlice Cert.IdxReferenceIdeal.S16384x80 ![0, 8192] (Host.dotGeneral Cert.IdxReferenceIdeal.dot_S16384x4096_S4096x8272_S16384x8272_1_0_0_1_n_n none (shapeCast Cert.IdxReferenceIdeal.S16384x4096 x Cert.IdxReferenceIdeal.Gen.shapeCasts_S4x4096x4096_S16384x4096) (shapeCast Cert.IdxReferenceIdeal.S4096x8272 w Cert.IdxReferenceIdeal.Gen.shapeCasts_S1x4096x8272_S4096x8272)) Cert.IdxReferenceIdeal.Gen.slices_S16384x8272_S16384x80_0_8192) (sitofp .f32 (constantI Cert.IdxReferenceIdeal.S_ 32 0#32)) Cert.IdxReferenceIdeal.Gen.pads_S16384x80_S16384x128_000_0480 Cert.IdxReferenceIdeal.Gen.h_S_

/-- The windows' block indices at every grid point. -/
theorem idx : ∀ t : Fin cfg0.N, win0_0.index t = ![(grid0.coords t 0).val, 0]
    ∧ win0_1.index t = ![0, 0] ∧ win0_2.index t = ![(grid0.coords t 0).val, 0]
    ∧ win0_3.index t = ![(grid0.coords t 0).val, 0] ∧ (grid0.coords t 0).val < 64 :=
  (by decide +kernel : ∀ t : Fin grid0.N, _)

/-- The integer zero read as a float is zero. -/
theorem sitofp_zero (φ : FTy) : (FloatOps.sitofp φ (0#32) : Ideal φ) = (0 : EReal) := by
  show (((0#32 : BitVec 32).toInt : ℝ) : EReal) = 0
  simp

/-- The weights' column that the padded array holds at `l`: of the product's, 8192 further on, or zero. -/
def wcol (w : FVec Ideal S1x4096x8272 .f32) (k : Fin 4096) (l : Fin 128) : EReal :=
  if h : l.val < 80 then w (ix3 0 k ⟨8192 + l.val, by omega⟩) else 0

/-- The activations as rows, as the host prepares them. -/
theorem v4_at (c : Dev nD) (n : Fin 16384) (k : Fin 4096) : (V m c main_v4 : FVec Ideal S16384x4096 .f32) (ix2 n k)
    = (m ((c : Thread nD τ).loc main_arg0) : FVec Ideal S4x4096x4096 .f32) (ix3 ⟨n.val / 4096, by omega⟩ ⟨n.val % 4096, by omega⟩ k) := by
  unfold V
  simp only [hostOps0, hostOps0_1, hostOps0_2, List.flatten_cons, List.flatten_nil, List.append_nil, List.cons_append, List.nil_append]
  after_reads_at

/-- The padded columns of the weights, as the host prepares them. -/
theorem v3_at (c : Dev nD) (k : Fin 4096) (l : Fin 128) : (V m c main_v3 : FVec Ideal S4096x128 .bf16) (ix2 k l)
    = wcol (m ((c : Thread nD τ).loc main_arg1)) k l := by
  unfold V
  simp only [hostOps0, hostOps0_1, hostOps0_2, List.flatten_cons, List.flatten_nil, List.append_nil, List.cons_append, List.nil_append]
  after_reads_at
  unfold wcol
  by_cases h : l.val < 80
  · rw [dif_pos h, dif_pos h]
  · rw [dif_neg h, dif_neg h]
    exact sitofp_zero _

/-- What the first window's buffer holds: its rows of the activations. -/
theorem x0 (c : Dev nD) (t : Fin cfg0.N) (r : Fin 256) (k : Fin 4096) (n : Fin 16384) (hn : n.val = 256 * (grid0.coords t 0).val + r.val) :
    (iblk m c 0 t : FVec Ideal S256x4096 .f32) (ix2 r k)
      = (m ((c : Thread nD τ).loc main_arg0) : FVec Ideal S4x4096x4096 .f32) (ix3 ⟨n.val / 4096, by omega⟩ ⟨n.val % 4096, by omega⟩ k) := by
  obtain ⟨e0, e1, e2, e3, h0⟩ := idx t
  have hemb : ((cfg0.win 0).blk t).view.emb (ix2 r k) = ix2 n k := by
    blk_ext [e0]
  exact (congrArg (V m c main_v4) hemb).trans (v4_at m c _ _)

/-- What the second window's buffer holds: the padded columns. -/
theorem x1 (c : Dev nD) (t : Fin cfg0.N) (k : Fin 4096) (l : Fin 128) :
    (iblk m c 1 t : FVec Ideal S4096x128 .bf16) (ix2 k l) = wcol (m ((c : Thread nD τ).loc main_arg1)) k l := by
  obtain ⟨e0, e1, e2, e3, h0⟩ := idx t
  have hemb : ((cfg0.win 1).blk t).view.emb (ix2 k l) = ix2 k l := by
    blk_ext [e1]
  exact (congrArg (V m c main_v3) hemb).trans (v3_at m c _ _)

/-- What the body stores first, at an index. -/
theorem pay1_at (a : FVec Ideal S256x4096 .f32) (r : Fin 256) (k : Fin 4096) :
    (k0_pay1 a : FVec Ideal S256x4096 .bf16) (ix2 r k) = a (ix2 r k) := by
  pointwise [k0_pay1]

/-- What the body stores second, at an index. -/
theorem pay2_at (a : FVec Ideal S256x4096 .f32) (w1 : FVec Ideal S4096x128 .bf16) (r : Fin 256) (l : Fin 128) :
    (k0_pay2 a w1 : FVec Ideal S256x128 .f32) (ix2 r l) = ∑ k : Fin 4096, a (ix2 r k) * w1 (ix2 k l) := by
  pointwise [k0_pay2, k0_pay1]

/-- The reference's first result at an index. -/
theorem ref2_at (x : FVec Ideal S4x4096x4096 .f32) (r : Fin 16384) (k : Fin 4096) :
    REF2 x (ix2 r k) = x (ix3 ⟨r.val / 4096, by omega⟩ ⟨r.val % 4096, by omega⟩ k) := by
  pointwise [REF2]

/-- The reference's second result at an index. -/
theorem ref3_at (x : FVec Ideal S4x4096x4096 .f32) (w : FVec Ideal S1x4096x8272 .f32) (r : Fin 16384) (l : Fin 128) :
    REF3 x w (ix2 r l) = ∑ k : Fin 4096, x (ix3 ⟨r.val / 4096, by omega⟩ ⟨r.val % 4096, by omega⟩ k) * wcol w k l := by
  pointwise [REF3]
  unfold wcol
  by_cases h : l.val < 80
  · simp only [dif_pos h]
  · simp only [dif_neg h, mul_zero, Finset.sum_const_zero]
    exact sitofp_zero _

/-- A rounded activation is the reference's at the place where its block lies. -/
theorem point2 (c : Dev nD) (t : Fin cfg0.N) (y : S256x4096.Idx) : k0_pay1 (iblk m c 0 t) y
    = REF2 (m ((c : Thread nD τ).loc main_arg0)) (((cfg0.win 2).blk t).view.emb y) := by
  obtain ⟨e0, e1, e2, e3, h0⟩ := idx t
  obtain ⟨r, l, rfl⟩ : ∃ (r : Fin 256) (l : Fin 4096), y = ix2 r l := ⟨y 0, y 1, eq_ix2 y⟩
  have hr := r.isLt
  have hemb : ((cfg0.win 2).blk t).view.emb (ix2 r l) = ix2 (⟨256 * (grid0.coords t 0).val + r.val, by omega⟩ : Fin 16384) l := by
    blk_ext [e2]
  refine (pay1_at _ r l).trans ?_
  refine Eq.trans ?_ (congrArg (REF2 _) hemb.symm)
  exact (x0 m c t r l _ rfl).trans (ref2_at _ _ _).symm

/-- A stored sum is the reference's at the place where its block lies. -/
theorem point3 (c : Dev nD) (t : Fin cfg0.N) (y : S256x128.Idx) : k0_pay2 (iblk m c 0 t) (iblk m c 1 t) y
    = REF3 (m ((c : Thread nD τ).loc main_arg0)) (m ((c : Thread nD τ).loc main_arg1)) (((cfg0.win 3).blk t).view.emb y) := by
  obtain ⟨e0, e1, e2, e3, h0⟩ := idx t
  obtain ⟨r, l, rfl⟩ : ∃ (r : Fin 256) (l : Fin 128), y = ix2 r l := ⟨y 0, y 1, eq_ix2 y⟩
  have hr := r.isLt
  have hemb : ((cfg0.win 3).blk t).view.emb (ix2 r l) = ix2 (⟨256 * (grid0.coords t 0).val + r.val, by omega⟩ : Fin 16384) l := by
    blk_ext [e3]
  refine (pay2_at _ _ r l).trans ?_
  refine Eq.trans ?_ (congrArg (REF3 _ _) hemb.symm)
  refine Eq.trans ?_ (ref3_at _ _ _ _).symm
  exact Finset.sum_congr rfl fun k _ => congrArg₂ (· * ·) (x0 m c t r k _ rfl) (x1 m c t k l)

/-- The first result array after the run. -/
theorem final2 (c : Dev nD) : (dats m 0 c).arrAt 2 cfg0.N = REF2 (m ((c : Thread nD τ).loc main_arg0)) := by
  refine (dats m 0 c).arrAt_eq_of_covers 2 _ (by decide +kernel) fun t _ y => ?_
  blk_simp
  rw [after0_2]; frame_out
  exact point2 m c t y

/-- The second result array after the run. -/
theorem final3 (c : Dev nD) : (dats m 0 c).arrAt 3 cfg0.N
    = REF3 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

end Cert.Proof.Idx

end
-- ==== Proof.DownRunIdeal.lean ====
module

public import proofs.«01_k».proof.Proof.Gen.DownKernelIdeal.Launch
public import proofs.«01_k».proof.Proof.Gen.DownKernelIdeal.Loops
public import Idealize.ShloMosaic.Lib.Pipeline.FrameBody
public import Idealize.ShloMosaic.Lib.Pipeline.DatRel
public import Idealize.ShloMosaic.Lib.Ring
public import Idealize.ShloMosaic.Lib.WritesUnit
public import Idealize.ShloMosaic.Lib.VecWindow
public import Idealize.ShloMosaic.Lib.ValueLayout
public import Idealize.ShloMosaic.Lib.Pipeline.Value
public import Idealize.ShloMosaic.Lib.Tactic
public import Idealize.ShloMosaic.Lib.WordCmp

@[expose] public section

set_option maxRecDepth 16384

noncomputable section

namespace Cert.DownKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

/-- The flags' table and the scratch weights, as whole buffers. -/
abbrev flagM : Memref sig .tc .smem S160 .i32 := Memref.whole main_arg9
abbrev scM : Memref sig .tc .vmem S1024x4096 .bf16 := Memref.whole cc0_scratch0

/-- The body at a point, on any staging buffers. -/
abbrev bodyOn (i : grid0.Coords) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole) : Prog (TpuEff nD τ sig (Elt F) Λ₀ .tc) PUnit :=
  cc0_moe_down i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _)

/-- The flags' table at half the share: what the body is lent. -/
abbrev flagPt (c : Dev nD) (f : Buf (Elt F) (flagM.view.loc (c : Thread nD τ))) : sProp 𝕄 := flagM.view.loc (c : Thread nD τ) ↦{fullShare.right} f

/-- The flag the body loads at a point. -/
abbrev flagAt (c : Dev nD) (f : Buf (Elt F) (flagM.view.loc (c : Thread nD τ))) (i : grid0.Coords) : BitVec 32 :=
  (flagM.access (Rect.unit (s := S160) (k0_off1 i) S1.size (k0_off1_inb i))).read (Elt F) f (Shape.Idx.first (numel1_S1.symm ▸ Nat.one_pos))

/-- The block of the output from the two halves of the hidden block and the weights in the scratch. -/
def downOf (d7 d8 : S256x512.Idx → Elt F .bf16) (sc : S1024x4096.Idx → Elt F .bf16) : S256x4096.Idx → Elt F .f32 :=
  k0_pay2 d7 (fun x => sc (ix2 (⟨(x 0).val, by have h : (x 0).val < 512 := (x 0).isLt; omega⟩ : Fin 1024) (x 1))) d8
    (fun x => sc (ix2 (⟨512 + (x 0).val, by have h : (x 0).val < 512 := (x 0).isLt; omega⟩ : Fin 1024) (x 1)))

/-- The weights' block rounded to half the width. -/
def castOf (d9 : S1x1024x4096.Idx → Elt F .f32) : S1024x4096.Idx → Elt F .bf16 :=
  fun x => FloatOps.truncf .bf16 bitsLt_bf16_f32 (d9 (ix3 (0 : Fin 1) (x 0) (x 1)))

/-- One trip's payload at a row and a column. -/
theorem pay1_at (arg9 : Memref sig .tc .vmem S1x1024x4096 .f32) (X : BufTy.Contents (Elt F) arg9.view.ty) (k : Fin k0_t1_loop.trips) (hk : k.val < 4) (r : Fin 256) (l : Fin 4096) :
    k0_pay1 (F := F) (View.readAt (Elt F) arg9.view (Rect.unit (s := S1x1024x4096) (k0_off2 k) S1x256x4096.size (k0_off2_inb k)).toLoadRect X) (ix2 r l)
      = castOf (arg9.view.read (Elt F) X) (ix2 (⟨256 * k.val + r.val, by omega⟩ : Fin 1024) l) := by
  unfold k0_pay1 castOf
  refine (congrFun (shapeCast_self _ _) (ix2 r l)).trans ?_
  show FloatOps.truncf .bf16 bitsLt_bf16_f32 (shapeCast S256x4096 _ _ (ix2 r l)) = _
  refine congrArg (FloatOps.truncf .bf16 bitsLt_bf16_f32) ((shapeCast_1ab_ab_apply _ _ _ _).trans ?_)
  rw [View.readAt_unit _ _ _ (k0_off2_eq k) (by rw [← k0_off2_eq k]; exact k0_off2_inb k)]
  refine congrArg (arg9.view.read (Elt F) X) (funext fun a => Fin.ext ?_)
  match a with
  | 0 => rfl
  | 1 => show 256 * k.val + 1 * r.val = 256 * k.val + r.val; omega
  | 2 => show 0 + 1 * l.val = l.val; omega

/-- The rows below the trips taken hold the rounded weights. -/
theorem trips_cast (𝒱 : Variants) (c : Dev nD) (bd : Option 𝒱.V) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole) (arg11 : Memref sig .tc .vmem S1024x4096 .bf16) (harg11 : arg11.IsWhole) (X : BufTy.Contents (Elt F) arg9.view.ty) (G : BufTy.Contents (Elt F) arg11.view.ty)
    (n : ℕ) (hn : n ≤ k0_t1_loop.trips) (r : Fin 1024) (l : Fin 4096) (hr : r.val < 256 * n) :
    arg11.view.read (Elt F) (arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 X n)) (ix2 r l) = castOf (arg9.view.read (Elt F) X) (ix2 r l) := by
  induction n with
  | zero => exact absurd hr (by omega)
  | succ n ih =>
    have hk : n < 4 := Nat.lt_of_lt_of_le hn k0_t1_abs.2.1
    have e := pb_k0_t1_succ (F := F) 𝒱 c bd i arg1 harg1 arg2 harg2 arg3 harg3 arg4 harg4 arg5 harg5 arg6 harg6 arg7 harg7 arg8 harg8 arg9 harg9 arg10 harg10 arg11 harg11 X ⟨n, hn⟩
    rw [show n + 1 = (⟨n, hn⟩ : Fin k0_t1_loop.trips).val + 1 from rfl, e]
    unfold tripL_k0_t1 trip_k0_t1
    dsimp only
    have ho := k0_off3_eq ⟨n, hn⟩
    by_cases h : 256 * n ≤ r.val
    · refine (View.read_writes_cons_rows_of_mem arg11.view G _ _ _ (ix2 r l) (ix2 (⟨r.val - 256 * n, by omega⟩ : Fin 256) l) ho (by show r.val = 256 * n + (r.val - 256 * n); omega) rfl).trans ?_
      refine (pay1_at arg9 X ⟨n, hn⟩ hk _ l).trans (congrArg (castOf _) ?_)
      refine congrArg (fun q => ix2 q l) (Fin.ext ?_)
      show 256 * n + (r.val - 256 * n) = r.val
      omega
    · refine (View.read_writes_cons_rows_of_not_mem (W := 256) arg11.view G _ _ _ (ix2 r l) ho rfl (by show r.val < 256 * n ∨ _; omega)).trans ?_
      exact ih (by omega) (by omega)

/-- After the loop the scratch reads the rounded weights. -/
theorem loop_cast (𝒱 : Variants) (c : Dev nD) (bd : Option 𝒱.V) (i : grid0.Coords) (arg1 : Memref sig .tc .smem S160 .i32) (harg1 : arg1.IsWhole) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S160 .i32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole) (arg11 : Memref sig .tc .vmem S1024x4096 .bf16) (harg11 : arg11.IsWhole) (X : BufTy.Contents (Elt F) arg9.view.ty) (G : BufTy.Contents (Elt F) arg11.view.ty) :
    arg11.view.read (Elt F) (arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 X k0_t1_loop.trips)) = castOf (arg9.view.read (Elt F) X) := by
  funext y
  have h4 : k0_t1_loop.trips = 4 := by decide
  have hy : y = ix2 (y 0) (y 1) := funext fun a => by match a with | 0 => rfl | 1 => rfl
  rw [hy]
  exact trips_cast 𝒱 c bd i arg1 harg1 arg2 harg2 arg3 harg3 arg4 harg4 arg5 harg5 arg6 harg6 arg7 harg7 arg8 harg8 arg9 harg9 arg10 harg10 arg11 harg11 X G _ le_rfl (y 0) (y 1) (by have h : (y 0).val < 1024 := (y 0).isLt; omega)

/-- The block from loads of the staging buffers and the scratch. -/
theorem pay2_loads (arg7 arg8 : Memref sig .tc .vmem S256x512 .bf16) (f7 : BufTy.Contents (Elt F) arg7.view.ty) (f8 : BufTy.Contents (Elt F) arg8.view.ty) (arg11 : Memref sig .tc .vmem S1024x4096 .bf16) (G : BufTy.Contents (Elt F) arg11.view.ty) :
    k0_pay2 (F := F) (View.readAt (Elt F) arg7.view (Rect.unit (s := S256x512) ![0, 0] S256x512.size inb_S256x512_S256x512_0_0).toLoadRect f7)
        (View.readAt (Elt F) arg11.view (Rect.unit (s := S1024x4096) ![0, 0] S512x4096.size inb_S1024x4096_S512x4096_0_0).toLoadRect G)
        (View.readAt (Elt F) arg8.view (Rect.unit (s := S256x512) ![0, 0] S256x512.size inb_S256x512_S256x512_0_0).toLoadRect f8)
        (View.readAt (Elt F) arg11.view (Rect.unit (s := S1024x4096) ![512, 0] S512x4096.size inb_S1024x4096_S512x4096_512_0).toLoadRect G)
      = downOf (arg7.view.read (Elt F) f7) (arg8.view.read (Elt F) f8) (arg11.view.read (Elt F) G) := by
  unfold downOf
  rw [View.readAt_full, View.readAt_full]
  congr 1
  · funext x
    refine congrArg (arg11.view.read (Elt F) G) (funext fun a => Fin.ext ?_)
    match a with
    | 0 => show 0 + 1 * (x 0).val = (x 0).val; omega
    | 1 => show 0 + 1 * (x 1).val = (x 1).val; omega
  · funext x
    refine congrArg (arg11.view.read (Elt F) G) (funext fun a => Fin.ext ?_)
    match a with
    | 0 => show 512 + 1 * (x 0).val = 512 + (x 0).val; omega
    | 1 => show 0 + 1 * (x 1).val = (x 1).val; omega

set_option maxHeartbeats 4000000 in
/-- At a block that keeps its weights. -/
theorem run_kept (c : Dev nD) (i : grid0.Coords) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole)
    (f : Buf (Elt F) (flagM.view.loc (c : Thread nD τ))) (h : flagAt c f i = 1#32)
    (d7 : S256x512.Idx → Elt F .bf16) (d8 : S256x512.Idx → Elt F .bf16) (sc : S1024x4096.Idx → Elt F .bf16) (E : Set ℕ) (K : PUnit → sProp 𝕄) :
        iprop(flagPt c f ∗ owns (c : Thread nD τ) arg7 fullShare d7 ∗ owns (c : Thread nD τ) arg8 fullShare d8 ∗ owns (c : Thread nD τ) scM fullShare sc
            ∗ (∃ d, owns (c : Thread nD τ) arg10 fullShare d)
            ∗ (iprop(flagPt c f ∗ owns (c : Thread nD τ) arg7 fullShare d7 ∗ owns (c : Thread nD τ) arg8 fullShare d8 ∗ owns (c : Thread nD τ) scM fullShare sc
                ∗ owns (c : Thread nD τ) arg10 fullShare (downOf d7 d8 sc)) -∗ K ⟨⟩))
          ⊢ wp frame (wpE (defs₀ (F := F)) Variants.none c none) E (bodyOn i arg7 harg7 arg8 harg8 arg9 harg9 arg10 harg10) K := by
    unfold bodyOn
    simp only [cc0_moe_down_eq_skeleton]; unfold cc0_moe_down_skel
    unfold owns
    iintro ⟨HT, ⟨%f7, %hf7, H7⟩, ⟨%f8, %hf8, H8⟩, ⟨%f11, %hf11, H11⟩, ⟨%d3, %f3, %hf3, H3⟩, Hk⟩
    sl_exec
    have hr : run_kept.sl.r c i f = 1#32 := h
    have h1 : ¬ (run_kept.sl.v5 c i f = 1#1) := by
      show ¬ (Scalar.cmpi .ne (Scalar.extui (Scalar.cmpi .ne (Scalar.andi (run_kept.sl.r c i f) 2#32) 0#32)) 0#32 = 1#1)
      rw [hr]; decide
    have h2 : (k0_cond2 (run_kept.sl.r c i f) = 1#1) := by
      show (k0_cond2 (run_kept.sl.r c i f) = 1#1)
      rw [hr]; decide
    have h3 : ¬ (k0_cond3 (run_kept.sl.r c i f) = 1#1) := by
      show ¬ (k0_cond3 (run_kept.sl.r c i f) = 1#1)
      rw [hr]; decide
    rw [if_neg h1]
    sl_exec
    sl_step
    iapply Hk
    isplitl [HT]; · iexact HT
    isplitl [H7]; · iexists f7; isplitr [H7]; (ipureintro; exact hf7); iexact H7
    isplitl [H8]; · iexists f8; isplitr [H8]; (ipureintro; exact hf8); iexact H8
    isplitl [H11]; · iexists f11; isplitr [H11]; (ipureintro; exact hf11); iexact H11
    iexists _; isplitr [H3]; rotate_left; · iexact H3
    ipureintro
    refine (View.read_writes_full arg10.view f3 _ _ []).trans ?_
    rw [← hf7, ← hf8, ← hf11]
    exact pay2_loads arg7 arg8 f7 f8 scM f11

set_option maxHeartbeats 4000000 in
/-- At a block that takes new weights. -/
theorem run_fresh (c : Dev nD) (i : grid0.Coords) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole)
    (f : Buf (Elt F) (flagM.view.loc (c : Thread nD τ))) (h : flagAt c f i = 3#32)
    (d7 : S256x512.Idx → Elt F .bf16) (d8 : S256x512.Idx → Elt F .bf16) (d9 : S1x1024x4096.Idx → Elt F .f32) (E : Set ℕ) (K : PUnit → sProp 𝕄) :
        iprop(flagPt c f ∗ owns (c : Thread nD τ) arg7 fullShare d7 ∗ owns (c : Thread nD τ) arg8 fullShare d8 ∗ owns (c : Thread nD τ) arg9 fullShare d9 ∗ (∃ d, owns (c : Thread nD τ) scM fullShare d)
            ∗ (∃ d, owns (c : Thread nD τ) arg10 fullShare d)
            ∗ (iprop(flagPt c f ∗ owns (c : Thread nD τ) arg7 fullShare d7 ∗ owns (c : Thread nD τ) arg8 fullShare d8 ∗ owns (c : Thread nD τ) arg9 fullShare d9 ∗ owns (c : Thread nD τ) scM fullShare (castOf d9)
                ∗ owns (c : Thread nD τ) arg10 fullShare (downOf d7 d8 (castOf d9))) -∗ K ⟨⟩))
          ⊢ wp frame (wpE (defs₀ (F := F)) Variants.none c none) E (bodyOn i arg7 harg7 arg8 harg8 arg9 harg9 arg10 harg10) K := by
    unfold bodyOn
    simp only [cc0_moe_down_eq_skeleton]; unfold cc0_moe_down_skel
    unfold owns
    iintro ⟨HT, ⟨%f7, %hf7, H7⟩, ⟨%f8, %hf8, H8⟩, ⟨%f9, %hf9, H9⟩, ⟨%d11, %f11, %hf11, H11⟩, ⟨%d3, %f3, %hf3, H3⟩, Hk⟩
    sl_exec
    have hr : run_fresh.sl.r c i f = 3#32 := h
    have h1 : (run_fresh.sl.v5 c i f = 1#1) := by
      show (Scalar.cmpi .ne (Scalar.extui (Scalar.cmpi .ne (Scalar.andi (run_fresh.sl.r c i f) 2#32) 0#32)) 0#32 = 1#1)
      rw [hr]; decide
    have h2 : (k0_cond2 (run_fresh.sl.r c i f) = 1#1) := by
      show (k0_cond2 (run_fresh.sl.r c i f) = 1#1)
      rw [hr]; decide
    have h3 : ¬ (k0_cond3 (run_fresh.sl.r c i f) = 1#1) := by
      show ¬ (k0_cond3 (run_fresh.sl.r c i f) = 1#1)
      rw [hr]; decide
    rw [if_pos h1]
    sl_exec
    sl_step
    have hc := loop_cast (F := F) Variants.none c none i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) f9 f11
    iapply Hk
    isplitl [HT]; · iexact HT
    isplitl [H7]; · iexists f7; isplitr [H7]; (ipureintro; exact hf7); iexact H7
    isplitl [H8]; · iexists f8; isplitr [H8]; (ipureintro; exact hf8); iexact H8
    isplitl [H9]; · iexists f9; isplitr [H9]; (ipureintro; exact hf9); iexact H9
    isplitl [H11]
    · iexists _; isplitr [H11]; rotate_left; (iexact H11)
      ipureintro
      rw [← hf9]
      exact hc
    iexists _; isplitr [H3]; rotate_left; · iexact H3
    ipureintro
    refine (View.read_writes_full arg10.view f3 _ _ []).trans ?_
    rw [← hf7, ← hf8, ← hf9, ← hc]
    exact pay2_loads arg7 arg8 f7 f8 scM _

set_option maxHeartbeats 4000000 in
/-- At a spare point the body stores zeros. -/
theorem run_zero (c : Dev nD) (i : grid0.Coords) (arg7 : Memref sig .tc .vmem S256x512 .bf16) (harg7 : arg7.IsWhole) (arg8 : Memref sig .tc .vmem S256x512 .bf16) (harg8 : arg8.IsWhole) (arg9 : Memref sig .tc .vmem S1x1024x4096 .f32) (harg9 : arg9.IsWhole) (arg10 : Memref sig .tc .vmem S256x4096 .f32) (harg10 : arg10.IsWhole)
    (f : Buf (Elt F) (flagM.view.loc (c : Thread nD τ))) (h : flagAt c f i = 4#32) (E : Set ℕ) (K : PUnit → sProp 𝕄) :
        iprop(flagPt c f ∗ (∃ d, owns (c : Thread nD τ) arg10 fullShare d)
            ∗ (iprop(flagPt c f ∗ owns (c : Thread nD τ) arg10 fullShare (k0_pay3 (F := F))) -∗ K ⟨⟩))
          ⊢ wp frame (wpE (defs₀ (F := F)) Variants.none c none) E (bodyOn i arg7 harg7 arg8 harg8 arg9 harg9 arg10 harg10) K := by
    unfold bodyOn
    simp only [cc0_moe_down_eq_skeleton]; unfold cc0_moe_down_skel
    unfold owns
    iintro ⟨HT, ⟨%d3, %f3, %hf3, H3⟩, Hk⟩
    sl_exec
    have hr : run_zero.sl.r c i f = 4#32 := h
    have h1 : ¬ (run_zero.sl.v5 c i f = 1#1) := by
      show ¬ (Scalar.cmpi .ne (Scalar.extui (Scalar.cmpi .ne (Scalar.andi (run_zero.sl.r c i f) 2#32) 0#32)) 0#32 = 1#1)
      rw [hr]; decide
    have h2 : ¬ (k0_cond2 (run_zero.sl.r c i f) = 1#1) := by
      show ¬ (k0_cond2 (run_zero.sl.r c i f) = 1#1)
      rw [hr]; decide
    have h3 : (k0_cond3 (run_zero.sl.r c i f) = 1#1) := by
      show (k0_cond3 (run_zero.sl.r c i f) = 1#1)
      rw [hr]; decide
    rw [if_neg h1]
    sl_exec
    sl_step
    iapply Hk
    isplitl [HT]; · iexact HT
    iexists _; isplitr [H3]; rotate_left; · iexact H3
    ipureintro
    exact View.read_writes_full arg10.view f3 _ _ []

end Cert.DownKernelIdeal.Gen
end
-- ==== Proof.DownItems.lean ====
module

public import proofs.«01_k».proof.Pre_items_of_blocks
public import proofs.«01_k».proof.Proof.Gen.Pre_items_of_blocks
public import Idealize.ShloMosaic.Lib.Pipeline.ValueKit
public import Idealize.ShloMosaic.Lib.StableHlo.ReadAt
public import Idealize.ShloMosaic.Lib.WordCmp

@[expose] public section

set_option maxRecDepth 16384

noncomputable section

namespace Cert.Proof.Down

open Idealize.ShloMosaic Idealize.ShloMosaic.WordCmp Cert.Pre_items_of_blocks

variable {F : FTy → Type} [FloatOps F]

/-- What the precondition says of the tables at point `t`. -/
structure Says (blk e cw bi bo co fg : IVec S160 32) (t : Fin 160) : Prop where
  e_lt : (e (ix1 t)).toNat < 32
  cw_eq : cw (ix1 t) = 0#32
  bi_lt : (bi (ix1 t)).toNat < 160
  bo_eq : bo (ix1 t) = BitVec.ofNat 32 t.val
  co_eq : co (ix1 t) = 0#32
  kind : fg (ix1 t) = 4#32 ∨ ((bi (ix1 t) = BitVec.ofNat 32 t.val ∧ (blk (ix1 t)).toNat < 32)
    ∧ ((fg (ix1 t) = 3#32 ∧ e (ix1 t) = blk (ix1 t))
      ∨ (fg (ix1 t) = 1#32 ∧ ∃ s : Fin 160, s.val + 1 = t.val ∧ fg (ix1 s) ≠ 4#32 ∧ blk (ix1 s) = blk (ix1 t))))

theorem and_one (a b : BitVec 1) : a &&& b = 1#1 ↔ a = 1#1 ∧ b = 1#1 := by revert a b; decide
theorem or_one (a b : BitVec 1) : a ||| b = 1#1 ↔ a = 1#1 ∨ b = 1#1 := by revert a b; decide

/-- A signed word from zero to below a small bound is a number below it. -/
theorem lt_of_signed {x : BitVec 32} {n : ℕ} (hn : n < 2 ^ 31) (h0 : IntOp.cmpi .sge x 0#32 = 1#1) (h1 : IntOp.cmpi .slt x (BitVec.ofNat 32 n) = 1#1) :
    x.toNat < n := by
  rw [cmpi_sge_zero, ofBool_eq_one_iff, decide_eq_true_iff] at h0
  rw [cmpi_slt_of_lt h0 (by rw [BitVec.toNat_ofNat, Nat.mod_eq_of_lt (by omega)]; exact hn), ofBool_eq_one_iff, decide_eq_true_iff,
    BitVec.toNat_ofNat, Nat.mod_eq_of_lt (by omega)] at h1
  exact h1

theorem eq_of_cmpi {x y : BitVec 32} (h : IntOp.cmpi .eq x y = 1#1) : x = y := by
  rw [cmpi_eq_eq, ofBool_eq_one_iff, decide_eq_true_iff] at h; exact h
theorem ne_of_cmpi {x y : BitVec 32} (h : IntOp.cmpi .ne x y = 1#1) : x ≠ y := by
  rw [cmpi_ne_eq, ofBool_eq_one_iff, decide_eq_true_iff] at h; exact h

theorem says_of {a0 a1 : FVec F S40960x512 .bf16} {a2 : FVec F S32x1024x4096 .f32} {blk e cw bi bo co fg : IVec S160 32}
    (h : fn a0 a1 a2 blk e cw bi bo co fg = fun _ => 1#1) (t : Fin 160) : Says blk e cw bi bo co fg t := by
  have h := congrFun h (ix1 t)
  unfold fn fn_part1 fn_part2 at h
  simp only [andi, ori, cmpi, IntOp.andi, IntOp.ori, and_one, or_one] at h
  obtain ⟨⟨⟨⟨⟨⟨⟨e0, e1⟩, hcw⟩, b0⟩, b1⟩, hbo⟩, hco⟩, hk⟩ := h
  refine ⟨lt_of_signed (by norm_num) e0 e1, eq_of_cmpi hcw, lt_of_signed (by norm_num) b0 b1, eq_of_cmpi hbo, eq_of_cmpi hco, ?_⟩
  rcases hk with hk | ⟨⟨⟨hb, k0⟩, k1⟩, hk⟩
  · exact .inl (eq_of_cmpi hk)
  refine .inr ⟨⟨eq_of_cmpi hb, lt_of_signed (by norm_num) k0 k1⟩, ?_⟩
  rcases hk with ⟨h3, he⟩ | ⟨h1, hc⟩
  · exact .inl ⟨eq_of_cmpi h3, eq_of_cmpi he⟩
  refine .inr ⟨eq_of_cmpi h1, ?_⟩
  pointwise at hc
  split at hc
  · exact absurd hc (by decide)
  rename_i ht
  rw [IntOp.andi, and_one] at hc
  have e : (⟨1 + (t.val - 1), by omega⟩ : Fin 160) = t := Fin.ext (by show 1 + (t.val - 1) = t.val; omega)
  exact ⟨⟨t.val - 1, by omega⟩, by show t.val - 1 + 1 = t.val; omega, ne_of_cmpi hc.1, (eq_of_cmpi hc.2).trans (congrArg (fun u => blk (ix1 u)) e)⟩

end Cert.Proof.Down

end
-- ==== Proof.DownFrameIdeal.lean ====
module

public import proofs.«01_k».proof.Proof.DownRunIdeal
public import proofs.«01_k».proof.Proof.DownItems

@[expose] public section

set_option maxRecDepth 16384

noncomputable section

namespace Cert.DownKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The six tables at the launch, and the pipeline they make. -/
def tbl : pre0.Contents (Elt F) := fun j => V m (0 : Dev nD) (pre0.ref j)
abbrev adm (hO : ok0 (tbl m)) : (pcfg0 (F := F)).Adm := ⟨tbl m, hO⟩
abbrev cfgM (hO : ok0 (tbl m)) : Cfg sig Λ₀ := cfg0 (adm m hO)

theorem V_tbl (c : Dev nD) (j : Fin 6) : V m c (pre0.ref j) = tbl m j := by
  obtain rfl : c = 0 := Subsingleton.elim _ _; rfl

/-- The flag of a point. -/
abbrev fl (c : Dev nD) (i : grid0.Coords) : BitVec 32 := flagAt (F := F) c (tbl m 5) i

/-- The block of a window at a point, of its array at the launch. -/
def iblk (hO : ok0 (tbl m)) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the tables have to say of the points: the rows of a point are nobody's; or the point is the first of its expert, and
    the weights' window stands at that expert; or the point before worked for the same expert. -/
structure Items (hO : ok0 (tbl m)) (wb : Fin (cfgM m hO).N → S1x1024x4096.Idx → Elt F .f32) : Prop where
  step : ∀ (c : Dev nD) (t : Fin (cfgM m hO).N), fl m c (grid0.coords t) = 4#32
    ∨ (fl m c (grid0.coords t) = 3#32 ∧ iblk m hO c 2 t = wb t)
    ∨ (fl m c (grid0.coords t) = 1#32 ∧ ∃ s : Fin (cfgM m hO).N, s.val + 1 = t.val ∧ fl m c (grid0.coords s) ≠ 4#32 ∧ wb s = wb t)

variable (hO : ok0 (tbl m)) (wb : Fin (cfgM m hO).N → S1x1024x4096.Idx → Elt F .f32)

/-- The output's block of a point. -/
def outBlk (c : Dev nD) (t : Fin (cfgM m hO).N) : S256x4096.Idx → Elt F .f32 :=
  if fl m c (grid0.coords t) = 4#32 then k0_pay3 (F := F) else downOf (iblk m hO c 0 t) (iblk m hO c 1 t) (castOf (wb t))

/-- The tables the body does not read. -/
def restT (c : Dev nD) : sProp 𝕄 :=
  bigSep ((Finset.univ : Finset (Fin 6)).erase 5) fun k => ((c.tc : Thread nD τ).loc (pre0.ref k)) ↦{fullShare.right} (tbl m k)

theorem PhiT_eq (c : Dev nD) : (Pipeline.ΦT pre0 (tbl m) c : sProp 𝕄) = iprop(flagPt c (tbl m 5) ∗ restT m c) := by
  unfold Pipeline.ΦT Pipeline.prefHeld restT
  have h : (Finset.univ : Finset (Fin 6)) = insert 5 ((Finset.univ : Finset (Fin 6)).erase 5) := by decide
  conv_lhs => rw [show (Finset.univ : Finset (Fin pre0.K)) = insert (5 : Fin 6) ((Finset.univ : Finset (Fin 6)).erase 5) from h]
  rw [bigSep_insert (by decide)]
  rfl

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- What is carried from point to point: the tables, and in the scratch the rounded weights of the point before, unless its
    rows were nobody's. -/
def car (c : Dev nD) (n : ℕ) : sProp 𝕄 :=
  iprop(flagPt c (tbl m 5) ∗ restT m c ∗ (∃ r, prngReg c r)
    ∗ ∃ sc, ⌜∀ s : Fin (cfgM m hO).N, s.val + 1 = n → fl m c (grid0.coords s) ≠ 4#32 → sc = castOf (wb s)⌝ ∗ owns (c : Thread nD τ) scM fullShare sc)

/-- The proof data of the call. -/
def dats : (p : Fin 1) → (c : Dev nD) → Dat τ (Elt F) Unit ℕ (UR sig nD τ) ℕ ((Pipeline.pin pcfgs fun _ => adm m hO) p) c :=
  fun _ c =>
    { A := fun w => V m c (Pipeline.arrRef spec0 w)
      after := fun w t => match w with
        | ⟨0, _⟩ => iblk m hO c 0 t
        | ⟨1, _⟩ => iblk m hO c 1 t
        | ⟨2, _⟩ => iblk m hO c 2 t
        | ⟨3, _⟩ => outBlk m hO wb c t
        | ⟨_ + 4, h⟩ => absurd h (Nat.not_lt.2 (Nat.le_add_left _ _))
      Φ := fun n => car m hO wb c n.val
      q := fun _ => fullShare
      owed := fun _ => 0 }

theorem A_eq (c : Dev nD) (w : Fin 4) : (dats m hO wb 0 c).A w = V m c (Pipeline.arrRef spec0 w) := rfl

theorem before_0 (c : Dev nD) (t : Fin (cfgM m hO).N) (d) : (dats m hO wb 0 c).before (0 : Fin 4) t d = iblk m hO c 0 t :=
  ((dats m hO wb 0 c).before_in_eq_fetched 0 rfl (fun _ => rfl) (fun _ _ _ => rfl) (fun t => rfl) t d).trans rfl
theorem before_1 (c : Dev nD) (t : Fin (cfgM m hO).N) (d) : (dats m hO wb 0 c).before (1 : Fin 4) t d = iblk m hO c 1 t :=
  ((dats m hO wb 0 c).before_in_eq_fetched 1 rfl (fun _ => rfl) (fun _ _ _ => rfl) (fun t => rfl) t d).trans rfl
theorem before_2 (c : Dev nD) (t : Fin (cfgM m hO).N) (d) : (dats m hO wb 0 c).before (2 : Fin 4) t d = iblk m hO c 2 t :=
  ((dats m hO wb 0 c).before_in_eq_fetched 2 rfl (fun _ => rfl) (fun _ _ _ => rfl) (fun t => rfl) t d).trans rfl

/-- The word the schedule reads of the flags is the word the body loads. -/
theorem atD_eq (c : Dev nD) (i : grid0.Coords) : (tbl m).atD 5 (k0_off1 i) = fl m c i := by
  have h : ∀ a, k0_off1 i a + 1 ≤ (pre0.ref 5).ty.shape.size a := fun a => by
    have := k0_off1_inb i a; fin_cases a; exact this
  refine (dif_pos h).trans ?_
  refine congrArg (tbl m 5) (funext fun a => Fin.ext ?_)
  show k0_off1 i a = k0_off1 i a + 1 * 0
  omega

/-- The output's block is stored at every point. -/
theorem busy3 (hI : Items m hO wb) (c : Dev nD) (t : Fin (cfgM m hO).N) : (cfgM m hO).idle 3 ((cfgM m hO).grid.coords t) = false := by
  show (!(k0_cond2 ((tbl m).atD 5 (k0_off1 (grid0.coords t))) == 1#1) && !(k0_cond3 ((tbl m).atD 5 (k0_off1 (grid0.coords t))) == 1#1)) = false
  rw [atD_eq m c]
  rcases hI.step c t with h | ⟨h, -⟩ | ⟨h, -⟩ <;> rw [h] <;> decide

/-- A staging buffer of a point. -/
abbrev st (w : Fin 4) (t : Fin (cfgM m hO).N) := ((cfgM m hO).win w).stage ((cfgM m hO).slots t w)

def bodyPost (c : Dev nD) (t : Fin (cfgM m hO).N) : sProp 𝕄 :=
  iprop(car m hO wb c (t.val + 1) ∗ (dats m hO wb 0 c).owesAt () t.succ
    ∗ owns (c : Thread nD τ) (st m hO 0 t) fullShare (iblk m hO c 0 t) ∗ owns (c : Thread nD τ) (st m hO 1 t) fullShare (iblk m hO c 1 t)
    ∗ owns (c : Thread nD τ) (st m hO 2 t) fullShare (iblk m hO c 2 t) ∗ owns (c : Thread nD τ) (st m hO 3 t) fullShare (outBlk m hO wb c t))

set_option maxHeartbeats 1600000 in
/-- The body at a point. -/
theorem body_at (hI : Items m hO wb) (c : Dev nD) (t : Fin (cfgM m hO).N) :
    iprop(car m hO wb c t.val ∗ (dats m hO wb 0 c).owesAt () t.castSucc
      ∗ owns (c : Thread nD τ) (st m hO 0 t) fullShare (iblk m hO c 0 t) ∗ owns (c : Thread nD τ) (st m hO 1 t) fullShare (iblk m hO c 1 t)
      ∗ owns (c : Thread nD τ) (st m hO 2 t) fullShare (iblk m hO c 2 t) ∗ (∃ d, owns (c : Thread nD τ) (st m hO 3 t) fullShare d))
    ⊢ wp frame (wpE (defs₀ (F := F)) Variants.none c none) Set.univ
      (bodyOn (grid0.coords t) (st m hO 0 t) (stage_whole0 0 _) (st m hO 1 t) (stage_whole0 1 _) (st m hO 2 t) (stage_whole0 2 _) (st m hO 3 t) (stage_whole0 3 _))
      (fun _ => bodyPost m hO wb c t) := by
  have he : (dats m hO wb 0 c).owesAt () t.succ = (dats m hO wb 0 c).owesAt () t.castSucc := rfl
  unfold bodyPost car
  rw [he]
  iintro ⟨⟨HF, HT, Hg, ⟨%sc, %hsc, HS⟩⟩, Ho, H0, H1, H2, H3⟩
  rcases hI.step c t with h | ⟨h, hw⟩ | ⟨h, s, hs, hn, hws⟩
  · have hb : outBlk m hO wb c t = k0_pay3 (F := F) := if_pos h
    rw [hb]
    iapply (run_zero c (grid0.coords t) (st m hO 0 t) (stage_whole0 0 _) (st m hO 1 t) (stage_whole0 1 _) (st m hO 2 t) (stage_whole0 2 _) (st m hO 3 t) (stage_whole0 3 _) (tbl m 5) h)
    isplitl [HF]; · iexact HF
    isplitl [H3]; · iexact H3
    iintro ⟨HF, H3⟩
    isplitl [HF HT Hg HS]
    · isplitl [HF]; · iexact HF
      isplitl [HT]; · iexact HT
      isplitl [Hg]; · iexact Hg
      iexists sc; isplitr; swap; · iexact HS
      ipureintro; intro s hs hn
      exact absurd h (by rwa [show s = t from Fin.ext (by omega)] at hn)
    isplitl [Ho]; · iexact Ho
    isplitl [H0]; · iexact H0
    isplitl [H1]; · iexact H1
    isplitl [H2]; · iexact H2
    iexact H3
  · have hb : outBlk m hO wb c t = downOf (iblk m hO c 0 t) (iblk m hO c 1 t) (castOf (wb t)) := if_neg (by rw [h]; decide)
    rw [hb, ← hw]
    iapply (run_fresh c (grid0.coords t) (st m hO 0 t) (stage_whole0 0 _) (st m hO 1 t) (stage_whole0 1 _) (st m hO 2 t) (stage_whole0 2 _) (st m hO 3 t) (stage_whole0 3 _) (tbl m 5) h (iblk m hO c 0 t) (iblk m hO c 1 t) (iblk m hO c 2 t))
    isplitl [HF]; · iexact HF
    isplitl [H0]; · iexact H0
    isplitl [H1]; · iexact H1
    isplitl [H2]; · iexact H2
    isplitl [HS]; · iexists sc; iexact HS
    isplitl [H3]; · iexact H3
    iintro ⟨HF, H0, H1, H2, HS, H3⟩
    isplitl [HF HT Hg HS]
    · isplitl [HF]; · iexact HF
      isplitl [HT]; · iexact HT
      isplitl [Hg]; · iexact Hg
      iexists _; isplitr; swap; · iexact HS
      ipureintro; intro s hs hn
      rw [show s = t from Fin.ext (by omega), ← hw]
    isplitl [Ho]; · iexact Ho
    isplitl [H0]; · iexact H0
    isplitl [H1]; · iexact H1
    isplitl [H2]; · iexact H2
    iexact H3
  · have hb : outBlk m hO wb c t = downOf (iblk m hO c 0 t) (iblk m hO c 1 t) (castOf (wb t)) := if_neg (by rw [h]; decide)
    have hk := hsc s hs hn
    rw [hws] at hk
    subst hk
    rw [hb]
    iapply (run_kept c (grid0.coords t) (st m hO 0 t) (stage_whole0 0 _) (st m hO 1 t) (stage_whole0 1 _) (st m hO 2 t) (stage_whole0 2 _) (st m hO 3 t) (stage_whole0 3 _) (tbl m 5) h (iblk m hO c 0 t) (iblk m hO c 1 t) (castOf (wb t)))
    isplitl [HF]; · iexact HF
    isplitl [H0]; · iexact H0
    isplitl [H1]; · iexact H1
    isplitl [HS]; · iexact HS
    isplitl [H3]; · iexact H3
    iintro ⟨HF, H0, H1, HS, H3⟩
    isplitl [HF HT Hg HS]
    · isplitl [HF]; · iexact HF
      isplitl [HT]; · iexact HT
      isplitl [Hg]; · iexact Hg
      iexists _; isplitr; swap; · iexact HS
      ipureintro; intro s hs hn
      rw [show s = t from Fin.ext (by omega)]
    isplitl [Ho]; · iexact Ho
    isplitl [H0]; · iexact H0
    isplitl [H1]; · iexact H1
    isplitl [H2]; · iexact H2
    iexact H3

/-- The pipeline's obligation of the body. -/
theorem body_ok (hI : Items m hO wb) (c : Dev nD) : BodyObligationLoose (dats m hO wb 0 c) (defs₀ (F := F)) Variants.none () Set.univ := by
  intro t
  rw [bigSep_W0, bigSep_W0]
  have hb := busy3 m hO wb hI c t
  have hp : (fun _ => bodyPost m hO wb c t) = fun _ : PUnit => iprop(car m hO wb c (t.val + 1) ∗ (dats m hO wb 0 c).owesAt () t.succ
    ∗ owns (c : Thread nD τ) (st m hO 0 t) fullShare (iblk m hO c 0 t) ∗ owns (c : Thread nD τ) (st m hO 1 t) fullShare (iblk m hO c 1 t)
    ∗ owns (c : Thread nD τ) (st m hO 2 t) fullShare (iblk m hO c 2 t) ∗ (match (cfgM m hO).idle 3 ((cfgM m hO).grid.coords t) with
      | true => match ((cfgM m hO).win 3).flush t with
        | false => iprop(∃ d, owns (c : Thread nD τ) (st m hO 3 t) fullShare ((dats m hO wb 0 c).before 3 t d))
        | true => owns (c : Thread nD τ) (st m hO 3 t) fullShare (outBlk m hO wb c t)
      | false => owns (c : Thread nD τ) (st m hO 3 t) fullShare (outBlk m hO wb c t))) := by
    rw [hb]; rfl
  have key := body_at m hO wb hI c t
  rw [hp] at key
  refine BIBase.Entails.trans ?_ key
  rw [show (dats m hO wb 0 c).Φ t.castSucc = car m hO wb c t.val from rfl]
  iintro ⟨HC, Ho, ⟨%d0, H0⟩, ⟨%d1, H1⟩, ⟨%d2, H2⟩, ⟨%d3, H3⟩⟩
  rw [before_0, before_1, before_2]
  isplitl [HC]; · iexact HC
  isplitl [Ho]; · iexact Ho
  isplitl [H0]; · iexact H0
  isplitl [H1]; · iexact H1
  isplitl [H2]; · iexact H2
  iexists _; iexact H3

/-- The run of the call: every array as the points leave it, every counter at zero. -/
theorem run (hI : Items m hO wb) :
    θ_run defs (onTc (τ := τ) (main (F := F))) (s₀ m ρ) (fun r => Pipeline.FramePost (Pipeline.pin pcfgs fun _ => adm m hO) (dats m hO wb) 0 (V m) r ∧ r.2.sem = fun _ => 0) :=
  Pipeline.θ_run_frameP_track (Q' := _) pcfgs (fun _ => adm m hO) (dats m hO wb) 0 launch0 defs₀ Variants.none m ρ main
    (fun c => body_ok m hO wb hI c) (fun c w => by unfold Dat.share; split <;> rfl) (fun _ _ => rfl) (V m)
    (Pipeline.hmainP_region pcfgs 0 defs₀ Variants.none m main fun c => (main_chain c).trans rfl)
    (fun c w => A_eq m hO wb c w) (fun c k => V_tbl m c k)
    (fun c => by
      show iprop(Pipeline.ΦA spec0 c ∗ Pipeline.ΦT pre0 (tbl m) c) ⊢ car m hO wb c 0
      rw [PhiA_eq, PhiT_eq]; unfold car
      iintro ⟨⟨⟨%d, HS⟩, Hg⟩, HF, HT⟩
      isplitl [HF]; · iexact HF
      isplitl [HT]; · iexact HT
      isplitl [Hg]; · iexact Hg
      iexists d; isplitr; swap; · iexact HS
      ipureintro; intro s hs; omega)
    (fun c => by
      show car m hO wb c _ ⊢ Pipeline.ΦA spec0 c
      rw [PhiA_eq]; unfold car
      iintro ⟨-, -, Hg, ⟨%d, -, HS⟩⟩
      isplitl [HS]; · iexists d; iexact HS
      iexact Hg)

/-! ### What the tables say -/

/-- The place in a table that a point reads. -/
theorem emb_eq (i : grid0.Coords) :
    (Rect.unit (s := S160) (k0_off1 i) S1.size (k0_off1_inb i)).emb (Shape.Idx.first (numel1_S1.symm ▸ Nat.one_pos)) = ix1 (i 0) := by
  funext a
  match a with
  | ⟨0, _⟩ =>
    refine Fin.ext ?_
    have h : k0_off1 i 0 = (i 0).val := congrFun (k0_off1_eq i) 0
    show k0_off1 i 0 + 1 * 0 = (i 0).val
    omega

theorem tr0 (i : grid0.Coords) : cc0_transform_0 k0_off1_inb numel1_S1 (tbl m) i = ![(tbl m 2 (ix1 (i 0))).toNat, 0] :=
  congrArg (fun j : S160.Idx => (![(tbl m 2 j).toNat, 0] : Fin 2 → ℕ)) (emb_eq i)
theorem tr1 (i : grid0.Coords) : cc0_transform_1 k0_off1_inb numel1_S1 (tbl m) i = ![(tbl m 2 (ix1 (i 0))).toNat, 0] :=
  congrArg (fun j : S160.Idx => (![(tbl m 2 j).toNat, 0] : Fin 2 → ℕ)) (emb_eq i)
theorem tr2 (i : grid0.Coords) : cc0_transform_2 k0_off1_inb numel1_S1 (tbl m) i = ![(tbl m 0 (ix1 (i 0))).toNat, 0, (tbl m 1 (ix1 (i 0))).toNat] :=
  congrArg (fun j : S160.Idx => (![(tbl m 0 j).toNat, 0, (tbl m 1 j).toNat] : Fin 3 → ℕ)) (emb_eq i)
theorem tr3 (i : grid0.Coords) : cc0_transform_3 k0_off1_inb numel1_S1 (tbl m) i = ![(tbl m 3 (ix1 (i 0))).toNat, (tbl m 4 (ix1 (i 0))).toNat] :=
  congrArg (fun j : S160.Idx => (![(tbl m 3 j).toNat, (tbl m 4 j).toNat] : Fin 2 → ℕ)) (emb_eq i)
theorem fl_eq (c : Dev nD) (i : grid0.Coords) : fl m c i = tbl m 5 (ix1 (i 0)) :=
  congrArg (fun j : S160.Idx => tbl m 5 j) (emb_eq i)

/-- The experts of the blocks, as the launch finds them. -/
abbrev blkE : S160.Idx → BitVec 32 := m ((0 : Dev nD).tc.loc main_arg3)

/-- The tables say of every point what the precondition has them say. -/
abbrev SaysAll : Prop := ∀ t : Fin 160, Cert.Proof.Down.Says (blkE m) (tbl m 0) (tbl m 1) (tbl m 2) (tbl m 3) (tbl m 4) (tbl m 5) t

theorem ok_of (hS : SaysAll m) : ok0 (tbl m) := by
  refine ⟨fun i => ?_, fun i => ?_, fun i => ?_, fun i => ?_⟩
  all_goals obtain ⟨h0, h1, h2, h3, h4, -⟩ := hS (i 0)
  · refine ⟨fun a => ?_, .inr (.inl (.inr ⟨Nat.le_refl 2, rfl, .inl ⟨Dvd.dvd.mul_left (show 2 ∣ 256 by decide) _, show 2 ∣ 256 by decide⟩⟩))⟩
    rw [tr0]; match a with
    | ⟨0, _⟩ => show ((tbl m 2 (ix1 (i 0))).toNat + 1) * 256 ≤ 40960; omega
    | ⟨1, _⟩ => show (0 + 1) * 512 ≤ 512; omega
  · refine ⟨fun a => ?_, .inr (.inl (.inr ⟨Nat.le_refl 2, rfl, .inl ⟨Dvd.dvd.mul_left (show 2 ∣ 256 by decide) _, show 2 ∣ 256 by decide⟩⟩))⟩
    rw [tr1]; match a with
    | ⟨0, _⟩ => show ((tbl m 2 (ix1 (i 0))).toNat + 1) * 256 ≤ 40960; omega
    | ⟨1, _⟩ => show (0 + 1) * 512 ≤ 512; omega
  · refine ⟨fun a => ?_, .inl rfl⟩
    rw [tr2, h1]; match a with
    | ⟨0, _⟩ => show ((tbl m 0 (ix1 (i 0))).toNat + 1) * 1 ≤ 32; omega
    | ⟨1, _⟩ => show (0 + 1) * 1024 ≤ 1024; omega
    | ⟨2, _⟩ => show ((0#32).toNat + 1) * 4096 ≤ 4096; decide
  · refine ⟨fun a => ?_, .inl rfl⟩
    have hi : (i 0).val < 160 := (i 0).isLt
    rw [tr3, h3, h4]; match a with
    | ⟨0, _⟩ => show ((BitVec.ofNat 32 (i 0).val).toNat + 1) * 256 ≤ 40960; rw [BitVec.toNat_ofNat]; omega
    | ⟨1, _⟩ => show ((0#32).toNat + 1) * 4096 ≤ 4096; decide

/-- The weights of an expert, and of a point's. -/
def wW (b : BitVec 32) : S1x1024x4096.Idx → Elt F .f32 := fun x =>
  (m ((0 : Dev nD).tc.loc main_arg2) : S32x1024x4096.Idx → Elt F .f32) (ix3 ⟨b.toNat % 32, Nat.mod_lt _ (by omega)⟩ (x 1) (x 2))
def wOf (hO : ok0 (tbl m)) (t : Fin (cfgM m hO).N) : S1x1024x4096.Idx → Elt F .f32 := wW m (blkE m (ix1 (grid0.coords t 0)))

theorem coords_val (t : Fin grid0.N) : (grid0.coords t 0).val = t.val := (by decide +kernel : ∀ t : Fin grid0.N, (grid0.coords t 0).val = t.val) t

theorem items_of (hS : SaysAll m) : Items m (ok_of m hS) (wOf m (ok_of m hS)) where
  step c t := by
    obtain rfl : c = 0 := Subsingleton.elim _ _
    obtain ⟨h0, h1, h2, h3, h4, hk⟩ := hS (grid0.coords t 0)
    rw [fl_eq]
    rcases hk with hk | ⟨⟨hb, hl⟩, ⟨h3, he⟩ | ⟨hf, s, hs, hn, hw⟩⟩
    · exact .inl hk
    · refine .inr (.inl ⟨h3, ?_⟩)
      refine funext fun (x : S1x1024x4096.Idx) => ?_
      refine congrArg (m ((0 : Dev nD).tc.loc main_arg2) : S32x1024x4096.Idx → Elt F .f32) (funext fun a => Fin.ext ?_)
      have hx : (x 0).val < 1 := (x 0).isLt
      match a with
      | ⟨0, _⟩ =>
        show cc0_transform_2 k0_off1_inb numel1_S1 (tbl m) (grid0.coords t) 0 * 1 + 1 * (x 0).val = (blkE m (ix1 (grid0.coords t 0))).toNat % 32
        rw [tr2]
        show (tbl m 0 (ix1 (grid0.coords t 0))).toNat * 1 + 1 * (x 0).val = _
        rw [he, Nat.mod_eq_of_lt hl]; omega
      | ⟨1, _⟩ =>
        show cc0_transform_2 k0_off1_inb numel1_S1 (tbl m) (grid0.coords t) 1 * 1024 + 1 * (x 1).val = (x 1).val
        rw [tr2]
        show 0 * 1024 + 1 * (x 1).val = _
        omega
      | ⟨2, _⟩ =>
        show cc0_transform_2 k0_off1_inb numel1_S1 (tbl m) (grid0.coords t) 2 * 4096 + 1 * (x 2).val = (x 2).val
        rw [tr2]
        show (tbl m 1 (ix1 (grid0.coords t 0))).toNat * 4096 + 1 * (x 2).val = _
        rw [h1]
        show 0 * 4096 + 1 * (x 2).val = _
        omega
    · have e : grid0.coords (⟨s.val, s.isLt⟩ : Fin grid0.N) 0 = s := Fin.ext (coords_val _)
      refine .inr (.inr ⟨hf, ⟨s.val, s.isLt⟩, by rw [hs]; exact coords_val t, ?_, ?_⟩)
      · rw [fl_eq, e]; exact hn
      · exact congrArg (wW m) ((congrArg (fun u => blkE m (ix1 u)) e).trans hw)

/-- The call runs; it leaves the result as the points leave it, the arguments as they were and every counter at zero. -/
theorem run_said (hS : SaysAll m) : θ_run defs (onTc (τ := τ) (main (F := F))) ⟨m, fun _ => 0, ρ⟩ (fun r => (∀ c : Dev nD,
      r.2.mem ((c.tc : Thread nD τ).loc main_v0) = (dats m (ok_of m hS) (wOf m (ok_of m hS)) 0 c).arrAt 3 (cfgM m (ok_of m hS)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r (h : _ ∧ _) => ⟨fun c => by
    have hr : ∀ b, b ∈ Pipeline.restRefs sig spec0 → r.2.mem ((c.tc : Thread nD τ).loc b) = m ((c.tc : Thread nD τ).loc b) := (h.1 c).2
    refine ⟨(h.1 c).1 3, ((h.1 c).1 0).trans ((dats m _ _ 0 c).arrAt_in 0 rfl _), ((h.1 c).1 1).trans ((dats m _ _ 0 c).arrAt_in 1 rfl _),
      ((h.1 c).1 2).trans ((dats m _ _ 0 c).arrAt_in 2 rfl _), hr _ ?_, hr _ ?_, hr _ ?_, hr _ ?_, hr _ ?_, hr _ ?_, hr _ ?_⟩
    all_goals decide, h.2⟩) (run m ρ _ _ (items_of m hS))

/-- The call runs, leaves its arguments as they were and every counter at zero. -/
theorem frame (hS : SaysAll m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h.1 c).2, h.2⟩) (run_said m ρ hS)

end Cert.DownKernelIdeal.Gen

end
-- ==== Proof.DownBits.lean ====
/- Hand-written, untrusted: THE FRAMES OF THE EXPERTS' SECOND PRODUCT. Nothing was rewritten between the two programs: they are the
   same text, and what is proved of the one at any float values is carried to the other. -/
module

public import proofs.«01_k».proof.Defs
public import proofs.«01_k».proof.Proof.DownFrameIdeal
public import proofs.«01_k».proof.Proof.Gen.DownKernel.Launch

@[expose] public section

set_option maxRecDepth 16384

noncomputable section

namespace Cert.Proof.Down

open Idealize.ShloMosaic Idealize.SL.Sem

variable {F : FTy → Type} [FloatOps F]

/-- The call at the ideal reading runs, leaves its arguments as they were and every counter at zero. -/
theorem frameIdeal : Cert.quiescent_DownKernelIdeal (hDownKernelIdeal := Cert.DownKernelIdeal.Gen.facts) (hPre_items_of_blocks := Cert.Pre_items_of_blocks.Gen.facts) :=
  fun m ρ hp => Cert.DownKernelIdeal.Gen.frame m ρ fun t => says_of (hp 0) t

/-- The two programs have the same pipeline. -/
theorem pcfgs_eq : @Cert.DownKernel.pcfgs F _ Cert.DownKernel.Gen.facts = @Cert.DownKernelIdeal.pcfgs F _ Cert.DownKernelIdeal.Gen.facts := rfl

/-- The two programs have the same body. -/
theorem defs₀_eq : @Cert.DownKernel.defs₀ F _ Cert.DownKernel.Gen.facts = @Cert.DownKernelIdeal.defs₀ F _ Cert.DownKernelIdeal.Gen.facts := by
  refine congrArg Defs.onTc ?_
  funext l a
  match l, a with
  | 0, (t, s) => rfl

/-- A pipeline and a body, called once, run from a memory to a post. -/
def Runs (m : (ℓ : Loc Cert.DownKernelIdeal.nD Cert.DownKernelIdeal.τ Cert.DownKernelIdeal.sig) → Buf (Elt F) ℓ) (g : Dev Cert.DownKernelIdeal.nD → PrngReg)
    (Q : PUnit × MemSt Cert.DownKernelIdeal.nD Cert.DownKernelIdeal.τ Cert.DownKernelIdeal.sig (Elt F) → Prop)
    (pcs : Fin 1 → Pipeline.PCfg Cert.DownKernelIdeal.sig Cert.DownKernelIdeal.Λ₀ (Elt F))
    (d : Defs Cert.DownKernelIdeal.nD Cert.DownKernelIdeal.τ Cert.DownKernelIdeal.sig (Elt F) Cert.DownKernelIdeal.Λ₀) : Prop :=
  θ_run (Pipeline.defs pcs d) (onTc (τ := Cert.DownKernelIdeal.τ) fun _ => do
    Prog.lift (.customCall (Pipeline.entry 0) ())
    pure ⟨⟩) ⟨m, fun _ => 0, g⟩ Q

set_option maxHeartbeats 1000000 in
/-- The call as it is compiled runs, leaves its arguments as they were and every counter at zero. -/
theorem frameBits : Cert.quiescent_DownKernel (hDownKernel := Cert.DownKernel.Gen.facts) (hPre_items_of_blocks := Cert.Pre_items_of_blocks.Gen.facts) := by
  intro m ρ hp
  have key : Runs m ρ _ Cert.DownKernelIdeal.pcfgs Cert.DownKernelIdeal.defs₀ := Cert.DownKernelIdeal.Gen.frame (F := Bits) m ρ fun t => says_of (hp 0) t
  have key' : Runs m ρ _ (@Cert.DownKernel.pcfgs Bits _ Cert.DownKernel.Gen.facts) (@Cert.DownKernel.defs₀ Bits _ Cert.DownKernel.Gen.facts) :=
    (congrArg₂ (Runs m ρ _) pcfgs_eq defs₀_eq).mpr key
  exact key'

end Cert.Proof.Down

end
-- ==== Proof.DownValue.lean ====
/- Hand-written, untrusted: THE VALUES OF THE EXPERTS' SECOND PRODUCT. A block of the output is the sum of two products, each over half of
   the hidden features; the reference takes one product over all of them with the block's expert picked. -/
module

public import proofs.«01_k».proof.Defs
public import proofs.«01_k».proof.Proof.DownFrameIdeal
public import proofs.«01_k».proof.Proof.Gen.DownReferenceIdeal.Run
public import Idealize.ShloMosaic.Lib.Pipeline.ValueKit
public import Idealize.ShloMosaic.Lib.StableHlo.ReadAt

@[expose] public section

set_option maxRecDepth 16384

noncomputable section

namespace Cert.Proof.Down

open Cert.DownKernelIdeal Cert.DownKernelIdeal.Gen Idealize.ShloMosaic Idealize.ShloMosaic.TcCoe Idealize.SL.Sem
open Idealize.ShloMosaic.Pipeline (Dat)

/-- The reference's product with the blocks' weights given, the rows that are nobody's set to zero. -/
abbrev REFG (h0 h1 : FVec Ideal S40960x512 .bf16) (g : FVec Ideal Cert.DownReferenceIdeal.S160x1024x4096 .f32) (fg : IVec S160 32) : FVec Ideal S40960x4096 .f32 :=
  shapeCast Cert.DownReferenceIdeal.S40960x4096 (select (broadcastInDim Cert.DownReferenceIdeal.S160x256x4096 ![0, 1, 2] Cert.DownReferenceIdeal.Gen.bcast_S160x1x1_S160x256x4096_0_1_2 (broadcastInDim Cert.DownReferenceIdeal.S160x1x1 ![0] Cert.DownReferenceIdeal.Gen.bcast_S160_S160x1x1_0 (cmpi .eq fg (broadcastInDim Cert.DownReferenceIdeal.S160 ![] Cert.DownReferenceIdeal.Gen.bcast_S_S160 (constantI Cert.DownReferenceIdeal.S_ 32 4#32))))) (broadcastInDim Cert.DownReferenceIdeal.S160x256x4096 ![] Cert.DownReferenceIdeal.Gen.bcast_S_S160x256x4096 (id (constant Cert.DownReferenceIdeal.S_ .f32 0x00000000#32))) (Host.dotGeneral Cert.DownReferenceIdeal.dot_S160x256x1024_S160x1024x4096_S160x256x4096_2_1_1_2_0_0 none (shapeCast Cert.DownReferenceIdeal.S160x256x1024 (extf .f32 (concatenate Cert.DownReferenceIdeal.S40960x1024 1 [⟨Cert.DownReferenceIdeal.S40960x512, h0⟩, ⟨Cert.DownReferenceIdeal.S40960x512, h1⟩] Cert.DownReferenceIdeal.Gen.concatenates_S40960x512_S40960x512_S40960x1024_d1) Cert.DownReferenceIdeal.Gen.bitsLt_bf16_f32) Cert.DownReferenceIdeal.Gen.shapeCasts_S40960x1024_S160x256x1024) g)) Cert.DownReferenceIdeal.Gen.shapeCasts_S160x256x4096_S40960x4096

/-- The weights of the blocks' experts. -/
abbrev picked (w : FVec Ideal S32x1024x4096 .f32) (blk : IVec S160 32) : FVec Ideal Cert.DownReferenceIdeal.S160x1024x4096 .f32 :=
  Host.gather Cert.DownReferenceIdeal.gather_S32x1024x4096_S160x1_S160x1024x4096_12_0_n_n_0_1_110244096 w (broadcastInDim Cert.DownReferenceIdeal.S160x1 ![0] Cert.DownReferenceIdeal.Gen.bcast_S160_S160x1_0 (select (cmpi .slt blk (broadcastInDim Cert.DownReferenceIdeal.S160 ![] Cert.DownReferenceIdeal.Gen.bcast_S_S160 (constantI Cert.DownReferenceIdeal.S_ 32 0#32))) (addi blk (broadcastInDim Cert.DownReferenceIdeal.S160 ![] Cert.DownReferenceIdeal.Gen.bcast_S_S160 (constantI Cert.DownReferenceIdeal.S_ 32 32#32))) blk))

/-- The reference's result. -/
abbrev REF (h0 h1 : FVec Ideal S40960x512 .bf16) (w : FVec Ideal S32x1024x4096 .f32) (blk fg : IVec S160 32) : FVec Ideal S40960x4096 .f32 :=
  REFG h0 h1 (picked w blk) fg

/-- What the body stores of two halves, at an index. -/
theorem pay2_at (a b : FVec Ideal S256x512 .bf16) (u v : FVec Ideal S512x4096 .bf16) (r : Fin 256) (l : Fin 4096) :
    (k0_pay2 a u b v : FVec Ideal S256x4096 .f32) (ix2 r l) = (∑ k : Fin 512, a (ix2 r k) * u (ix2 k l)) + ∑ k : Fin 512, b (ix2 r k) * v (ix2 k l) := by
  pointwise [k0_pay2]

/-- What the body stores for nobody's rows, at an index. -/
theorem pay3_at (r : Fin 256) (l : Fin 4096) : (k0_pay3 : FVec Ideal S256x4096 .f32) (ix2 r l) = (0 : EReal) := by
  pointwise [k0_pay3]

/-- A block from the halves of its hidden features and the weights of its expert, at an index. -/
theorem down_at (a b : FVec Ideal S256x512 .bf16) (w : FVec Ideal S1x1024x4096 .f32) (r : Fin 256) (l : Fin 4096) :
    (downOf (F := Ideal) a b (castOf w) : FVec Ideal S256x4096 .f32) (ix2 r l)
      = (∑ k : Fin 512, a (ix2 r k) * w (ix3 (0 : Fin 1) (⟨k.val, by omega⟩ : Fin 1024) l)) + ∑ k : Fin 512, b (ix2 r k) * w (ix3 (0 : Fin 1) (⟨512 + k.val, by omega⟩ : Fin 1024) l) :=
  pay2_at _ _ _ _ r l

/-- The constant put on nobody's rows is zero. -/
theorem none_at : (constant Cert.DownReferenceIdeal.S_ .f32 0x00000000#32 : FVec Ideal Cert.DownReferenceIdeal.S_ .f32) ix0 = (0 : EReal) := by
  pointwise

/-- The reference's result at an index: its sum is taken in two halves. -/
theorem refg_at (h0 h1 : FVec Ideal S40960x512 .bf16) (g : FVec Ideal Cert.DownReferenceIdeal.S160x1024x4096 .f32) (fg : IVec S160 32) (n : Fin 40960) (l : Fin 4096) :
    REFG h0 h1 g fg (ix2 n l) = if fg (ix1 (⟨n.val / 256, by omega⟩ : Fin 160)) = 4#32 then (0 : EReal)
      else (∑ k : Fin 512, h0 (ix2 n k) * g (ix3 (⟨n.val / 256, by omega⟩ : Fin 160) (⟨k.val, by omega⟩ : Fin 1024) l))
        + ∑ k : Fin 512, h1 (ix2 n k) * g (ix3 (⟨n.val / 256, by omega⟩ : Fin 160) (⟨512 + k.val, by omega⟩ : Fin 1024) l) := by
  pointwise [REFG]
  by_cases h : fg (ix1 (⟨n.val / 256, by omega⟩ : Fin 160)) = 4#32
  · rw [if_pos h, h]; exact none_at
  · rw [if_neg h]
    have e : IntOp.cmpi .eq (fg (ix1 (⟨n.val / 256, by omega⟩ : Fin 160))) 4#32 = 0#1 := by
      show BitVec.ofBool (_ == _) = _
      rw [beq_eq_false_iff_ne.mpr h]; rfl
    rw [e]; rfl

/-- The reference's result at an index of a block. -/
theorem refg_in (h0 h1 : FVec Ideal S40960x512 .bf16) (g : FVec Ideal Cert.DownReferenceIdeal.S160x1024x4096 .f32) (fg : IVec S160 32) (n : Fin 40960) (l : Fin 4096)
    (t : Fin 160) (ht : (⟨n.val / 256, by omega⟩ : Fin 160) = t) :
    REFG h0 h1 g fg (ix2 n l) = if fg (ix1 t) = 4#32 then (0 : EReal)
      else (∑ k : Fin 512, h0 (ix2 n k) * g (ix3 t (⟨k.val, by omega⟩ : Fin 1024) l)) + ∑ k : Fin 512, h1 (ix2 n k) * g (ix3 t (⟨512 + k.val, by omega⟩ : Fin 1024) l) := by
  subst ht; exact refg_at h0 h1 g fg n l

/-- A gathered weight. -/
theorem gather_at (w : FVec Ideal S32x1024x4096 .f32) (idx : IVec Cert.DownReferenceIdeal.S160x1 32) (t : Fin 160) (k : Fin 1024) (l : Fin 4096) :
    Host.gather Cert.DownReferenceIdeal.gather_S32x1024x4096_S160x1_S160x1024x4096_12_0_n_n_0_1_110244096 w idx (ix3 t k l)
      = w (ix3 (⟨min (idx (ix2 t (0 : Fin 1))).toInt.toNat 31, by omega⟩ : Fin 32) k l) := by
  unfold Host.gather
  refine congrArg w (funext fun a => Fin.ext ?_)
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    refine (dif_pos (show (0 : Fin 3) ∈ [(0 : Fin 3)] from List.mem_singleton.mpr rfl)).trans ?_
    refine congrArg (fun j => min (idx j).toInt.toNat 31) (funext fun b => Fin.ext ?_)
    match b with
    | ⟨0, _⟩ => rfl
    | ⟨1, _⟩ => rfl
  | ⟨1, _⟩ =>
    show GatherDims.start _ _ _ 1 + GatherDims.batchCoord _ _ 1 + GatherDims.offCoord _ _ 1 = _
    rw [GatherDims.batchCoord_eq_zero _ _ _ List.not_mem_nil]
    refine (congrArg (· + 0 + k.val) (dif_neg (show ¬ (1 : Fin 3) ∈ [(0 : Fin 3)] by decide))).trans ?_
    show 0 + 0 + k.val = k.val
    omega
  | ⟨2, _⟩ =>
    show GatherDims.start _ _ _ 2 + GatherDims.batchCoord _ _ 2 + GatherDims.offCoord _ _ 2 = _
    rw [GatherDims.batchCoord_eq_zero _ _ _ List.not_mem_nil]
    refine (congrArg (· + 0 + l.val) (dif_neg (show ¬ (2 : Fin 3) ∈ [(0 : Fin 3)] by decide))).trans ?_
    show 0 + 0 + l.val = l.val
    omega

/-- A column of a table, at an index. -/
theorem column_at (x : IVec Cert.DownReferenceIdeal.S160 32) (t : Fin 160) :
    broadcastInDim Cert.DownReferenceIdeal.S160x1 ![0] Cert.DownReferenceIdeal.Gen.bcast_S160_S160x1_0 x (ix2 t (0 : Fin 1)) = x (ix1 t) := by
  pointwise

/-- A picked weight, of a block whose expert is one of the 32. -/
theorem picked_at (w : FVec Ideal S32x1024x4096 .f32) (blk : IVec S160 32) (t : Fin 160) (hb : (blk (ix1 t)).toNat < 32) (k : Fin 1024) (l : Fin 4096) :
    picked w blk (ix3 t k l) = w (ix3 (⟨(blk (ix1 t)).toNat % 32, Nat.mod_lt _ (by omega)⟩ : Fin 32) k l) := by
  refine (gather_at w _ t k l).trans ?_
  refine congrArg (fun b => w (ix3 b k l)) (Fin.ext ?_)
  have e : (select (cmpi .slt blk (broadcastInDim Cert.DownReferenceIdeal.S160 ![] Cert.DownReferenceIdeal.Gen.bcast_S_S160 (constantI Cert.DownReferenceIdeal.S_ 32 0#32))) (addi blk (broadcastInDim Cert.DownReferenceIdeal.S160 ![] Cert.DownReferenceIdeal.Gen.bcast_S_S160 (constantI Cert.DownReferenceIdeal.S_ 32 32#32))) blk) (ix1 t) = blk (ix1 t) := by
    have h : IntOp.cmpi .slt (blk (ix1 t)) 0#32 = 0#1 := by
      show BitVec.ofBool (BitVec.slt _ _) = _
      rw [show BitVec.slt (blk (ix1 t)) 0#32 = false by
        show decide ((blk (ix1 t)).toInt < (0#32).toInt) = false
        rw [BitVec.toInt_eq_toNat_of_lt (by omega)]
        exact decide_eq_false (by show ¬ ((blk (ix1 t)).toNat : ℤ) < 0; omega)]
      rfl
    show Scalar.select (IntOp.cmpi .slt (blk (ix1 t)) 0#32) _ _ = _
    rw [h]; rfl
  have e' : (broadcastInDim Cert.DownReferenceIdeal.S160x1 ![0] Cert.DownReferenceIdeal.Gen.bcast_S160_S160x1_0 (select (cmpi .slt blk (broadcastInDim Cert.DownReferenceIdeal.S160 ![] Cert.DownReferenceIdeal.Gen.bcast_S_S160 (constantI Cert.DownReferenceIdeal.S_ 32 0#32))) (addi blk (broadcastInDim Cert.DownReferenceIdeal.S160 ![] Cert.DownReferenceIdeal.Gen.bcast_S_S160 (constantI Cert.DownReferenceIdeal.S_ 32 32#32))) blk)) (ix2 t (0 : Fin 1)) = blk (ix1 t) := by
    rw [column_at]; exact e
  refine (congrArg (fun b : BitVec 32 => min b.toInt.toNat 31) e').trans ?_
  show min (blk (ix1 t)).toInt.toNat 31 = (blk (ix1 t)).toNat % 32
  rw [BitVec.toInt_eq_toNat_of_lt (by omega)]
  omega

variable (m : (ℓ : Loc nD τ sig) → Buf (Elt Ideal) ℓ) (hS : SaysAll m)

/-- The reference's result of the launch's arrays. -/
abbrev REFm : FVec Ideal S40960x4096 .f32 :=
  REF (m ((0 : Dev nD).tc.loc main_arg0)) (m ((0 : Dev nD).tc.loc main_arg1)) (m ((0 : Dev nD).tc.loc main_arg2)) (blkE m) (tbl m 5)

/-- Where the output's block of a point lies. -/
theorem place (t : Fin (cfgM m (ok_of m hS)).N) (r : Fin 256) (l : Fin 4096) : (((cfgM m (ok_of m hS)).win 3).blk t).view.emb (ix2 r l)
    = ix2 (⟨256 * (grid0.coords t 0).val + r.val, by have h : (grid0.coords t 0).val < 160 := (grid0.coords t 0).isLt; omega⟩ : Fin 40960) l := by
  have hi : (grid0.coords t 0).val < 160 := (grid0.coords t 0).isLt
  obtain ⟨h0, h1, h2, h3, h4, hk⟩ := hS (grid0.coords t 0)
  funext a; apply Fin.ext
  match a with
  | ⟨0, _⟩ =>
    show cc0_transform_3 k0_off1_inb numel1_S1 (tbl m) (grid0.coords t) 0 * 256 + 1 * r.val = 256 * (grid0.coords t 0).val + r.val
    rw [tr3]
    show (tbl m 3 (ix1 (grid0.coords t 0))).toNat * 256 + 1 * r.val = _
    rw [h3, BitVec.toNat_ofNat]; omega
  | ⟨1, _⟩ =>
    show cc0_transform_3 k0_off1_inb numel1_S1 (tbl m) (grid0.coords t) 1 * 4096 + 1 * l.val = l.val
    rw [tr3]
    show (tbl m 4 (ix1 (grid0.coords t 0))).toNat * 4096 + 1 * l.val = _
    rw [h4]
    show 0 * 4096 + 1 * l.val = _
    omega

/-- The output's block of a point is the reference's at the place where it lies. -/
theorem point (c : Dev nD) (t : Fin (cfgM m (ok_of m hS)).N) (y : S256x4096.Idx) :
    outBlk m (ok_of m hS) (wOf m (ok_of m hS)) c t y = REFm m ((((cfgM m (ok_of m hS)).win 3).blk t).view.emb y) := by
  obtain rfl : c = 0 := Subsingleton.elim _ _
  obtain ⟨r, l, rfl⟩ : ∃ (r : Fin 256) (l : Fin 4096), y = ix2 r l := ⟨y 0, y 1, eq_ix2 y⟩
  have hr := r.isLt
  have hi : (grid0.coords t 0).val < 160 := (grid0.coords t 0).isLt
  obtain ⟨h0, h1, h2, h3, h4, hk⟩ := hS (grid0.coords t 0)
  have hemb := place m hS t r l
  refine Eq.trans ?_ (congrArg (REFm m) hemb.symm)
  refine Eq.trans ?_ (refg_in _ _ _ _ _ l (grid0.coords t 0) (Fin.ext (by show (256 * (grid0.coords t 0).val + r.val) / 256 = _; omega))).symm
  have four : tbl m 5 (ix1 (grid0.coords t 0)) = 4#32 → outBlk m (ok_of m hS) (wOf m (ok_of m hS)) 0 t (ix2 r l) = (0 : EReal) := fun hk =>
    (congrFun (if_pos ((fl_eq m 0 _).trans hk)) (ix2 r l)).trans (pay3_at r l)
  rcases hk with hk | ⟨⟨hb, hl⟩, -⟩
  · exact (four hk).trans (if_pos hk).symm
  by_cases hf : tbl m 5 (ix1 (grid0.coords t 0)) = 4#32
  · exact (four hf).trans (if_pos hf).symm
  refine Eq.trans ?_ (if_neg hf).symm
  refine (congrFun (if_neg fun h => hf ((fl_eq m 0 _).symm.trans h)) (ix2 r l)).trans ((down_at _ _ _ r l).trans ?_)
  have hx0 : ∀ k : Fin 512, (iblk m (ok_of m hS) 0 0 t : FVec Ideal S256x512 .bf16) (ix2 r k)
      = (m ((0 : Dev nD).tc.loc main_arg0) : FVec Ideal S40960x512 .bf16) (ix2 (⟨256 * (grid0.coords t 0).val + r.val, by omega⟩ : Fin 40960) k) := fun k => by
    refine congrArg (m ((0 : Dev nD).tc.loc main_arg0) : FVec Ideal S40960x512 .bf16) (funext fun a => Fin.ext ?_)
    match a with
    | ⟨0, _⟩ =>
      show cc0_transform_0 k0_off1_inb numel1_S1 (tbl m) (grid0.coords t) 0 * 256 + 1 * r.val = 256 * (grid0.coords t 0).val + r.val
      rw [tr0]
      show (tbl m 2 (ix1 (grid0.coords t 0))).toNat * 256 + 1 * r.val = _
      rw [hb, BitVec.toNat_ofNat]; omega
    | ⟨1, _⟩ =>
      show cc0_transform_0 k0_off1_inb numel1_S1 (tbl m) (grid0.coords t) 1 * 512 + 1 * k.val = k.val
      rw [tr0]
      show 0 * 512 + 1 * k.val = _
      omega
  have hx1 : ∀ k : Fin 512, (iblk m (ok_of m hS) 0 1 t : FVec Ideal S256x512 .bf16) (ix2 r k)
      = (m ((0 : Dev nD).tc.loc main_arg1) : FVec Ideal S40960x512 .bf16) (ix2 (⟨256 * (grid0.coords t 0).val + r.val, by omega⟩ : Fin 40960) k) := fun k => by
    refine congrArg (m ((0 : Dev nD).tc.loc main_arg1) : FVec Ideal S40960x512 .bf16) (funext fun a => Fin.ext ?_)
    match a with
    | ⟨0, _⟩ =>
      show cc0_transform_1 k0_off1_inb numel1_S1 (tbl m) (grid0.coords t) 0 * 256 + 1 * r.val = 256 * (grid0.coords t 0).val + r.val
      rw [tr1]
      show (tbl m 2 (ix1 (grid0.coords t 0))).toNat * 256 + 1 * r.val = _
      rw [hb, BitVec.toNat_ofNat]; omega
    | ⟨1, _⟩ =>
      show cc0_transform_1 k0_off1_inb numel1_S1 (tbl m) (grid0.coords t) 1 * 512 + 1 * k.val = k.val
      rw [tr1]
      show 0 * 512 + 1 * k.val = _
      omega
  have hp := picked_at (m ((0 : Dev nD).tc.loc main_arg2)) (blkE m) (grid0.coords t 0) hl
  refine congrArg₂ (fun x y : EReal => x + y) (Finset.sum_congr rfl fun k _ => ?_) (Finset.sum_congr rfl fun k _ => ?_)
  · refine congrArg₂ (fun x y : EReal => x * y) (hx0 k) (hp _ l).symm
  · refine congrArg₂ (fun x y : EReal => x * y) (hx1 k) (hp _ l).symm

/-- Every point writes its block back. -/
theorem flushes (t : Fin (cfgM m (ok_of m hS)).N) : ((cfgM m (ok_of m hS)).win 3).flush t = true := by
  show (true && (decide (t.val + 1 = grid0.N) || decide (∃ h : t.val + 1 < grid0.N, ((cfgM m (ok_of m hS)).win 3).index ⟨t.val + 1, h⟩ ≠ ((cfgM m (ok_of m hS)).win 3).index t))) = true
  rw [Bool.true_and, Bool.or_eq_true, decide_eq_true_iff, decide_eq_true_iff]
  by_cases ht : t.val + 1 = grid0.N
  · exact .inl ht
  have hlt : t.val < grid0.N := t.isLt
  refine .inr ⟨by omega, fun h => ?_⟩
  have h := congrFun h (0 : Fin 2)
  have e : ∀ s : Fin grid0.N, ((cfgM m (ok_of m hS)).win 3).index s (0 : Fin 2) = s.val := fun s => by
    have hs : s.val < 160 := s.isLt
    obtain ⟨h0, h1, h2, h3, h4, hk⟩ := hS (grid0.coords s 0)
    refine (congrFun (tr3 m (grid0.coords s)) 0).trans ?_
    show (tbl m 3 (ix1 (grid0.coords s 0))).toNat = _
    rw [h3, coords_val, BitVec.toNat_ofNat]; omega
  have := (e _).symm.trans (h.trans (e _))
  have this : t.val + 1 = t.val := this
  omega

/-- The result array after the run. -/
theorem final (c : Dev nD) : (dats m (ok_of m hS) (wOf m (ok_of m hS)) 0 c).arrAt 3 (cfgM m (ok_of m hS)).N = REFm m := by
  refine (dats m (ok_of m hS) (wOf m (ok_of m hS)) 0 c).arrAt_eq_of_emb 3 _ (fun t _ y => point m hS c t y) fun (i : S40960x4096.Idx) => ?_
  have h0 : (i 0).val < 40960 := (i 0).isLt
  have ht : (i 0).val / 256 < 160 := by omega
  refine ⟨(⟨(i 0).val / 256, ht⟩ : Fin grid0.N), flushes m hS _, ?_⟩
  have key := place m hS (⟨(i 0).val / 256, ht⟩ : Fin grid0.N) ⟨(i 0).val % 256, Nat.mod_lt _ (by omega)⟩ (i 1)
  have e : (ix2 (⟨256 * (grid0.coords (⟨(i 0).val / 256, ht⟩ : Fin grid0.N) 0).val + (i 0).val % 256, by rw [coords_val]; show 256 * ((i 0).val / 256) + _ < _; omega⟩ : Fin 40960) (i 1) : S40960x4096.Idx) = i := by
    funext a; apply Fin.ext
    match a with
    | ⟨0, _⟩ =>
      show 256 * (grid0.coords (⟨(i 0).val / 256, ht⟩ : Fin grid0.N) 0).val + (i 0).val % 256 = (i 0).val
      rw [coords_val]
      show 256 * ((i 0).val / 256) + (i 0).val % 256 = (i 0).val
      omega
    | ⟨1, _⟩ => rfl
  have h := View.emb_mem_set (((cfgM m (ok_of m hS)).win 3).blk (⟨(i 0).val / 256, ht⟩ : Fin grid0.N)).view
    (ix2 (⟨(i 0).val % 256, Nat.mod_lt _ (by omega)⟩ : Fin 256) (i 1))
  exact (congrArg (fun j => j ∈ (((cfgM m (ok_of m hS)).win 3).blk (⟨(i 0).val / 256, ht⟩ : Fin grid0.N)).view.set) (key.trans e)).mp h

end Cert.Proof.Down

end
-- ==== Proof.UpRunIdeal.lean ====
module

public import proofs.«01_k».proof.Proof.Gen.UpKernelIdeal.Launch
public import proofs.«01_k».proof.Proof.Gen.UpKernelIdeal.Loops
public import Idealize.ShloMosaic.Lib.Pipeline.FrameBody
public import Idealize.ShloMosaic.Lib.Pipeline.DatRel
public import Idealize.ShloMosaic.Lib.Ring
public import Idealize.ShloMosaic.Lib.WritesUnit
public import Idealize.ShloMosaic.Lib.VecWindow
public import Idealize.ShloMosaic.Lib.ValueLayout
public import Idealize.ShloMosaic.Lib.Pipeline.Value
public import Idealize.ShloMosaic.Lib.Tactic
public import Idealize.ShloMosaic.Lib.WordCmp

@[expose] public section

set_option maxRecDepth 16384

noncomputable section

namespace Cert.UpKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

/-- The flags' table and the scratch weights of the two products, as whole buffers. -/
abbrev flagM : Memref sig .tc .smem S160 .i32 := Memref.whole main_arg9
abbrev scM : Memref sig .tc .vmem S4096x512 .bf16 := Memref.whole cc0_scratch0
abbrev scN : Memref sig .tc .vmem S4096x512 .bf16 := Memref.whole cc0_scratch1

/-- The flags' table at half the share: what the body is lent. -/
abbrev flagPt (c : Dev nD) (f : Buf (Elt F) (flagM.view.loc (c : Thread nD τ))) : sProp 𝕄 := flagM.view.loc (c : Thread nD τ) ↦{fullShare.right} f

/-- The flag the body loads at a point. -/
abbrev flagAt (c : Dev nD) (f : Buf (Elt F) (flagM.view.loc (c : Thread nD τ))) (i : grid0.Coords) : BitVec 32 :=
  (flagM.access (Rect.unit (s := S160) (k0_off1 i) S1.size (k0_off1_inb i))).read (Elt F) f (Shape.Idx.first (numel1_S1.symm ▸ Nat.one_pos))

/-- The upper and the lower half of the rows of scratch weights. -/
def low (sc : S4096x512.Idx → Elt F .bf16) : S2048x512.Idx → Elt F .bf16 :=
  fun x => sc (ix2 (⟨(x 0).val, by have h : (x 0).val < 2048 := (x 0).isLt; omega⟩ : Fin 4096) (x 1))
def high (sc : S4096x512.Idx → Elt F .bf16) : S2048x512.Idx → Elt F .bf16 :=
  fun x => sc (ix2 (⟨2048 + (x 0).val, by have h : (x 0).val < 2048 := (x 0).isLt; omega⟩ : Fin 4096) (x 1))

/-- The block of the output from the words of the rows and the weights in the two scratch buffers. -/
def upOf (d7 : S256x2048.Idx → Elt F .i32) (s1 s3 : S4096x512.Idx → Elt F .bf16) : S256x512.Idx → Elt F .bf16 :=
  k0_pay3 d7 (low s1) (high s1) (low s3) (high s3)

/-- The weights' block rounded to half the width. -/
def castOf (d9 : S1x4096x512.Idx → Elt F .f32) : S4096x512.Idx → Elt F .bf16 :=
  fun x => FloatOps.truncf .bf16 bitsLt_bf16_f32 (d9 (ix3 (0 : Fin 1) (x 0) (x 1)))

variable (c : Dev nD) (i : grid0.Coords) (arg7 : Memref sig .tc .vmem S256x2048 .i32) (harg7 : arg7.IsWhole) (arg8 : Memref sig .tc .vmem S1x4096x512 .f32) (harg8 : arg8.IsWhole) (arg9 : Memref sig .tc .vmem S1x4096x512 .f32) (harg9 : arg9.IsWhole) (arg10 : Memref sig .tc .vmem S256x512 .bf16) (harg10 : arg10.IsWhole)

/-- The body at a point, on any staging buffers. -/
abbrev bodyOn : Prog (TpuEff nD τ sig (Elt F) Λ₀ .tc) PUnit :=
  cc0_moe_up i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) scN (Memref.isWhole_whole _)

/-- What the first loop has stored after some trips. -/
abbrev pb1 (X : BufTy.Contents (Elt F) arg8.view.ty) (n : ℕ) :=
  pb_k0_t1 (F := F) Variants.none c none i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) scN (Memref.isWhole_whole _) X n

/-- One trip's payload at a row and a column. -/
theorem pay1_at (X : BufTy.Contents (Elt F) arg8.view.ty) (k : Fin k0_t1_loop.trips) (hk : k.val < 16) (r : Fin 256) (l : Fin 512) :
    k0_pay1 (F := F) (View.readAt (Elt F) arg8.view (Rect.unit (s := S1x4096x512) (k0_off2 k) S1x256x512.size (k0_off2_inb k)).toLoadRect X) (ix2 r l)
      = castOf (arg8.view.read (Elt F) X) (ix2 (⟨256 * k.val + r.val, by omega⟩ : Fin 4096) l) := by
  unfold k0_pay1 castOf
  refine (congrFun (shapeCast_self _ _) (ix2 r l)).trans ?_
  show FloatOps.truncf .bf16 bitsLt_bf16_f32 (shapeCast S256x512 _ _ (ix2 r l)) = _
  refine congrArg (FloatOps.truncf .bf16 bitsLt_bf16_f32) ((shapeCast_1ab_ab_apply _ _ _ _).trans ?_)
  rw [View.readAt_unit _ _ _ (k0_off2_eq k) (by rw [← k0_off2_eq k]; exact k0_off2_inb k)]
  refine congrArg (arg8.view.read (Elt F) X) (funext fun a => Fin.ext ?_)
  match a with
  | 0 => rfl
  | 1 => show 256 * k.val + 1 * r.val = 256 * k.val + r.val; omega
  | 2 => show 0 + 1 * l.val = l.val; omega

/-- The rows below the trips taken hold the rounded weights. -/
theorem trips1_cast (X : BufTy.Contents (Elt F) arg8.view.ty) (G : BufTy.Contents (Elt F) scM.view.ty) (n : ℕ) (hn : n ≤ k0_t1_loop.trips) (r : Fin 4096) (l : Fin 512) (hr : r.val < 256 * n) :
    scM.view.read (Elt F) (scM.view.writes (Elt F) G (pb1 (F := F) c i arg7 harg7 arg8 harg8 arg9 harg9 arg10 harg10 X n)) (ix2 r l) = castOf (arg8.view.read (Elt F) X) (ix2 r l) := by
  induction n with
  | zero => exact absurd hr (by omega)
  | succ n ih =>
    have hk : n < 16 := Nat.lt_of_lt_of_le hn k0_t1_abs.2.1
    have e := pb_k0_t1_succ (F := F) Variants.none c none i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) scN (Memref.isWhole_whole _) X ⟨n, hn⟩
    unfold pb1
    rw [show n + 1 = (⟨n, hn⟩ : Fin k0_t1_loop.trips).val + 1 from rfl, e]
    unfold tripL_k0_t1 trip_k0_t1
    dsimp only
    have ho := k0_off3_eq ⟨n, hn⟩
    by_cases h : 256 * n ≤ r.val
    · refine (View.read_writes_cons_rows_of_mem scM.view G _ _ _ (ix2 r l) (ix2 (⟨r.val - 256 * n, by omega⟩ : Fin 256) l) ho (by show r.val = 256 * n + (r.val - 256 * n); omega) rfl).trans ?_
      refine (pay1_at arg8 X ⟨n, hn⟩ hk _ l).trans (congrArg (castOf _) ?_)
      refine congrArg (fun q => ix2 q l) (Fin.ext ?_)
      show 256 * n + (r.val - 256 * n) = r.val
      omega
    · refine (View.read_writes_cons_rows_of_not_mem (W := 256) scM.view G _ _ _ (ix2 r l) ho rfl (by show r.val < 256 * n ∨ _; omega)).trans ?_
      exact ih (by omega) (by omega)

/-- After the first loop its scratch reads the rounded weights. -/
theorem loop1_cast (X : BufTy.Contents (Elt F) arg8.view.ty) (G : BufTy.Contents (Elt F) scM.view.ty) :
    scM.view.read (Elt F) (scM.view.writes (Elt F) G (pb1 (F := F) c i arg7 harg7 arg8 harg8 arg9 harg9 arg10 harg10 X k0_t1_loop.trips)) = castOf (arg8.view.read (Elt F) X) := by
  funext y
  have h4 : k0_t1_loop.trips = 16 := by decide
  have hy : y = ix2 (y 0) (y 1) := funext fun a => by match a with | 0 => rfl | 1 => rfl
  rw [hy]
  exact trips1_cast c i arg7 harg7 arg8 harg8 arg9 harg9 arg10 harg10 X G _ le_rfl (y 0) (y 1) (by have h : (y 0).val < 4096 := (y 0).isLt; omega)

/-- What the second loop has stored after some trips. -/
abbrev pb2 (X : BufTy.Contents (Elt F) arg9.view.ty) (n : ℕ) :=
  pb_k0_t2 (F := F) Variants.none c none i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) scN (Memref.isWhole_whole _) X n

/-- One trip's payload at a row and a column. -/
theorem pay2_at (X : BufTy.Contents (Elt F) arg9.view.ty) (k : Fin k0_t2_loop.trips) (hk : k.val < 16) (r : Fin 256) (l : Fin 512) :
    k0_pay2 (F := F) (View.readAt (Elt F) arg9.view (Rect.unit (s := S1x4096x512) (k0_off4 k) S1x256x512.size (k0_off4_inb k)).toLoadRect X) (ix2 r l)
      = castOf (arg9.view.read (Elt F) X) (ix2 (⟨256 * k.val + r.val, by omega⟩ : Fin 4096) l) := by
  unfold k0_pay2 castOf
  refine (congrFun (shapeCast_self _ _) (ix2 r l)).trans ?_
  show FloatOps.truncf .bf16 bitsLt_bf16_f32 (shapeCast S256x512 _ _ (ix2 r l)) = _
  refine congrArg (FloatOps.truncf .bf16 bitsLt_bf16_f32) ((shapeCast_1ab_ab_apply _ _ _ _).trans ?_)
  rw [View.readAt_unit _ _ _ (k0_off4_eq k) (by rw [← k0_off4_eq k]; exact k0_off4_inb k)]
  refine congrArg (arg9.view.read (Elt F) X) (funext fun a => Fin.ext ?_)
  match a with
  | 0 => rfl
  | 1 => show 256 * k.val + 1 * r.val = 256 * k.val + r.val; omega
  | 2 => show 0 + 1 * l.val = l.val; omega

/-- The rows below the trips taken hold the rounded weights. -/
theorem trips2_cast (X : BufTy.Contents (Elt F) arg9.view.ty) (G : BufTy.Contents (Elt F) scN.view.ty) (n : ℕ) (hn : n ≤ k0_t2_loop.trips) (r : Fin 4096) (l : Fin 512) (hr : r.val < 256 * n) :
    scN.view.read (Elt F) (scN.view.writes (Elt F) G (pb2 (F := F) c i arg7 harg7 arg8 harg8 arg9 harg9 arg10 harg10 X n)) (ix2 r l) = castOf (arg9.view.read (Elt F) X) (ix2 r l) := by
  induction n with
  | zero => exact absurd hr (by omega)
  | succ n ih =>
    have hk : n < 16 := Nat.lt_of_lt_of_le hn k0_t2_abs.2.1
    have e := pb_k0_t2_succ (F := F) Variants.none c none i (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) flagM (Memref.isWhole_whole _) arg7 harg7 arg8 harg8 arg9 harg9 arg10 harg10 scM (Memref.isWhole_whole _) scN (Memref.isWhole_whole _) X ⟨n, hn⟩
    unfold pb2
    rw [show n + 1 = (⟨n, hn⟩ : Fin k0_t2_loop.trips).val + 1 from rfl, e]
    unfold tripL_k0_t2 trip_k0_t2
    dsimp only
    have ho := k0_off5_eq ⟨n, hn⟩
    by_cases h : 256 * n ≤ r.val
    · refine (View.read_writes_cons_rows_of_mem scN.view G _ _ _ (ix2 r l) (ix2 (⟨r.val - 256 * n, by omega⟩ : Fin 256) l) ho (by show r.val = 256 * n + (r.val - 256 * n); omega) rfl).trans ?_
      refine (pay2_at arg9 X ⟨n, hn⟩ hk _ l).trans (congrArg (castOf _) ?_)
      refine congrArg (fun q => ix2 q l) (Fin.ext ?_)
      show 256 * n + (r.val - 256 * n) = r.val
      omega
    · refine (View.read_writes_cons_rows_of_not_mem (W := 256) scN.view G _ _ _ (ix2 r l) ho rfl (by show r.val < 256 * n ∨ _; omega)).trans ?_
      exact ih (by omega) (by omega)

/-- After the second loop its scratch reads the rounded weights. -/
theorem loop2_cast (X : BufTy.Contents (Elt F) arg9.view.ty) (G : BufTy.Contents (Elt F) scN.view.ty) :
    scN.view.read (Elt F) (scN.view.writes (Elt F) G (pb2 (F := F) c i arg7 harg7 arg8 harg8 arg9 harg9 arg10 harg10 X k0_t2_loop.trips)) = castOf (arg9.view.read (Elt F) X) := by
  funext y
  have h4 : k0_t2_loop.trips = 16 := by decide
  have hy : y = ix2 (y 0) (y 1) := funext fun a => by match a with | 0 => rfl | 1 => rfl
  rw [hy]
  exact trips2_cast c i arg7 harg7 arg8 harg8 arg9 harg9 arg10 harg10 X G _ le_rfl (y 0) (y 1) (by have h : (y 0).val < 4096 := (y 0).isLt; omega)

/-- Loads of the halves of the rows. -/
theorem low_load (sc : Memref sig .tc .vmem S4096x512 .bf16) (G : BufTy.Contents (Elt F) sc.view.ty) : (View.readAt (Elt F) sc.view (Rect.unit (s := S4096x512) ![0, 0] S2048x512.size inb_S4096x512_S2048x512_0_0).toLoadRect G) = low (sc.view.read (Elt F) G) := by
  funext x
  refine congrArg (sc.view.read (Elt F) G) (funext fun a => Fin.ext ?_)
  match a with
  | 0 => show 0 + 1 * (x 0).val = (x 0).val; omega
  | 1 => show 0 + 1 * (x 1).val = (x 1).val; omega
theorem high_load (sc : Memref sig .tc .vmem S4096x512 .bf16) (G : BufTy.Contents (Elt F) sc.view.ty) : (View.readAt (Elt F) sc.view (Rect.unit (s := S4096x512) ![2048, 0] S2048x512.size inb_S4096x512_S2048x512_2048_0).toLoadRect G) = high (sc.view.read (Elt F) G) := by
  funext x
  refine congrArg (sc.view.read (Elt F) G) (funext fun a => Fin.ext ?_)
  match a with
  | 0 => show 2048 + 1 * (x 0).val = 2048 + (x 0).val; omega
  | 1 => show 0 + 1 * (x 1).val = (x 1).val; omega

/-- The block from loads of the staging buffer and the scratch. -/
theorem pay3_loads (f7 : BufTy.Contents (Elt F) arg7.view.ty) (G : BufTy.Contents (Elt F) scM.view.ty) (H : BufTy.Contents (Elt F) scN.view.ty) :
    k0_pay3 (F := F) (View.readAt (Elt F) arg7.view (Rect.unit (s := S256x2048) ![0, 0] S256x2048.size inb_S256x2048_S256x2048_0_0).toLoadRect f7)
        (View.readAt (Elt F) scM.view (Rect.unit (s := S4096x512) ![0, 0] S2048x512.size inb_S4096x512_S2048x512_0_0).toLoadRect G) (View.readAt (Elt F) scM.view (Rect.unit (s := S4096x512) ![2048, 0] S2048x512.size inb_S4096x512_S2048x512_2048_0).toLoadRect G)
        (View.readAt (Elt F) scN.view (Rect.unit (s := S4096x512) ![0, 0] S2048x512.size inb_S4096x512_S2048x512_0_0).toLoadRect H) (View.readAt (Elt F) scN.view (Rect.unit (s := S4096x512) ![2048, 0] S2048x512.size inb_S4096x512_S2048x512_2048_0).toLoadRect H)
      = upOf (arg7.view.read (Elt F) f7) (scM.view.read (Elt F) G) (scN.view.read (Elt F) H) := by
  unfold upOf
  rw [View.readAt_full, low_load, high_load, low_load, high_load]

set_option maxHeartbeats 4000000 in
/-- At a block that keeps its weights. -/
theorem run_kept (f : Buf (Elt F) (flagM.view.loc (c : Thread nD τ))) (h : flagAt c f i = 1#32) (d7 : S256x2048.Idx → Elt F .i32) (s1 s3 : S4096x512.Idx → Elt F .bf16) (E : Set ℕ) (K : PUnit → sProp 𝕄) :
        iprop(flagPt c f ∗ owns (c : Thread nD τ) arg7 fullShare d7 ∗ owns (c : Thread nD τ) scM fullShare s1 ∗ owns (c : Thread nD τ) scN fullShare s3 ∗ (∃ d, owns (c : Thread nD τ) arg10 fullShare d)
            ∗ (iprop(flagPt c f ∗ owns (c : Thread nD τ) arg7 fullShare d7 ∗ owns (c : Thread nD τ) scM fullShare s1 ∗ owns (c : Thread nD τ) scN fullShare s3 ∗ owns (c : Thread nD τ) arg10 fullShare (upOf d7 s1 s3)) -∗ K ⟨⟩))
          ⊢ wp frame (wpE (defs₀ (F := F)) Variants.none c none) E (bodyOn i arg7 harg7 arg8 harg8 arg9 harg9 arg10 harg10) K := by
    unfold bodyOn
    simp only [cc0_moe_up_eq_skeleton]; unfold cc0_moe_up_skel
    unfold owns
    iintro ⟨HT, ⟨%f7, %hf7, H7⟩, ⟨%f11, %hf11, H11⟩, ⟨%f12, %hf12, H12⟩, ⟨%d3, %f3, %hf3, H3⟩, Hk⟩
    sl_exec
    have hr : run_kept.sl.r c i f = 1#32 := h
    have h1 : ¬ (run_kept.sl.v5 c i f = 1#1) := by
      show ¬ (Scalar.cmpi .ne (Scalar.extui (Scalar.cmpi .ne (Scalar.andi (run_kept.sl.r c i f) 2#32) 0#32)) 0#32 = 1#1)
      rw [hr]; decide
    have h2 : (k0_cond2 (run_kept.sl.r c i f) = 1#1) := by
      rw [hr]; decide
    have h3 : ¬ (k0_cond3 (run_kept.sl.r c i f) = 1#1) := by
      rw [hr]; decide
    rw [if_neg h1]
    sl_exec
    sl_step
    iapply Hk
    isplitl [HT]; · iexact HT
    isplitl [H7]; · iexists f7; isplitr [H7]; (ipureintro; exact hf7); iexact H7
    isplitl [H11]; · iexists f11; isplitr [H11]; (ipureintro; exact hf11); iexact H11
    isplitl [H12]; · iexists f12; isplitr [H12]; (ipureintro; exact hf12); iexact H12
    iexists _; isplitr [H3]; rotate_left; · iexact H3
    ipureintro
    refine (View.read_writes_full arg10.view f3 _ _ []).trans ?_
    rw [← hf7, ← hf11, ← hf12]
    exact pay3_loads arg7 f7 f11 f12

set_option maxHeartbeats 4000000 in
/-- At a block that takes new weights. -/
theorem run_fresh (f : Buf (Elt F) (flagM.view.loc (c : Thread nD τ))) (h : flagAt c f i = 3#32) (d7 : S256x2048.Idx → Elt F .i32) (d8 d9 : S1x4096x512.Idx → Elt F .f32) (E : Set ℕ) (K : PUnit → sProp 𝕄) :
        iprop(flagPt c f ∗ owns (c : Thread nD τ) arg7 fullShare d7 ∗ owns (c : Thread nD τ) arg8 fullShare d8 ∗ owns (c : Thread nD τ) arg9 fullShare d9 ∗ (∃ d, owns (c : Thread nD τ) scM fullShare d) ∗ (∃ d, owns (c : Thread nD τ) scN fullShare d) ∗ (∃ d, owns (c : Thread nD τ) arg10 fullShare d)
            ∗ (iprop(flagPt c f ∗ owns (c : Thread nD τ) arg7 fullShare d7 ∗ owns (c : Thread nD τ) arg8 fullShare d8 ∗ owns (c : Thread nD τ) arg9 fullShare d9 ∗ owns (c : Thread nD τ) scM fullShare (castOf d8) ∗ owns (c : Thread nD τ) scN fullShare (castOf d9) ∗ owns (c : Thread nD τ) arg10 fullShare (upOf d7 (castOf d8) (castOf d9))) -∗ K ⟨⟩))
          ⊢ wp frame (wpE (defs₀ (F := F)) Variants.none c none) E (bodyOn i arg7 harg7 arg8 harg8 arg9 harg9 arg10 harg10) K := by
    unfold bodyOn
    simp only [cc0_moe_up_eq_skeleton]; unfold cc0_moe_up_skel
    unfold owns
    iintro ⟨HT, ⟨%f7, %hf7, H7⟩, ⟨%f8, %hf8, H8⟩, ⟨%f9, %hf9, H9⟩, ⟨%d11, %f11, %hf11, H11⟩, ⟨%d12, %f12, %hf12, H12⟩, ⟨%d3, %f3, %hf3, H3⟩, Hk⟩
    sl_exec
    have hr : run_fresh.sl.r c i f = 3#32 := h
    have h1 : (run_fresh.sl.v5 c i f = 1#1) := by
      show (Scalar.cmpi .ne (Scalar.extui (Scalar.cmpi .ne (Scalar.andi (run_fresh.sl.r c i f) 2#32) 0#32)) 0#32 = 1#1)
      rw [hr]; decide
    have h2 : (k0_cond2 (run_fresh.sl.r c i f) = 1#1) := by
      rw [hr]; decide
    have h3 : ¬ (k0_cond3 (run_fresh.sl.r c i f) = 1#1) := by
      rw [hr]; decide
    rw [if_pos h1]
    sl_exec
    sl_step
    have hc := loop1_cast (F := F) c i arg7 harg7 arg8 harg8 arg9 harg9 arg10 harg10 f8 f11
    have hd := loop2_cast (F := F) c i arg7 harg7 arg8 harg8 arg9 harg9 arg10 harg10 f9 f12
    iapply Hk
    isplitl [HT]; · iexact HT
    isplitl [H7]; · iexists f7; isplitr [H7]; (ipureintro; exact hf7); iexact H7
    isplitl [H8]; · iexists f8; isplitr [H8]; (ipureintro; exact hf8); iexact H8
    isplitl [H9]; · iexists f9; isplitr [H9]; (ipureintro; exact hf9); iexact H9
    isplitl [H11]
    · iexists _; isplitr [H11]; rotate_left; (iexact H11)
      ipureintro
      rw [← hf8]
      exact hc
    isplitl [H12]
    · iexists _; isplitr [H12]; rotate_left; (iexact H12)
      ipureintro
      rw [← hf9]
      exact hd
    iexists _; isplitr [H3]; rotate_left; · iexact H3
    ipureintro
    refine (View.read_writes_full arg10.view f3 _ _ []).trans ?_
    rw [← hf7, ← hf8, ← hf9, ← hc, ← hd]
    exact pay3_loads arg7 f7 _ _

set_option maxHeartbeats 4000000 in
/-- At a spare point the body stores zeros. -/
theorem run_zero (f : Buf (Elt F) (flagM.view.loc (c : Thread nD τ))) (h : flagAt c f i = 4#32) (E : Set ℕ) (K : PUnit → sProp 𝕄) :
        iprop(flagPt c f ∗ (∃ d, owns (c : Thread nD τ) arg10 fullShare d)
            ∗ (iprop(flagPt c f ∗ owns (c : Thread nD τ) arg10 fullShare (k0_pay4 (F := F))) -∗ K ⟨⟩))
          ⊢ wp frame (wpE (defs₀ (F := F)) Variants.none c none) E (bodyOn i arg7 harg7 arg8 harg8 arg9 harg9 arg10 harg10) K := by
    unfold bodyOn
    simp only [cc0_moe_up_eq_skeleton]; unfold cc0_moe_up_skel
    unfold owns
    iintro ⟨HT, ⟨%d3, %f3, %hf3, H3⟩, Hk⟩
    sl_exec
    have hr : run_zero.sl.r c i f = 4#32 := h
    have h1 : ¬ (run_zero.sl.v5 c i f = 1#1) := by
      show ¬ (Scalar.cmpi .ne (Scalar.extui (Scalar.cmpi .ne (Scalar.andi (run_zero.sl.r c i f) 2#32) 0#32)) 0#32 = 1#1)
      rw [hr]; decide
    have h2 : ¬ (k0_cond2 (run_zero.sl.r c i f) = 1#1) := by
      rw [hr]; decide
    have h3 : (k0_cond3 (run_zero.sl.r c i f) = 1#1) := by
      rw [hr]; decide
    rw [if_neg h1]
    sl_exec
    sl_step
    iapply Hk
    isplitl [HT]; · iexact HT
    iexists _; isplitr [H3]; rotate_left; · iexact H3
    ipureintro
    exact View.read_writes_full arg10.view f3 _ _ []

end Cert.UpKernelIdeal.Gen
end
-- ==== Proof.UpFrameIdeal.lean ====
module

public import proofs.«01_k».proof.Proof.UpRunIdeal
public import proofs.«01_k».proof.Proof.DownItems

@[expose] public section

set_option maxRecDepth 16384

noncomputable section

namespace Cert.UpKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The six tables at the launch, and the pipeline they make. -/
def tbl : pre0.Contents (Elt F) := fun j => V m (0 : Dev nD) (pre0.ref j)
abbrev adm (hO : ok0 (tbl m)) : (pcfg0 (F := F)).Adm := ⟨tbl m, hO⟩
abbrev cfgM (hO : ok0 (tbl m)) : Cfg sig Λ₀ := cfg0 (adm m hO)

theorem V_tbl (c : Dev nD) (j : Fin 6) : V m c (pre0.ref j) = tbl m j := by
  obtain rfl : c = 0 := Subsingleton.elim _ _; rfl

/-- The flag of a point. -/
abbrev fl (c : Dev nD) (i : grid0.Coords) : BitVec 32 := flagAt (F := F) c (tbl m 5) i

/-- The block of a window at a point, of its array at the launch. -/
def iblk (hO : ok0 (tbl m)) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the tables have to say of the points: the rows of a point are nobody's; or the point is the first of its expert, and
    the weights' windows stand at that expert; or the point before worked for the same expert. -/
structure Items (hO : ok0 (tbl m)) (wb wc : Fin (cfgM m hO).N → S1x4096x512.Idx → Elt F .f32) : Prop where
  step : ∀ (c : Dev nD) (t : Fin (cfgM m hO).N), fl m c (grid0.coords t) = 4#32
    ∨ (fl m c (grid0.coords t) = 3#32 ∧ iblk m hO c 1 t = wb t ∧ iblk m hO c 2 t = wc t)
    ∨ (fl m c (grid0.coords t) = 1#32 ∧ ∃ s : Fin (cfgM m hO).N, s.val + 1 = t.val ∧ fl m c (grid0.coords s) ≠ 4#32 ∧ wb s = wb t ∧ wc s = wc t)

variable (hO : ok0 (tbl m)) (wb wc : Fin (cfgM m hO).N → S1x4096x512.Idx → Elt F .f32)

/-- The output's block of a point. -/
def outBlk (c : Dev nD) (t : Fin (cfgM m hO).N) : S256x512.Idx → Elt F .bf16 :=
  if fl m c (grid0.coords t) = 4#32 then k0_pay4 (F := F) else upOf (iblk m hO c 0 t) (castOf (wb t)) (castOf (wc t))

/-- The tables the body does not read. -/
def restT (c : Dev nD) : sProp 𝕄 :=
  bigSep ((Finset.univ : Finset (Fin 6)).erase 5) fun k => ((c.tc : Thread nD τ).loc (pre0.ref k)) ↦{fullShare.right} (tbl m k)

theorem PhiT_eq (c : Dev nD) : (Pipeline.ΦT pre0 (tbl m) c : sProp 𝕄) = iprop(flagPt c (tbl m 5) ∗ restT m c) := by
  unfold Pipeline.ΦT Pipeline.prefHeld restT
  have h : (Finset.univ : Finset (Fin 6)) = insert 5 ((Finset.univ : Finset (Fin 6)).erase 5) := by decide
  conv_lhs => rw [show (Finset.univ : Finset (Fin pre0.K)) = insert (5 : Fin 6) ((Finset.univ : Finset (Fin 6)).erase 5) from h]
  rw [bigSep_insert (by decide)]
  rfl

theorem PhiA_eq (c : Dev nD) :
    (Pipeline.ΦA spec0 c : sProp 𝕄) = iprop(((∃ d, owns (c : Thread nD τ) scM fullShare d) ∗ (∃ d, owns (c : Thread nD τ) scN fullShare d)) ∗ (∃ r, prngReg c r)) := by
  unfold Pipeline.ΦA; rw [scopedRest0_eq]; simp only [scM, scN, owns_whole]; try rfl

/-- What is carried from point to point: the tables, and in the scratch buffers the rounded weights of the point before, unless its
    rows were nobody's. -/
def car (c : Dev nD) (n : ℕ) : sProp 𝕄 :=
  iprop(flagPt c (tbl m 5) ∗ restT m c ∗ (∃ r, prngReg c r)
    ∗ ∃ sc sd, ⌜∀ s : Fin (cfgM m hO).N, s.val + 1 = n → fl m c (grid0.coords s) ≠ 4#32 → sc = castOf (wb s) ∧ sd = castOf (wc s)⌝
      ∗ owns (c : Thread nD τ) scM fullShare sc ∗ owns (c : Thread nD τ) scN fullShare sd)

/-- The proof data of the call. -/
def dats : (p : Fin 1) → (c : Dev nD) → Dat τ (Elt F) Unit ℕ (UR sig nD τ) ℕ ((Pipeline.pin pcfgs fun _ => adm m hO) p) c :=
  fun _ c =>
    { A := fun w => V m c (Pipeline.arrRef spec0 w)
      after := fun w t => match w with
        | ⟨0, _⟩ => iblk m hO c 0 t
        | ⟨1, _⟩ => iblk m hO c 1 t
        | ⟨2, _⟩ => iblk m hO c 2 t
        | ⟨3, _⟩ => outBlk m hO wb wc c t
        | ⟨_ + 4, h⟩ => absurd h (Nat.not_lt.2 (Nat.le_add_left _ _))
      Φ := fun n => car m hO wb wc c n.val
      q := fun _ => fullShare
      owed := fun _ => 0 }

theorem A_eq (c : Dev nD) (w : Fin 4) : (dats m hO wb wc 0 c).A w = V m c (Pipeline.arrRef spec0 w) := rfl

theorem before_0 (c : Dev nD) (t : Fin (cfgM m hO).N) (d) : (dats m hO wb wc 0 c).before (0 : Fin 4) t d = iblk m hO c 0 t :=
  ((dats m hO wb wc 0 c).before_in_eq_fetched 0 rfl (fun _ => rfl) (fun _ _ _ => rfl) (fun t => rfl) t d).trans rfl
theorem before_1 (c : Dev nD) (t : Fin (cfgM m hO).N) (d) : (dats m hO wb wc 0 c).before (1 : Fin 4) t d = iblk m hO c 1 t :=
  ((dats m hO wb wc 0 c).before_in_eq_fetched 1 rfl (fun _ => rfl) (fun _ _ _ => rfl) (fun t => rfl) t d).trans rfl
theorem before_2 (c : Dev nD) (t : Fin (cfgM m hO).N) (d) : (dats m hO wb wc 0 c).before (2 : Fin 4) t d = iblk m hO c 2 t :=
  ((dats m hO wb wc 0 c).before_in_eq_fetched 2 rfl (fun _ => rfl) (fun _ _ _ => rfl) (fun t => rfl) t d).trans rfl

/-- The word the schedule reads of the flags is the word the body loads. -/
theorem atD_eq (c : Dev nD) (i : grid0.Coords) : (tbl m).atD 5 (k0_off1 i) = fl m c i := by
  have h : ∀ a, k0_off1 i a + 1 ≤ (pre0.ref 5).ty.shape.size a := fun a => by
    have := k0_off1_inb i a; fin_cases a; exact this
  refine (dif_pos h).trans ?_
  refine congrArg (tbl m 5) (funext fun a => Fin.ext ?_)
  show k0_off1 i a = k0_off1 i a + 1 * 0
  omega

/-- The output's block is stored at every point. -/
theorem busy3 (hI : Items m hO wb wc) (c : Dev nD) (t : Fin (cfgM m hO).N) : (cfgM m hO).idle 3 ((cfgM m hO).grid.coords t) = false := by
  show (!(k0_cond2 ((tbl m).atD 5 (k0_off1 (grid0.coords t))) == 1#1) && !(k0_cond3 ((tbl m).atD 5 (k0_off1 (grid0.coords t))) == 1#1)) = false
  rw [atD_eq m c]
  rcases hI.step c t with h | ⟨h, -⟩ | ⟨h, -⟩ <;> rw [h] <;> decide

/-- A staging buffer of a point. -/
abbrev st (w : Fin 4) (t : Fin (cfgM m hO).N) := ((cfgM m hO).win w).stage ((cfgM m hO).slots t w)

def bodyPost (c : Dev nD) (t : Fin (cfgM m hO).N) : sProp 𝕄 :=
  iprop(car m hO wb wc c (t.val + 1) ∗ (dats m hO wb wc 0 c).owesAt () t.succ
    ∗ owns (c : Thread nD τ) (st m hO 0 t) fullShare (iblk m hO c 0 t) ∗ owns (c : Thread nD τ) (st m hO 1 t) fullShare (iblk m hO c 1 t)
    ∗ owns (c : Thread nD τ) (st m hO 2 t) fullShare (iblk m hO c 2 t) ∗ owns (c : Thread nD τ) (st m hO 3 t) fullShare (outBlk m hO wb wc c t))

set_option maxHeartbeats 1600000 in
/-- The body at a point. -/
theorem body_at (hI : Items m hO wb wc) (c : Dev nD) (t : Fin (cfgM m hO).N) :
    iprop(car m hO wb wc c t.val ∗ (dats m hO wb wc 0 c).owesAt () t.castSucc
      ∗ owns (c : Thread nD τ) (st m hO 0 t) fullShare (iblk m hO c 0 t) ∗ owns (c : Thread nD τ) (st m hO 1 t) fullShare (iblk m hO c 1 t)
      ∗ owns (c : Thread nD τ) (st m hO 2 t) fullShare (iblk m hO c 2 t) ∗ (∃ d, owns (c : Thread nD τ) (st m hO 3 t) fullShare d))
    ⊢ wp frame (wpE (defs₀ (F := F)) Variants.none c none) Set.univ
      (bodyOn (grid0.coords t) (st m hO 0 t) (stage_whole0 0 _) (st m hO 1 t) (stage_whole0 1 _) (st m hO 2 t) (stage_whole0 2 _) (st m hO 3 t) (stage_whole0 3 _))
      (fun _ => bodyPost m hO wb wc c t) := by
  have he : (dats m hO wb wc 0 c).owesAt () t.succ = (dats m hO wb wc 0 c).owesAt () t.castSucc := rfl
  unfold bodyPost car
  rw [he]
  iintro ⟨⟨HF, HT, Hg, ⟨%sc, %sd, %hsc, HS, HN⟩⟩, Ho, H0, H1, H2, H3⟩
  rcases hI.step c t with h | ⟨h, hw, hv⟩ | ⟨h, s, hs, hn, hws, hvs⟩
  · have hb : outBlk m hO wb wc c t = k0_pay4 (F := F) := if_pos h
    rw [hb]
    iapply (run_zero c (grid0.coords t) (st m hO 0 t) (stage_whole0 0 _) (st m hO 1 t) (stage_whole0 1 _) (st m hO 2 t) (stage_whole0 2 _) (st m hO 3 t) (stage_whole0 3 _) (tbl m 5) h)
    isplitl [HF]; · iexact HF
    isplitl [H3]; · iexact H3
    iintro ⟨HF, H3⟩
    isplitl [HF HT Hg HS HN]
    · isplitl [HF]; · iexact HF
      isplitl [HT]; · iexact HT
      isplitl [Hg]; · iexact Hg
      iexists sc, sd; isplitr; swap; · isplitl [HS]; (iexact HS); iexact HN
      ipureintro; intro s hs hn
      exact absurd h (by rwa [show s = t from Fin.ext (by omega)] at hn)
    isplitl [Ho]; · iexact Ho
    isplitl [H0]; · iexact H0
    isplitl [H1]; · iexact H1
    isplitl [H2]; · iexact H2
    iexact H3
  · have hb : outBlk m hO wb wc c t = upOf (iblk m hO c 0 t) (castOf (wb t)) (castOf (wc t)) := if_neg (by rw [h]; decide)
    rw [hb, ← hw, ← hv]
    iapply (run_fresh c (grid0.coords t) (st m hO 0 t) (stage_whole0 0 _) (st m hO 1 t) (stage_whole0 1 _) (st m hO 2 t) (stage_whole0 2 _) (st m hO 3 t) (stage_whole0 3 _) (tbl m 5) h (iblk m hO c 0 t) (iblk m hO c 1 t) (iblk m hO c 2 t))
    isplitl [HF]; · iexact HF
    isplitl [H0]; · iexact H0
    isplitl [H1]; · iexact H1
    isplitl [H2]; · iexact H2
    isplitl [HS]; · iexists sc; iexact HS
    isplitl [HN]; · iexists sd; iexact HN
    isplitl [H3]; · iexact H3
    iintro ⟨HF, H0, H1, H2, HS, HN, H3⟩
    isplitl [HF HT Hg HS HN]
    · isplitl [HF]; · iexact HF
      isplitl [HT]; · iexact HT
      isplitl [Hg]; · iexact Hg
      iexists _, _; isplitr; swap; · isplitl [HS]; (iexact HS); iexact HN
      ipureintro; intro s hs hn
      rw [show s = t from Fin.ext (by omega), ← hw, ← hv]; exact ⟨rfl, rfl⟩
    isplitl [Ho]; · iexact Ho
    isplitl [H0]; · iexact H0
    isplitl [H1]; · iexact H1
    isplitl [H2]; · iexact H2
    iexact H3
  · have hb : outBlk m hO wb wc c t = upOf (iblk m hO c 0 t) (castOf (wb t)) (castOf (wc t)) := if_neg (by rw [h]; decide)
    obtain ⟨hk, hl⟩ := hsc s hs hn
    rw [hws] at hk
    rw [hvs] at hl
    subst hk hl
    rw [hb]
    iapply (run_kept c (grid0.coords t) (st m hO 0 t) (stage_whole0 0 _) (st m hO 1 t) (stage_whole0 1 _) (st m hO 2 t) (stage_whole0 2 _) (st m hO 3 t) (stage_whole0 3 _) (tbl m 5) h (iblk m hO c 0 t) (castOf (wb t)) (castOf (wc t)))
    isplitl [HF]; · iexact HF
    isplitl [H0]; · iexact H0
    isplitl [HS]; · iexact HS
    isplitl [HN]; · iexact HN
    isplitl [H3]; · iexact H3
    iintro ⟨HF, H0, HS, HN, H3⟩
    isplitl [HF HT Hg HS HN]
    · isplitl [HF]; · iexact HF
      isplitl [HT]; · iexact HT
      isplitl [Hg]; · iexact Hg
      iexists _, _; isplitr; swap; · isplitl [HS]; (iexact HS); iexact HN
      ipureintro; intro s hs hn
      rw [show s = t from Fin.ext (by omega)]; exact ⟨rfl, rfl⟩
    isplitl [Ho]; · iexact Ho
    isplitl [H0]; · iexact H0
    isplitl [H1]; · iexact H1
    isplitl [H2]; · iexact H2
    iexact H3

/-- The pipeline's obligation of the body. -/
theorem body_ok (hI : Items m hO wb wc) (c : Dev nD) : BodyObligationLoose (dats m hO wb wc 0 c) (defs₀ (F := F)) Variants.none () Set.univ := by
  intro t
  rw [bigSep_W0, bigSep_W0]
  have hb := busy3 m hO wb wc hI c t
  have hp : (fun _ => bodyPost m hO wb wc c t) = fun _ : PUnit => iprop(car m hO wb wc c (t.val + 1) ∗ (dats m hO wb wc 0 c).owesAt () t.succ
    ∗ owns (c : Thread nD τ) (st m hO 0 t) fullShare (iblk m hO c 0 t) ∗ owns (c : Thread nD τ) (st m hO 1 t) fullShare (iblk m hO c 1 t)
    ∗ owns (c : Thread nD τ) (st m hO 2 t) fullShare (iblk m hO c 2 t) ∗ (match (cfgM m hO).idle 3 ((cfgM m hO).grid.coords t) with
      | true => match ((cfgM m hO).win 3).flush t with
        | false => iprop(∃ d, owns (c : Thread nD τ) (st m hO 3 t) fullShare ((dats m hO wb wc 0 c).before 3 t d))
        | true => owns (c : Thread nD τ) (st m hO 3 t) fullShare (outBlk m hO wb wc c t)
      | false => owns (c : Thread nD τ) (st m hO 3 t) fullShare (outBlk m hO wb wc c t))) := by
    rw [hb]; rfl
  have key := body_at m hO wb wc hI c t
  rw [hp] at key
  refine BIBase.Entails.trans ?_ key
  rw [show (dats m hO wb wc 0 c).Φ t.castSucc = car m hO wb wc c t.val from rfl]
  iintro ⟨HC, Ho, ⟨%d0, H0⟩, ⟨%d1, H1⟩, ⟨%d2, H2⟩, ⟨%d3, H3⟩⟩
  rw [before_0, before_1, before_2]
  isplitl [HC]; · iexact HC
  isplitl [Ho]; · iexact Ho
  isplitl [H0]; · iexact H0
  isplitl [H1]; · iexact H1
  isplitl [H2]; · iexact H2
  iexists _; iexact H3

/-- The run of the call: every array as the points leave it, every counter at zero. -/
theorem run (hI : Items m hO wb wc) :
    θ_run defs (onTc (τ := τ) (main (F := F))) (s₀ m ρ) (fun r => Pipeline.FramePost (Pipeline.pin pcfgs fun _ => adm m hO) (dats m hO wb wc) 0 (V m) r ∧ r.2.sem = fun _ => 0) :=
  Pipeline.θ_run_frameP_track (Q' := _) pcfgs (fun _ => adm m hO) (dats m hO wb wc) 0 launch0 defs₀ Variants.none m ρ main
    (fun c => body_ok m hO wb wc hI c) (fun c w => by unfold Dat.share; split <;> rfl) (fun _ _ => rfl) (V m)
    (Pipeline.hmainP_region pcfgs 0 defs₀ Variants.none m main fun c => (main_chain c).trans rfl)
    (fun c w => A_eq m hO wb wc c w) (fun c k => V_tbl m c k)
    (fun c => by
      show iprop(Pipeline.ΦA spec0 c ∗ Pipeline.ΦT pre0 (tbl m) c) ⊢ car m hO wb wc c 0
      rw [PhiA_eq, PhiT_eq]; unfold car
      iintro ⟨⟨⟨⟨%d, HS⟩, ⟨%d', HN⟩⟩, Hg⟩, HF, HT⟩
      isplitl [HF]; · iexact HF
      isplitl [HT]; · iexact HT
      isplitl [Hg]; · iexact Hg
      iexists d, d'; isplitr; swap; · isplitl [HS]; (iexact HS); iexact HN
      ipureintro; intro s hs; omega)
    (fun c => by
      show car m hO wb wc c _ ⊢ Pipeline.ΦA spec0 c
      rw [PhiA_eq]; unfold car
      iintro ⟨-, -, Hg, ⟨%d, %d', -, HS, HN⟩⟩
      isplitl [HS HN]
      · isplitl [HS]; · iexists d; iexact HS
        iexists d'; iexact HN
      iexact Hg)

/-! ### What the tables say -/

/-- The place in a table that a point reads. -/
theorem emb_eq (i : grid0.Coords) :
    (Rect.unit (s := S160) (k0_off1 i) S1.size (k0_off1_inb i)).emb (Shape.Idx.first (numel1_S1.symm ▸ Nat.one_pos)) = ix1 (i 0) := by
  funext a
  match a with
  | ⟨0, _⟩ =>
    refine Fin.ext ?_
    have h : k0_off1 i 0 = (i 0).val := congrFun (k0_off1_eq i) 0
    show k0_off1 i 0 + 1 * 0 = (i 0).val
    omega

theorem tr0 (i : grid0.Coords) : cc0_transform_0 k0_off1_inb numel1_S1 (tbl m) i = ![(tbl m 2 (ix1 (i 0))).toNat, 0] :=
  congrArg (fun j : S160.Idx => (![(tbl m 2 j).toNat, 0] : Fin 2 → ℕ)) (emb_eq i)
theorem tr1 (i : grid0.Coords) : cc0_transform_1 k0_off1_inb numel1_S1 (tbl m) i = ![(tbl m 0 (ix1 (i 0))).toNat, 0, 1] :=
  congrArg (fun j : S160.Idx => (![(tbl m 0 j).toNat, 0, 1] : Fin 3 → ℕ)) (emb_eq i)
theorem tr2 (i : grid0.Coords) : cc0_transform_2 k0_off1_inb numel1_S1 (tbl m) i = ![(tbl m 0 (ix1 (i 0))).toNat, 0, 1] :=
  congrArg (fun j : S160.Idx => (![(tbl m 0 j).toNat, 0, 1] : Fin 3 → ℕ)) (emb_eq i)
theorem tr3 (i : grid0.Coords) : cc0_transform_3 k0_off1_inb numel1_S1 (tbl m) i = ![(tbl m 3 (ix1 (i 0))).toNat, 0] :=
  congrArg (fun j : S160.Idx => (![(tbl m 3 j).toNat, 0] : Fin 2 → ℕ)) (emb_eq i)
theorem fl_eq (c : Dev nD) (i : grid0.Coords) : fl m c i = tbl m 5 (ix1 (i 0)) :=
  congrArg (fun j : S160.Idx => tbl m 5 j) (emb_eq i)

/-- The experts of the blocks, as the launch finds them. -/
abbrev blkE : S160.Idx → BitVec 32 := m ((0 : Dev nD).tc.loc main_arg3)

/-- The tables say of every point what the precondition has them say. -/
abbrev SaysAll : Prop := ∀ t : Fin 160, Cert.Proof.Down.Says (blkE m) (tbl m 0) (tbl m 1) (tbl m 2) (tbl m 3) (tbl m 4) (tbl m 5) t

theorem ok_of (hS : SaysAll m) : ok0 (tbl m) := by
  refine ⟨fun i => ?_, fun i => ?_, fun i => ?_, fun i => ?_⟩
  all_goals obtain ⟨h0, h1, h2, h3, h4, -⟩ := hS (i 0)
  · refine ⟨fun a => ?_, .inl rfl⟩
    rw [tr0]; match a with
    | ⟨0, _⟩ => show ((tbl m 2 (ix1 (i 0))).toNat + 1) * 256 ≤ 40960; omega
    | ⟨1, _⟩ => show (0 + 1) * 2048 ≤ 2048; omega
  · refine ⟨fun a => ?_, .inl rfl⟩
    rw [tr1]; match a with
    | ⟨0, _⟩ => show ((tbl m 0 (ix1 (i 0))).toNat + 1) * 1 ≤ 32; omega
    | ⟨1, _⟩ => show (0 + 1) * 4096 ≤ 4096; omega
    | ⟨2, _⟩ => show (1 + 1) * 512 ≤ 1024; omega
  · refine ⟨fun a => ?_, .inl rfl⟩
    rw [tr2]; match a with
    | ⟨0, _⟩ => show ((tbl m 0 (ix1 (i 0))).toNat + 1) * 1 ≤ 32; omega
    | ⟨1, _⟩ => show (0 + 1) * 4096 ≤ 4096; omega
    | ⟨2, _⟩ => show (1 + 1) * 512 ≤ 1024; omega
  · refine ⟨fun a => ?_, .inr (.inl (.inr ⟨Nat.le_refl 2, rfl, .inl ⟨Dvd.dvd.mul_left (show 2 ∣ 256 by decide) _, show 2 ∣ 256 by decide⟩⟩))⟩
    have hi : (i 0).val < 160 := (i 0).isLt
    rw [tr3, h3]; match a with
    | ⟨0, _⟩ => show ((BitVec.ofNat 32 (i 0).val).toNat + 1) * 256 ≤ 40960; rw [BitVec.toNat_ofNat]; omega
    | ⟨1, _⟩ => show (0 + 1) * 512 ≤ 512; omega

/-- An expert's weights in the second half of the columns, and those of a point's expert. -/
def half (a : S32x4096x1024.Idx → Elt F .f32) (b : BitVec 32) : S1x4096x512.Idx → Elt F .f32 := fun x =>
  a (ix3 ⟨b.toNat % 32, Nat.mod_lt _ (by omega)⟩ (x 1) (⟨512 + (x 2).val, by have h : (x 2).val < 512 := (x 2).isLt; omega⟩ : Fin 1024))
def wOf (hO : ok0 (tbl m)) (t : Fin (cfgM m hO).N) : S1x4096x512.Idx → Elt F .f32 := half (m ((0 : Dev nD).tc.loc main_arg1)) (blkE m (ix1 (grid0.coords t 0)))
def vOf (hO : ok0 (tbl m)) (t : Fin (cfgM m hO).N) : S1x4096x512.Idx → Elt F .f32 := half (m ((0 : Dev nD).tc.loc main_arg2)) (blkE m (ix1 (grid0.coords t 0)))

theorem coords_val (t : Fin grid0.N) : (grid0.coords t 0).val = t.val := (by decide +kernel : ∀ t : Fin grid0.N, (grid0.coords t 0).val = t.val) t

theorem items_of (hS : SaysAll m) : Items m (ok_of m hS) (wOf m (ok_of m hS)) (vOf m (ok_of m hS)) where
  step c t := by
    obtain rfl : c = 0 := Subsingleton.elim _ _
    obtain ⟨h0, h1, h2, h3, h4, hk⟩ := hS (grid0.coords t 0)
    rw [fl_eq]
    rcases hk with hk | ⟨⟨hb, hl⟩, ⟨h3, he⟩ | ⟨hf, s, hs, hn, hw⟩⟩
    · exact .inl hk
    · refine .inr (.inl ⟨h3, ?_, ?_⟩)
      · refine funext fun (x : S1x4096x512.Idx) => ?_
        refine congrArg (m ((0 : Dev nD).tc.loc main_arg1) : S32x4096x1024.Idx → Elt F .f32) (funext fun a => Fin.ext ?_)
        have hx : (x 0).val < 1 := (x 0).isLt
        have h := congrFun (tr1 m (grid0.coords t))
        match a with
        | ⟨0, _⟩ =>
          refine (congrArg (fun z => z * 1 + 1 * (x 0).val) (h 0)).trans ?_
          show (tbl m 0 (ix1 (grid0.coords t 0))).toNat * 1 + 1 * (x 0).val = (blkE m (ix1 (grid0.coords t 0))).toNat % 32
          rw [he, Nat.mod_eq_of_lt hl]; omega
        | ⟨1, _⟩ =>
          refine (congrArg (fun z => z * 4096 + 1 * (x 1).val) (h 1)).trans ?_
          show 0 * 4096 + 1 * (x 1).val = (x 1).val
          omega
        | ⟨2, _⟩ =>
          refine (congrArg (fun z => z * 512 + 1 * (x 2).val) (h 2)).trans ?_
          show 1 * 512 + 1 * (x 2).val = 512 + (x 2).val
          omega
      · refine funext fun (x : S1x4096x512.Idx) => ?_
        refine congrArg (m ((0 : Dev nD).tc.loc main_arg2) : S32x4096x1024.Idx → Elt F .f32) (funext fun a => Fin.ext ?_)
        have hx : (x 0).val < 1 := (x 0).isLt
        have h := congrFun (tr2 m (grid0.coords t))
        match a with
        | ⟨0, _⟩ =>
          refine (congrArg (fun z => z * 1 + 1 * (x 0).val) (h 0)).trans ?_
          show (tbl m 0 (ix1 (grid0.coords t 0))).toNat * 1 + 1 * (x 0).val = (blkE m (ix1 (grid0.coords t 0))).toNat % 32
          rw [he, Nat.mod_eq_of_lt hl]; omega
        | ⟨1, _⟩ =>
          refine (congrArg (fun z => z * 4096 + 1 * (x 1).val) (h 1)).trans ?_
          show 0 * 4096 + 1 * (x 1).val = (x 1).val
          omega
        | ⟨2, _⟩ =>
          refine (congrArg (fun z => z * 512 + 1 * (x 2).val) (h 2)).trans ?_
          show 1 * 512 + 1 * (x 2).val = 512 + (x 2).val
          omega
    · have e : grid0.coords (⟨s.val, s.isLt⟩ : Fin grid0.N) 0 = s := Fin.ext (coords_val _)
      refine .inr (.inr ⟨hf, ⟨s.val, s.isLt⟩, by rw [hs]; exact coords_val t, ?_, ?_, ?_⟩)
      · rw [fl_eq, e]; exact hn
      · exact congrArg (half _) ((congrArg (fun u => blkE m (ix1 u)) e).trans hw)
      · exact congrArg (half _) ((congrArg (fun u => blkE m (ix1 u)) e).trans hw)

/-- The call runs; it leaves the result as the points leave it, the arguments as they were and every counter at zero. -/
theorem run_said (hS : SaysAll m) : θ_run defs (onTc (τ := τ) (main (F := F))) ⟨m, fun _ => 0, ρ⟩ (fun r => (∀ c : Dev nD,
      r.2.mem ((c.tc : Thread nD τ).loc main_v0) = (dats m (ok_of m hS) (wOf m (ok_of m hS)) (vOf m (ok_of m hS)) 0 c).arrAt 3 (cfgM m (ok_of m hS)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r (h : _ ∧ _) => ⟨fun c => by
    have hr : ∀ b, b ∈ Pipeline.restRefs sig spec0 → r.2.mem ((c.tc : Thread nD τ).loc b) = m ((c.tc : Thread nD τ).loc b) := (h.1 c).2
    refine ⟨(h.1 c).1 3, ((h.1 c).1 0).trans ((dats m _ _ _ 0 c).arrAt_in 0 rfl _), ((h.1 c).1 1).trans ((dats m _ _ _ 0 c).arrAt_in 1 rfl _),
      ((h.1 c).1 2).trans ((dats m _ _ _ 0 c).arrAt_in 2 rfl _), hr _ ?_, hr _ ?_, hr _ ?_, hr _ ?_, hr _ ?_, hr _ ?_, hr _ ?_⟩
    all_goals decide, h.2⟩) (run m ρ _ _ _ (items_of m hS))

/-- The call runs, leaves its arguments as they were and every counter at zero. -/
theorem frame (hS : SaysAll m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h.1 c).2, h.2⟩) (run_said m ρ hS)

end Cert.UpKernelIdeal.Gen

end
-- ==== Proof.UpBits.lean ====
/- Hand-written, untrusted: THE FRAMES OF THE EXPERTS' FIRST PRODUCTS. Nothing was rewritten between the two programs: they are the
   same text, and what is proved of the one at any float values is carried to the other. -/
module

public import proofs.«01_k».proof.Defs
public import proofs.«01_k».proof.Proof.UpFrameIdeal
public import proofs.«01_k».proof.Proof.Gen.UpKernel.Launch
public import proofs.«01_k».proof.Pre_items_of_up
public import proofs.«01_k».proof.Proof.Gen.Pre_items_of_up

@[expose] public section

set_option maxRecDepth 16384

noncomputable section

namespace Cert.Proof.Up

open Idealize.ShloMosaic Idealize.SL.Sem

variable {F : FTy → Type} [FloatOps F]

/-- What the precondition says of the tables: it is the one of the second product, which looks at no other array. -/
theorem says_of {x : IVec Cert.Pre_items_of_up.S40960x2048 32} {w v : FVec F Cert.Pre_items_of_up.S32x4096x1024 .f32} {blk e cw bi bo co fg : IVec Cert.Pre_items_of_up.S160 32}
    (h : Cert.Pre_items_of_up.fn x w v blk e cw bi bo co fg = fun _ => 1#1) (t : Fin 160) : Cert.Proof.Down.Says blk e cw bi bo co fg t :=
  Cert.Proof.Down.says_of (F := F) (a0 := fun _ => Scalar.ofBits .bf16 0#16) (a1 := fun _ => Scalar.ofBits .bf16 0#16) (a2 := fun _ => Scalar.ofBits .f32 0#32) h t

/-- The call at the ideal reading runs, leaves its arguments as they were and every counter at zero. -/
theorem frameIdeal : Cert.quiescent_UpKernelIdeal (hUpKernelIdeal := Cert.UpKernelIdeal.Gen.facts) (hPre_items_of_up := Cert.Pre_items_of_up.Gen.facts) :=
  fun m ρ hp => Cert.UpKernelIdeal.Gen.frame m ρ fun t => says_of (hp 0) t

/-- The two programs have the same pipeline. -/
theorem pcfgs_eq : @Cert.UpKernel.pcfgs F _ Cert.UpKernel.Gen.facts = @Cert.UpKernelIdeal.pcfgs F _ Cert.UpKernelIdeal.Gen.facts := rfl

/-- The two programs have the same body. -/
theorem defs₀_eq : @Cert.UpKernel.defs₀ F _ Cert.UpKernel.Gen.facts = @Cert.UpKernelIdeal.defs₀ F _ Cert.UpKernelIdeal.Gen.facts := by
  refine congrArg Defs.onTc ?_
  funext l a
  match l, a with
  | 0, (t, s) => rfl

/-- A pipeline and a body, called once, run from a memory to a post. -/
def Runs (m : (ℓ : Loc Cert.UpKernelIdeal.nD Cert.UpKernelIdeal.τ Cert.UpKernelIdeal.sig) → Buf (Elt F) ℓ) (g : Dev Cert.UpKernelIdeal.nD → PrngReg)
    (Q : PUnit × MemSt Cert.UpKernelIdeal.nD Cert.UpKernelIdeal.τ Cert.UpKernelIdeal.sig (Elt F) → Prop)
    (pcs : Fin 1 → Pipeline.PCfg Cert.UpKernelIdeal.sig Cert.UpKernelIdeal.Λ₀ (Elt F))
    (d : Defs Cert.UpKernelIdeal.nD Cert.UpKernelIdeal.τ Cert.UpKernelIdeal.sig (Elt F) Cert.UpKernelIdeal.Λ₀) : Prop :=
  θ_run (Pipeline.defs pcs d) (onTc (τ := Cert.UpKernelIdeal.τ) fun _ => do
    Prog.lift (.customCall (Pipeline.entry 0) ())
    pure ⟨⟩) ⟨m, fun _ => 0, g⟩ Q

set_option maxHeartbeats 1000000 in
/-- The call as it is compiled runs, leaves its arguments as they were and every counter at zero. -/
theorem frameBits : Cert.quiescent_UpKernel (hUpKernel := Cert.UpKernel.Gen.facts) (hPre_items_of_up := Cert.Pre_items_of_up.Gen.facts) := by
  intro m ρ hp
  have key : Runs m ρ _ Cert.UpKernelIdeal.pcfgs Cert.UpKernelIdeal.defs₀ := Cert.UpKernelIdeal.Gen.frame (F := Bits) m ρ fun t => says_of (hp 0) t
  have key' : Runs m ρ _ (@Cert.UpKernel.pcfgs Bits _ Cert.UpKernel.Gen.facts) (@Cert.UpKernel.defs₀ Bits _ Cert.UpKernel.Gen.facts) :=
    (congrArg₂ (Runs m ρ _) pcfgs_eq defs₀_eq).mpr key
  exact key'

end Cert.Proof.Up

end
-- ==== Proof.UpValue.lean ====
/- Hand-written, untrusted: THE VALUES OF THE EXPERTS' FIRST PRODUCTS. A block of the output is a product of two sums, one of them with its
   logistic factor, each sum over the two halves of the words; the reference unpacks the words to rows and picks the block's experts. -/
module

public import proofs.«01_k».proof.Defs
public import proofs.«01_k».proof.Proof.UpFrameIdeal
public import proofs.«01_k».proof.Proof.Gen.UpReferenceIdeal.Run
public import Idealize.ShloMosaic.Lib.Pipeline.ValueKit
public import Idealize.ShloMosaic.Lib.StableHlo.ReadAt

@[expose] public section

set_option maxRecDepth 16384

noncomputable section

namespace Cert.Proof.Up

open Cert.UpKernelIdeal Cert.UpKernelIdeal.Gen Idealize.ShloMosaic Idealize.ShloMosaic.TcCoe Idealize.SL.Sem
open Idealize.ShloMosaic.Pipeline (Dat)

/-- The rows that the words hold, in blocks. -/
abbrev rows (x : IVec S40960x2048 32) : FVec Ideal Cert.UpReferenceIdeal.S160x256x4096 .f32 :=
  shapeCast Cert.UpReferenceIdeal.S160x256x4096 (concatenate Cert.UpReferenceIdeal.S40960x4096 1 [⟨Cert.UpReferenceIdeal.S40960x2048, (bitcastToFloat (F := Ideal) .f32 (Host.shli x (broadcastInDim Cert.UpReferenceIdeal.S40960x2048 ![] Cert.UpReferenceIdeal.Gen.bcast_S_S40960x2048 (constantI Cert.UpReferenceIdeal.S_ 32 16#32))))⟩, ⟨Cert.UpReferenceIdeal.S40960x2048, (bitcastToFloat (F := Ideal) .f32 (andi x (broadcastInDim Cert.UpReferenceIdeal.S40960x2048 ![] Cert.UpReferenceIdeal.Gen.bcast_S_S40960x2048 (constantI Cert.UpReferenceIdeal.S_ 32 4294901760#32))))⟩] Cert.UpReferenceIdeal.Gen.concatenates_S40960x2048_S40960x2048_S40960x4096_d1) Cert.UpReferenceIdeal.Gen.shapeCasts_S40960x4096_S160x256x4096

/-- The product of blocks of rows with blocks of weights. -/
abbrev prod (xb : FVec Ideal Cert.UpReferenceIdeal.S160x256x4096 .f32) (g : FVec Ideal Cert.UpReferenceIdeal.S160x4096x1024 .f32) : FVec Ideal Cert.UpReferenceIdeal.S160x256x1024 .f32 :=
  Host.dotGeneral Cert.UpReferenceIdeal.dot_S160x256x4096_S160x4096x1024_S160x256x1024_2_1_1_2_0_0 none xb g

/-- A block times its logistic function. -/
abbrev silu (p : FVec Ideal Cert.UpReferenceIdeal.S160x256x1024 .f32) : FVec Ideal Cert.UpReferenceIdeal.S160x256x1024 .f32 :=
  mulf p (Host.divf (broadcastInDim Cert.UpReferenceIdeal.S160x256x1024 ![] Cert.UpReferenceIdeal.Gen.bcast_S_S160x256x1024 (constant Cert.UpReferenceIdeal.S_ .f32 0x3F800000#32)) (addf (broadcastInDim Cert.UpReferenceIdeal.S160x256x1024 ![] Cert.UpReferenceIdeal.Gen.bcast_S_S160x256x1024 (constant Cert.UpReferenceIdeal.S_ .f32 0x3F800000#32)) (Host.exp (Host.negf p))))

/-- The second half of the columns, the rows that are nobody's set to zero. -/
abbrev tail (h : FVec Ideal Cert.UpReferenceIdeal.S160x256x1024 .f32) (fg : IVec S160 32) : FVec Ideal S40960x512 .bf16 :=
  truncf .bf16 (extractStridedSlice Cert.UpReferenceIdeal.S40960x512 ![0, 512] (shapeCast Cert.UpReferenceIdeal.S40960x1024 (select (broadcastInDim Cert.UpReferenceIdeal.S160x256x1024 ![0, 1, 2] Cert.UpReferenceIdeal.Gen.bcast_S160x1x1_S160x256x1024_0_1_2 (broadcastInDim Cert.UpReferenceIdeal.S160x1x1 ![0] Cert.UpReferenceIdeal.Gen.bcast_S160_S160x1x1_0 (cmpi .eq fg (broadcastInDim Cert.UpReferenceIdeal.S160 ![] Cert.UpReferenceIdeal.Gen.bcast_S_S160 (constantI Cert.UpReferenceIdeal.S_ 32 4#32))))) (broadcastInDim Cert.UpReferenceIdeal.S160x256x1024 ![] Cert.UpReferenceIdeal.Gen.bcast_S_S160x256x1024 (id (constant Cert.UpReferenceIdeal.S_ .f32 0x00000000#32))) h) Cert.UpReferenceIdeal.Gen.shapeCasts_S160x256x1024_S40960x1024) Cert.UpReferenceIdeal.Gen.slices_S40960x1024_S40960x512_0_512) Cert.UpReferenceIdeal.Gen.bitsLt_bf16_f32

/-- The weights of the blocks' experts. -/
abbrev picked (w : FVec Ideal S32x4096x1024 .f32) (blk : IVec S160 32) : FVec Ideal Cert.UpReferenceIdeal.S160x4096x1024 .f32 :=
  Host.gather Cert.UpReferenceIdeal.gather_S32x4096x1024_S160x1_S160x4096x1024_12_0_n_n_0_1_140961024 w (broadcastInDim Cert.UpReferenceIdeal.S160x1 ![0] Cert.UpReferenceIdeal.Gen.bcast_S160_S160x1_0 (select (cmpi .slt blk (broadcastInDim Cert.UpReferenceIdeal.S160 ![] Cert.UpReferenceIdeal.Gen.bcast_S_S160 (constantI Cert.UpReferenceIdeal.S_ 32 0#32))) (addi blk (broadcastInDim Cert.UpReferenceIdeal.S160 ![] Cert.UpReferenceIdeal.Gen.bcast_S_S160 (constantI Cert.UpReferenceIdeal.S_ 32 32#32))) blk))

/-- The reference's result. -/
abbrev REF (x : IVec S40960x2048 32) (w1 w3 : FVec Ideal S32x4096x1024 .f32) (blk fg : IVec S160 32) : FVec Ideal S40960x512 .bf16 :=
  tail (mulf (silu (prod (rows x) (picked w1 blk))) (prod (rows x) (picked w3 blk))) fg

/-- The lower half of a word, and its upper half, as numbers. -/
def lo (w : BitVec 32) : EReal := FloatOps.ofBits (F := Ideal) .f32 (IntOp.shli .vector w 16#32)
def hi (w : BitVec 32) : EReal := FloatOps.ofBits (F := Ideal) .f32 (IntOp.andi w 4294901760#32)

/-- What the body stores, at an index. -/
theorem pay3_at (x : IVec S256x2048 32) (u v y z : FVec Ideal S2048x512 .bf16) (r : Fin 256) (l : Fin 512) :
    (k0_pay3 (F := Ideal) x u v y z : FVec Ideal S256x512 .bf16) (ix2 r l)
      = ((∑ k : Fin 2048, lo (x (ix2 r k)) * u (ix2 k l)) + ∑ k : Fin 2048, hi (x (ix2 r k)) * v (ix2 k l))
        * Ideal.logistic ((∑ k : Fin 2048, lo (x (ix2 r k)) * u (ix2 k l)) + ∑ k : Fin 2048, hi (x (ix2 r k)) * v (ix2 k l))
        * ((∑ k : Fin 2048, lo (x (ix2 r k)) * y (ix2 k l)) + ∑ k : Fin 2048, hi (x (ix2 r k)) * z (ix2 k l)) := by
  pointwise [k0_pay3]
  rfl

/-- What the body stores for nobody's rows, at an index. -/
theorem pay4_at (r : Fin 256) (l : Fin 512) : (k0_pay4 : FVec Ideal S256x512 .bf16) (ix2 r l) = (0 : EReal) := by
  pointwise [k0_pay4]

/-- A sum over the words of a row of a block. -/
theorem prod_at (x : IVec S40960x2048 32) (g : FVec Ideal Cert.UpReferenceIdeal.S160x4096x1024 .f32) (t : Fin 160) (r : Fin 256) (l : Fin 1024) (n : Fin 40960) (hn : n.val = 256 * t.val + r.val) :
    prod (rows x) g (ix3 t r l) = (∑ k : Fin 2048, lo (x (ix2 n k)) * g (ix3 t (⟨k.val, by omega⟩ : Fin 4096) l))
      + ∑ k : Fin 2048, hi (x (ix2 n k)) * g (ix3 t (⟨2048 + k.val, by omega⟩ : Fin 4096) l) := by
  obtain rfl : n = ⟨t.val * 256 + r.val, by clear hn; omega⟩ := Fin.ext (by show _ = t.val * 256 + r.val; omega)
  pointwise
  rfl

/-- A block times its logistic function, at an index. -/
theorem silu_at (p : FVec Ideal Cert.UpReferenceIdeal.S160x256x1024 .f32) (t : Fin 160) (r : Fin 256) (l : Fin 1024) : silu p (ix3 t r l) = p (ix3 t r l) * Ideal.logistic (p (ix3 t r l)) := by
  pointwise
  rfl

/-- The constant put on nobody's rows is zero. -/
theorem none_at : (constant Cert.UpReferenceIdeal.S_ .f32 0x00000000#32 : FVec Ideal Cert.UpReferenceIdeal.S_ .f32) ix0 = (0 : EReal) := by
  pointwise

/-- The second half of the columns at an index of a block. -/
theorem tail_at (h : FVec Ideal Cert.UpReferenceIdeal.S160x256x1024 .f32) (fg : IVec S160 32) (t : Fin 160) (r : Fin 256) (l : Fin 512) (n : Fin 40960) (hn : n.val = 256 * t.val + r.val) :
    tail h fg (ix2 n l) = if fg (ix1 t) = 4#32 then (0 : EReal) else h (ix3 t r (⟨512 + l.val, by omega⟩ : Fin 1024)) := by
  have e1 : (⟨n.val / 256, by clear hn; omega⟩ : Fin 160) = t := Fin.ext (by show n.val / 256 = t.val; omega)
  have e2 : (⟨n.val % 256, by clear hn; omega⟩ : Fin 256) = r := Fin.ext (by show n.val % 256 = r.val; omega)
  subst e1 e2
  pointwise
  by_cases h : fg (ix1 (⟨n.val / 256, by omega⟩ : Fin 160)) = 4#32
  · rw [if_pos h, h]; exact none_at
  · rw [if_neg h]
    have e : IntOp.cmpi .eq (fg (ix1 (⟨n.val / 256, by omega⟩ : Fin 160))) 4#32 = 0#1 := by
      show BitVec.ofBool (_ == _) = _
      rw [beq_eq_false_iff_ne.mpr h]; rfl
    rw [e]; rfl

/-- A gathered weight. -/
theorem gather_at (w : FVec Ideal S32x4096x1024 .f32) (idx : IVec Cert.UpReferenceIdeal.S160x1 32) (t : Fin 160) (k : Fin 4096) (l : Fin 1024) :
    Host.gather Cert.UpReferenceIdeal.gather_S32x4096x1024_S160x1_S160x4096x1024_12_0_n_n_0_1_140961024 w idx (ix3 t k l)
      = w (ix3 (⟨min (idx (ix2 t (0 : Fin 1))).toInt.toNat 31, by omega⟩ : Fin 32) k l) := by
  unfold Host.gather
  refine congrArg w (funext fun a => Fin.ext ?_)
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    refine (dif_pos (show (0 : Fin 3) ∈ [(0 : Fin 3)] from List.mem_singleton.mpr rfl)).trans ?_
    refine congrArg (fun j => min (idx j).toInt.toNat 31) (funext fun b => Fin.ext ?_)
    match b with
    | ⟨0, _⟩ => rfl
    | ⟨1, _⟩ => rfl
  | ⟨1, _⟩ =>
    show GatherDims.start _ _ _ 1 + GatherDims.batchCoord _ _ 1 + GatherDims.offCoord _ _ 1 = _
    rw [GatherDims.batchCoord_eq_zero _ _ _ List.not_mem_nil]
    refine (congrArg (· + 0 + k.val) (dif_neg (show ¬ (1 : Fin 3) ∈ [(0 : Fin 3)] by decide))).trans ?_
    show 0 + 0 + k.val = k.val
    omega
  | ⟨2, _⟩ =>
    show GatherDims.start _ _ _ 2 + GatherDims.batchCoord _ _ 2 + GatherDims.offCoord _ _ 2 = _
    rw [GatherDims.batchCoord_eq_zero _ _ _ List.not_mem_nil]
    refine (congrArg (· + 0 + l.val) (dif_neg (show ¬ (2 : Fin 3) ∈ [(0 : Fin 3)] by decide))).trans ?_
    show 0 + 0 + l.val = l.val
    omega

/-- A column of a table, at an index. -/
theorem column_at (x : IVec Cert.UpReferenceIdeal.S160 32) (t : Fin 160) :
    broadcastInDim Cert.UpReferenceIdeal.S160x1 ![0] Cert.UpReferenceIdeal.Gen.bcast_S160_S160x1_0 x (ix2 t (0 : Fin 1)) = x (ix1 t) := by
  pointwise

/-- A picked weight, of a block whose expert is one of the 32. -/
theorem picked_at (w : FVec Ideal S32x4096x1024 .f32) (blk : IVec S160 32) (t : Fin 160) (hb : (blk (ix1 t)).toNat < 32) (k : Fin 4096) (l : Fin 1024) :
    picked w blk (ix3 t k l) = w (ix3 (⟨(blk (ix1 t)).toNat % 32, Nat.mod_lt _ (by omega)⟩ : Fin 32) k l) := by
  refine (gather_at w _ t k l).trans ?_
  refine congrArg (fun b => w (ix3 b k l)) (Fin.ext ?_)
  have e : (select (cmpi .slt blk (broadcastInDim Cert.UpReferenceIdeal.S160 ![] Cert.UpReferenceIdeal.Gen.bcast_S_S160 (constantI Cert.UpReferenceIdeal.S_ 32 0#32))) (addi blk (broadcastInDim Cert.UpReferenceIdeal.S160 ![] Cert.UpReferenceIdeal.Gen.bcast_S_S160 (constantI Cert.UpReferenceIdeal.S_ 32 32#32))) blk) (ix1 t) = blk (ix1 t) := by
    have h : IntOp.cmpi .slt (blk (ix1 t)) 0#32 = 0#1 := by
      show BitVec.ofBool (BitVec.slt _ _) = _
      rw [show BitVec.slt (blk (ix1 t)) 0#32 = false by
        show decide ((blk (ix1 t)).toInt < (0#32).toInt) = false
        rw [BitVec.toInt_eq_toNat_of_lt (by omega)]
        exact decide_eq_false (by show ¬ ((blk (ix1 t)).toNat : ℤ) < 0; omega)]
      rfl
    show Scalar.select (IntOp.cmpi .slt (blk (ix1 t)) 0#32) _ _ = _
    rw [h]; rfl
  have e' : (broadcastInDim Cert.UpReferenceIdeal.S160x1 ![0] Cert.UpReferenceIdeal.Gen.bcast_S160_S160x1_0 (select (cmpi .slt blk (broadcastInDim Cert.UpReferenceIdeal.S160 ![] Cert.UpReferenceIdeal.Gen.bcast_S_S160 (constantI Cert.UpReferenceIdeal.S_ 32 0#32))) (addi blk (broadcastInDim Cert.UpReferenceIdeal.S160 ![] Cert.UpReferenceIdeal.Gen.bcast_S_S160 (constantI Cert.UpReferenceIdeal.S_ 32 32#32))) blk)) (ix2 t (0 : Fin 1)) = blk (ix1 t) := by
    rw [column_at]; exact e
  refine (congrArg (fun b : BitVec 32 => min b.toInt.toNat 31) e').trans ?_
  show min (blk (ix1 t)).toInt.toNat 31 = (blk (ix1 t)).toNat % 32
  rw [BitVec.toInt_eq_toNat_of_lt (by omega)]
  omega

variable (m : (ℓ : Loc nD τ sig) → Buf (Elt Ideal) ℓ) (hS : SaysAll m)

/-- The reference's result of the launch's arrays. -/
abbrev REFm : FVec Ideal S40960x512 .bf16 :=
  REF (m ((0 : Dev nD).tc.loc main_arg0)) (m ((0 : Dev nD).tc.loc main_arg1)) (m ((0 : Dev nD).tc.loc main_arg2)) (blkE m) (tbl m 5)

/-- Where the output's block of a point lies. -/
theorem place (t : Fin (cfgM m (ok_of m hS)).N) (r : Fin 256) (l : Fin 512) : (((cfgM m (ok_of m hS)).win 3).blk t).view.emb (ix2 r l)
    = ix2 (⟨256 * (grid0.coords t 0).val + r.val, by have h : (grid0.coords t 0).val < 160 := (grid0.coords t 0).isLt; omega⟩ : Fin 40960) l := by
  have hlt : (grid0.coords t 0).val < 160 := (grid0.coords t 0).isLt
  obtain ⟨h0, h1, h2, h3, h4, hk⟩ := hS (grid0.coords t 0)
  funext a; apply Fin.ext
  match a with
  | ⟨0, _⟩ =>
    show cc0_transform_3 k0_off1_inb numel1_S1 (tbl m) (grid0.coords t) 0 * 256 + 1 * r.val = 256 * (grid0.coords t 0).val + r.val
    rw [tr3]
    show (tbl m 3 (ix1 (grid0.coords t 0))).toNat * 256 + 1 * r.val = _
    rw [h3, BitVec.toNat_ofNat]; omega
  | ⟨1, _⟩ =>
    show cc0_transform_3 k0_off1_inb numel1_S1 (tbl m) (grid0.coords t) 1 * 512 + 1 * l.val = l.val
    rw [tr3]
    show 0 * 512 + 1 * l.val = _
    omega

/-- The output's block of a point is the reference's at the place where it lies. -/
theorem point (c : Dev nD) (t : Fin (cfgM m (ok_of m hS)).N) (y : S256x512.Idx) :
    outBlk m (ok_of m hS) (wOf m (ok_of m hS)) (vOf m (ok_of m hS)) c t y = REFm m ((((cfgM m (ok_of m hS)).win 3).blk t).view.emb y) := by
  obtain rfl : c = 0 := Subsingleton.elim _ _
  obtain ⟨r, l, rfl⟩ : ∃ (r : Fin 256) (l : Fin 512), y = ix2 r l := ⟨y 0, y 1, eq_ix2 y⟩
  have hr := r.isLt
  have hlt : (grid0.coords t 0).val < 160 := (grid0.coords t 0).isLt
  obtain ⟨h0, h1, h2, h3, h4, hk⟩ := hS (grid0.coords t 0)
  have hemb := place m hS t r l
  refine Eq.trans ?_ (congrArg (REFm m) hemb.symm)
  refine Eq.trans ?_ (tail_at _ _ (grid0.coords t 0) r l (⟨256 * (grid0.coords t 0).val + r.val, by omega⟩ : Fin 40960) rfl).symm
  have four : tbl m 5 (ix1 (grid0.coords t 0)) = 4#32 → outBlk m (ok_of m hS) (wOf m (ok_of m hS)) (vOf m (ok_of m hS)) 0 t (ix2 r l) = (0 : EReal) := fun hk =>
    (congrFun (if_pos ((fl_eq m 0 _).trans hk)) (ix2 r l)).trans (pay4_at r l)
  rcases hk with hk | ⟨⟨hb, hl⟩, -⟩
  · exact (four hk).trans (if_pos hk).symm
  by_cases hf : tbl m 5 (ix1 (grid0.coords t 0)) = 4#32
  · exact (four hf).trans (if_pos hf).symm
  refine Eq.trans ?_ (if_neg hf).symm
  refine (congrFun (if_neg fun h => hf ((fl_eq m 0 _).symm.trans h)) (ix2 r l)).trans ((pay3_at _ _ _ _ _ r l).trans ?_)
  have hx : ∀ k : Fin 2048, (iblk m (ok_of m hS) 0 0 t : IVec S256x2048 32) (ix2 r k)
      = (m ((0 : Dev nD).tc.loc main_arg0) : IVec S40960x2048 32) (ix2 (⟨256 * (grid0.coords t 0).val + r.val, by omega⟩ : Fin 40960) k) := fun k => by
    refine congrArg (m ((0 : Dev nD).tc.loc main_arg0) : IVec S40960x2048 32) (funext fun a => Fin.ext ?_)
    match a with
    | ⟨0, _⟩ =>
      refine (congrArg (fun z => z * 256 + 1 * r.val) (congrFun (tr0 m (grid0.coords t)) 0)).trans ?_
      show (tbl m 2 (ix1 (grid0.coords t 0))).toNat * 256 + 1 * r.val = 256 * (grid0.coords t 0).val + r.val
      rw [hb, BitVec.toNat_ofNat]; omega
    | ⟨1, _⟩ =>
      refine (congrArg (fun z => z * 2048 + 1 * k.val) (congrFun (tr0 m (grid0.coords t)) 1)).trans ?_
      show 0 * 2048 + 1 * k.val = k.val
      omega
  have hw1 : ∀ k : Fin 4096, (castOf (wOf m (ok_of m hS) t) : FVec Ideal S4096x512 .bf16) (ix2 k l)
      = picked (m ((0 : Dev nD).tc.loc main_arg1)) (blkE m) (ix3 (grid0.coords t 0) k (⟨512 + l.val, by omega⟩ : Fin 1024)) := fun k =>
    (picked_at (m ((0 : Dev nD).tc.loc main_arg1)) (blkE m) (grid0.coords t 0) hl k _).symm
  have hw3 : ∀ k : Fin 4096, (castOf (vOf m (ok_of m hS) t) : FVec Ideal S4096x512 .bf16) (ix2 k l)
      = picked (m ((0 : Dev nD).tc.loc main_arg2)) (blkE m) (ix3 (grid0.coords t 0) k (⟨512 + l.val, by omega⟩ : Fin 1024)) := fun k =>
    (picked_at (m ((0 : Dev nD).tc.loc main_arg2)) (blkE m) (grid0.coords t 0) hl k _).symm
  have hs : ∀ (sc : FVec Ideal S4096x512 .bf16) (g : FVec Ideal Cert.UpReferenceIdeal.S160x4096x1024 .f32), (∀ k : Fin 4096, sc (ix2 k l) = g (ix3 (grid0.coords t 0) k (⟨512 + l.val, by omega⟩ : Fin 1024))) →
      (∑ k : Fin 2048, lo ((iblk m (ok_of m hS) 0 0 t : IVec S256x2048 32) (ix2 r k)) * low (F := Ideal) sc (ix2 k l)) + (∑ k : Fin 2048, hi ((iblk m (ok_of m hS) 0 0 t : IVec S256x2048 32) (ix2 r k)) * high (F := Ideal) sc (ix2 k l))
        = prod (rows (m ((0 : Dev nD).tc.loc main_arg0))) g (ix3 (grid0.coords t 0) r (⟨512 + l.val, by omega⟩ : Fin 1024)) := fun sc g hg =>
    (congrArg₂ (fun x y : EReal => x + y) (Finset.sum_congr rfl fun k _ => congrArg₂ (fun x y : EReal => x * y) (congrArg lo (hx k)) (hg _))
      (Finset.sum_congr rfl fun k _ => congrArg₂ (fun x y : EReal => x * y) (congrArg hi (hx k)) (hg _))).trans (prod_at _ g (grid0.coords t 0) r _ (⟨256 * (grid0.coords t 0).val + r.val, by omega⟩ : Fin 40960) rfl).symm
  refine (congrArg₂ (fun x y : EReal => x * Ideal.logistic x * y) (hs _ _ hw1) (hs _ _ hw3)).trans ?_
  exact congrArg (fun x : EReal => x * _) (silu_at _ (grid0.coords t 0) r _).symm

/-- Every point writes its block back. -/
theorem flushes (t : Fin (cfgM m (ok_of m hS)).N) : ((cfgM m (ok_of m hS)).win 3).flush t = true := by
  show (true && (decide (t.val + 1 = grid0.N) || decide (∃ h : t.val + 1 < grid0.N, ((cfgM m (ok_of m hS)).win 3).index ⟨t.val + 1, h⟩ ≠ ((cfgM m (ok_of m hS)).win 3).index t))) = true
  rw [Bool.true_and, Bool.or_eq_true, decide_eq_true_iff, decide_eq_true_iff]
  by_cases ht : t.val + 1 = grid0.N
  · exact .inl ht
  have hlt : t.val < grid0.N := t.isLt
  refine .inr ⟨by omega, fun h => ?_⟩
  have h := congrFun h (0 : Fin 2)
  have e : ∀ s : Fin grid0.N, ((cfgM m (ok_of m hS)).win 3).index s (0 : Fin 2) = s.val := fun s => by
    have hs : s.val < 160 := s.isLt
    obtain ⟨h0, h1, h2, h3, h4, hk⟩ := hS (grid0.coords s 0)
    refine (congrFun (tr3 m (grid0.coords s)) 0).trans ?_
    show (tbl m 3 (ix1 (grid0.coords s 0))).toNat = _
    rw [h3, coords_val, BitVec.toNat_ofNat]; omega
  have := (e _).symm.trans (h.trans (e _))
  have this : t.val + 1 = t.val := this
  omega

/-- The result array after the run. -/
theorem final (c : Dev nD) : (dats m (ok_of m hS) (wOf m (ok_of m hS)) (vOf m (ok_of m hS)) 0 c).arrAt 3 (cfgM m (ok_of m hS)).N = REFm m := by
  refine (dats m (ok_of m hS) (wOf m (ok_of m hS)) (vOf m (ok_of m hS)) 0 c).arrAt_eq_of_emb 3 _ (fun t _ y => point m hS c t y) fun (i : S40960x512.Idx) => ?_
  have h0 : (i 0).val < 40960 := (i 0).isLt
  have ht : (i 0).val / 256 < 160 := by omega
  refine ⟨(⟨(i 0).val / 256, ht⟩ : Fin grid0.N), flushes m hS _, ?_⟩
  have key := place m hS (⟨(i 0).val / 256, ht⟩ : Fin grid0.N) ⟨(i 0).val % 256, Nat.mod_lt _ (by omega)⟩ (i 1)
  have e : (ix2 (⟨256 * (grid0.coords (⟨(i 0).val / 256, ht⟩ : Fin grid0.N) 0).val + (i 0).val % 256, by rw [coords_val]; show 256 * ((i 0).val / 256) + _ < _; omega⟩ : Fin 40960) (i 1) : S40960x512.Idx) = i := by
    funext a; apply Fin.ext
    match a with
    | ⟨0, _⟩ =>
      show 256 * (grid0.coords (⟨(i 0).val / 256, ht⟩ : Fin grid0.N) 0).val + (i 0).val % 256 = (i 0).val
      rw [coords_val]
      show 256 * ((i 0).val / 256) + (i 0).val % 256 = (i 0).val
      omega
    | ⟨1, _⟩ => rfl
  have h := View.emb_mem_set (((cfgM m (ok_of m hS)).win 3).blk (⟨(i 0).val / 256, ht⟩ : Fin grid0.N)).view
    (ix2 (⟨(i 0).val % 256, Nat.mod_lt _ (by omega)⟩ : Fin 256) (i 1))
  exact (congrArg (fun j => j ∈ (((cfgM m (ok_of m hS)).win 3).blk (⟨(i 0).val / 256, ht⟩ : Fin grid0.N)).view.set) (key.trans e)).mp h

end Cert.Proof.Up

end
-- ==== Proof.lean ====
/- Hand-written: the proof of `Cert.Claim`: the twenty-three frames, the seven pairs `preserves` and `algebraic`. -/
module

public import proofs.«01_k».proof.Proof.Gen.OutKernel.Skeleton
public import proofs.«01_k».proof.Proof.Gen.OutKernel.Launch
public import proofs.«01_k».proof.Proof.Gen.OutKernel.Loops
public import proofs.«01_k».proof.Proof.Gen.OutKernel.Frame
public import proofs.«01_k».proof.Proof.Gen.OutKernelIdeal.Skeleton
public import proofs.«01_k».proof.Proof.Gen.OutKernelIdeal.Launch
public import proofs.«01_k».proof.Proof.Gen.OutKernelIdeal.Loops
public import proofs.«01_k».proof.Proof.Gen.OutKernelIdeal.Frame
public import proofs.«01_k».proof.Proof.Gen.OutKernelIdeal.Points
public import proofs.«01_k».proof.Proof.Gen.OutKernel.Points
public import proofs.«01_k».proof.Proof.Gen.OutReferenceIdeal.Run
public import proofs.«01_k».proof.Proof.ConvValue
public import proofs.«01_k».proof.Proof.OutFrame
public import proofs.«01_k».proof.Proof.OutValue
public import Idealize.ShloMosaic.Lib.Bf16Pair
public import Idealize.ShloMosaic.Lib.Bf16PairInverse
public import proofs.«01_k».proof.Proof.GluValue
public import proofs.«01_k».proof.Proof.QkviValue
public import proofs.«01_k».proof.Proof.IdxValue
public import proofs.«01_k».proof.Proof.Gen.ConvKernelIdeal.Value
public import proofs.«01_k».proof.Proof.Gen.ConvReferenceIdeal.Run
public import proofs.«01_k».proof.Proof.Gen.GluKernelIdeal.Value
public import proofs.«01_k».proof.Proof.Gen.GluReferenceIdeal.Run
public import proofs.«01_k».proof.Proof.Gen.QkviKernelIdeal.Value
public import proofs.«01_k».proof.Proof.Gen.QkviReferenceIdeal.Run
public import proofs.«01_k».proof.Proof.Gen.IdxKernelIdeal.Value
public import proofs.«01_k».proof.Proof.Gen.IdxReferenceIdeal.Run
public import proofs.«01_k».proof.Defs
public import proofs.«01_k».proof.Proof.Gen.ConvKernel
public import proofs.«01_k».proof.Proof.Gen.ConvKernel.Skeleton
public import proofs.«01_k».proof.Proof.Gen.ConvKernel.Loops
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Loops
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.QkviKernel
public import proofs.«01_k».proof.Proof.Gen.QkviKernel.Skeleton
public import proofs.«01_k».proof.Proof.Gen.QkviKernel.Launch
public import proofs.«01_k».proof.Proof.Gen.QkviKernel.Points
public import proofs.«01_k».proof.Proof.Gen.QkviKernel.Frame
public import proofs.«01_k».proof.Proof.Gen.QkviKernelIdeal
public import proofs.«01_k».proof.Proof.Gen.QkviKernelIdeal.Skeleton
public import proofs.«01_k».proof.Proof.Gen.QkviKernelIdeal.Launch
public import proofs.«01_k».proof.Proof.Gen.QkviKernelIdeal.Points
public import proofs.«01_k».proof.Proof.Gen.QkviKernelIdeal.Frame
public import proofs.«01_k».proof.Proof.Gen.QkviReferenceIdeal
public import proofs.«01_k».proof.Proof.Gen.IdxKernel
public import proofs.«01_k».proof.Proof.Gen.IdxKernel.Skeleton
public import proofs.«01_k».proof.Proof.Gen.IdxKernel.Launch
public import proofs.«01_k».proof.Proof.Gen.IdxKernel.Points
public import proofs.«01_k».proof.Proof.Gen.IdxKernel.Frame
public import proofs.«01_k».proof.Proof.Gen.IdxKernelIdeal
public import proofs.«01_k».proof.Proof.Gen.IdxKernelIdeal.Skeleton
public import proofs.«01_k».proof.Proof.Gen.IdxKernelIdeal.Launch
public import proofs.«01_k».proof.Proof.Gen.IdxKernelIdeal.Points
public import proofs.«01_k».proof.Proof.Gen.IdxKernelIdeal.Frame
public import proofs.«01_k».proof.Proof.Gen.IdxReferenceIdeal
public import Idealize.ShloMosaic.Lib.Claim
public import Idealize.ShloMosaic.Adequacy
public import Idealize.ShloMosaic.Init
public import proofs.«01_k».proof.Proof.DownBits
public import proofs.«01_k».proof.Proof.DownValue
public import proofs.«01_k».proof.Proof.Gen.DownReferenceIdeal.Run
public import proofs.«01_k».proof.Proof.Gen.Pre_items_of_blocks
public import proofs.«01_k».proof.Proof.UpBits
public import proofs.«01_k».proof.Proof.UpValue
public import proofs.«01_k».proof.Proof.Gen.UpReferenceIdeal.Run
public import proofs.«01_k».proof.Proof.Gen.Pre_items_of_up

@[expose] public section

noncomputable section

namespace Cert.Proof

open Idealize.ShloMosaic Idealize.SL.Sem Cert.ConvKernel

/-- At the ideal reading, the causal depthwise convolution mixer and its reference end with the same results. -/
theorem algebraicConv : Cert.algebraic_ConvKernelIdeal_ConvReferenceIdeal (hConvKernelIdeal := Cert.ConvKernelIdeal.Gen.facts) (hConvReferenceIdeal := Cert.ConvReferenceIdeal.Gen.facts) := by
  intro m g m' g' _ hagree
  refine ⟨fun c => Cert.Proof.Conv.REF (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)), (θ_run _ _ _).mono (fun r h c => ?_) (Cert.ConvKernelIdeal.Value.run_blocks m g), (θ_run _ _ _).mono (fun r h c => ?_) (Cert.ConvReferenceIdeal.Value.run m' g')⟩
  · exact ⟨(h c).1.trans (Cert.Proof.Conv.final m c), (h c).2⟩
  · exact ⟨((h c).1).trans ((Cert.Proof.Conv.ref_at (V0 := Idealize.ShloMosaic.StableHlo.launchContents m' c)).trans (show Cert.Proof.Conv.REF (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) (m' ((c.tc : Thread Cert.ConvReferenceIdeal.nD Cert.ConvReferenceIdeal.τ).loc Cert.ConvReferenceIdeal.main_arg2)) (m' ((c.tc : Thread Cert.ConvReferenceIdeal.nD Cert.ConvReferenceIdeal.τ).loc Cert.ConvReferenceIdeal.main_arg3)) (m' ((c.tc : Thread Cert.ConvReferenceIdeal.nD Cert.ConvReferenceIdeal.τ).loc Cert.ConvReferenceIdeal.main_arg4)) = Cert.Proof.Conv.REF (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) by rw [(hagree c).1, (hagree c).2.1, (hagree c).2.2.1, (hagree c).2.2.2.1, (hagree c).2.2.2.2])), (h c).2⟩

/-- At the ideal reading, the gated projection and its reference end with the same results. -/
theorem algebraicGlu : Cert.algebraic_GluKernelIdeal_GluReferenceIdeal (hGluKernelIdeal := Cert.GluKernelIdeal.Gen.facts) (hGluReferenceIdeal := Cert.GluReferenceIdeal.Gen.facts) := by
  intro m g m' g' _ hagree
  refine ⟨fun c => Cert.Proof.Glu.REF (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)), (θ_run _ _ _).mono (fun r h c => ?_) (Cert.GluKernelIdeal.Value.run_blocks m g), (θ_run _ _ _).mono (fun r h c => ?_) (Cert.GluReferenceIdeal.Value.run m' g')⟩
  · exact ⟨(h c).1.trans (Cert.Proof.Glu.final m c), (h c).2⟩
  · exact ⟨((h c).1).trans (show Cert.Proof.Glu.REF (m' ((c.tc : Thread Cert.GluReferenceIdeal.nD Cert.GluReferenceIdeal.τ).loc Cert.GluReferenceIdeal.main_arg0)) (m' ((c.tc : Thread Cert.GluReferenceIdeal.nD Cert.GluReferenceIdeal.τ).loc Cert.GluReferenceIdeal.main_arg1)) = Cert.Proof.Glu.REF (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) by rw [(hagree c).1, (hagree c).2]), (h c).2⟩

/-- At the ideal reading, the output projections with the first normalisation and the routers' products and their reference end with the same results. -/
theorem algebraicOut : Cert.algebraic_OutKernelIdeal_OutReferenceIdeal (hOutKernelIdeal := Cert.OutKernelIdeal.Gen.facts) (hOutReferenceIdeal := Cert.OutReferenceIdeal.Gen.facts) := by
  intro m g m' g' _ hagree
  refine ⟨fun c => Cert.Proof.Out.OUT0 m c, fun c => Cert.Proof.Out.OUT1 m c, Cert.Proof.Out.run m g, (θ_run _ _ _).mono (fun r h c => ?_) (Cert.OutReferenceIdeal.Value.run m' g')⟩
  refine ⟨((h c).1.trans (Cert.Proof.Out.res34 m' c)).trans (show Cert.Proof.Out.LN (Cert.Proof.Out.PRE (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) (m' ((c.tc : Thread Cert.OutReferenceIdeal.nD Cert.OutReferenceIdeal.τ).loc Cert.OutReferenceIdeal.main_arg3))) (m' ((c.tc : Thread Cert.OutReferenceIdeal.nD Cert.OutReferenceIdeal.τ).loc Cert.OutReferenceIdeal.main_arg4)) (m' ((c.tc : Thread Cert.OutReferenceIdeal.nD Cert.OutReferenceIdeal.τ).loc Cert.OutReferenceIdeal.main_arg5)) = Cert.Proof.Out.LN (Cert.Proof.Out.PRE (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) by rw [(hagree c).1, (hagree c).2.1, (hagree c).2.2.1, (hagree c).2.2.2.1, (hagree c).2.2.2.2.1, (hagree c).2.2.2.2.2.1]), ((h c).2.1.trans (Cert.Proof.Out.res48 m' c)).trans (show Cert.Proof.Out.ROUTE (Cert.Proof.Out.LN (Cert.Proof.Out.PRE (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) (m' ((c.tc : Thread Cert.OutReferenceIdeal.nD Cert.OutReferenceIdeal.τ).loc Cert.OutReferenceIdeal.main_arg3))) (m' ((c.tc : Thread Cert.OutReferenceIdeal.nD Cert.OutReferenceIdeal.τ).loc Cert.OutReferenceIdeal.main_arg4)) (m' ((c.tc : Thread Cert.OutReferenceIdeal.nD Cert.OutReferenceIdeal.τ).loc Cert.OutReferenceIdeal.main_arg5))) (m' ((c.tc : Thread Cert.OutReferenceIdeal.nD Cert.OutReferenceIdeal.τ).loc Cert.OutReferenceIdeal.main_arg6)) (m' ((c.tc : Thread Cert.OutReferenceIdeal.nD Cert.OutReferenceIdeal.τ).loc Cert.OutReferenceIdeal.main_arg7)) (m' ((c.tc : Thread Cert.OutReferenceIdeal.nD Cert.OutReferenceIdeal.τ).loc Cert.OutReferenceIdeal.main_arg8)) (m' ((c.tc : Thread Cert.OutReferenceIdeal.nD Cert.OutReferenceIdeal.τ).loc Cert.OutReferenceIdeal.main_arg9)) = Cert.Proof.Out.ROUTE (Cert.Proof.Out.LN (Cert.Proof.Out.PRE (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5))) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9)) by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]), (h c).2.2⟩

/-- The rewrites of the packed activations are each what the bits say. -/
theorem preservesOut : Cert.preserves_OutKernel_OutKernelIdeal :=
  ⟨IdealRules.bf16_pair.bufferStatement _ _, IdealRules.bf16_pair.bufferStatement _ _, IdealRules.bf16_pair.statement _ _, IdealRules.bf16_pack.statement _⟩

/-- At the ideal reading, the scaled projection to queries, keys, values and index queries and its reference end with the same results. -/
theorem algebraicQkvi : Cert.algebraic_QkviKernelIdeal_QkviReferenceIdeal (hQkviKernelIdeal := Cert.QkviKernelIdeal.Gen.facts) (hQkviReferenceIdeal := Cert.QkviReferenceIdeal.Gen.facts) := by
  intro m g m' g' _ hagree
  refine ⟨fun c => Cert.Proof.Qkvi.REF (m ((c.tc : Thread Cert.QkviKernelIdeal.nD Cert.QkviKernelIdeal.τ).loc Cert.QkviKernelIdeal.main_arg0)) (m ((c.tc : Thread Cert.QkviKernelIdeal.nD Cert.QkviKernelIdeal.τ).loc Cert.QkviKernelIdeal.main_arg1)), (θ_run _ _ _).mono (fun r h c => ?_) (Cert.QkviKernelIdeal.Value.run_blocks m g), (θ_run _ _ _).mono (fun r h c => ?_) (Cert.QkviReferenceIdeal.Value.run m' g')⟩
  · exact ⟨(h c).1.trans (Cert.Proof.Qkvi.final m c), (h c).2⟩
  · exact ⟨((h c).1).trans (show Cert.Proof.Qkvi.REF (m' ((c.tc : Thread Cert.QkviReferenceIdeal.nD Cert.QkviReferenceIdeal.τ).loc Cert.QkviReferenceIdeal.main_arg0)) (m' ((c.tc : Thread Cert.QkviReferenceIdeal.nD Cert.QkviReferenceIdeal.τ).loc Cert.QkviReferenceIdeal.main_arg1)) = Cert.Proof.Qkvi.REF (m ((c.tc : Thread Cert.QkviKernelIdeal.nD Cert.QkviKernelIdeal.τ).loc Cert.QkviKernelIdeal.main_arg0)) (m ((c.tc : Thread Cert.QkviKernelIdeal.nD Cert.QkviKernelIdeal.τ).loc Cert.QkviKernelIdeal.main_arg1)) by rw [(hagree c).1, (hagree c).2]), (h c).2⟩

/-- At the ideal reading, the indexer's projection and the rounding of the activations and its reference end with the same results. -/
theorem algebraicIdx : Cert.algebraic_IdxKernelIdeal_IdxReferenceIdeal (hIdxKernelIdeal := Cert.IdxKernelIdeal.Gen.facts) (hIdxReferenceIdeal := Cert.IdxReferenceIdeal.Gen.facts) := by
  intro m g m' g' _ hagree
  refine ⟨fun c => Cert.Proof.Idx.REF2 (m ((c.tc : Thread Cert.IdxKernelIdeal.nD Cert.IdxKernelIdeal.τ).loc Cert.IdxKernelIdeal.main_arg0)), fun c => Cert.Proof.Idx.REF3 (m ((c.tc : Thread Cert.IdxKernelIdeal.nD Cert.IdxKernelIdeal.τ).loc Cert.IdxKernelIdeal.main_arg0)) (m ((c.tc : Thread Cert.IdxKernelIdeal.nD Cert.IdxKernelIdeal.τ).loc Cert.IdxKernelIdeal.main_arg1)), (θ_run _ _ _).mono (fun r h c => ?_) (Cert.IdxKernelIdeal.Value.run_blocks m g), (θ_run _ _ _).mono (fun r h c => ?_) (Cert.IdxReferenceIdeal.Value.run m' g')⟩
  · exact ⟨(h c).1.trans (Cert.Proof.Idx.final2 m c), (h c).2.1.trans (Cert.Proof.Idx.final3 m c), (h c).2.2⟩
  · exact ⟨((h c).1).trans (show Cert.Proof.Idx.REF2 (m' ((c.tc : Thread Cert.IdxReferenceIdeal.nD Cert.IdxReferenceIdeal.τ).loc Cert.IdxReferenceIdeal.main_arg0)) = Cert.Proof.Idx.REF2 (m ((c.tc : Thread Cert.IdxKernelIdeal.nD Cert.IdxKernelIdeal.τ).loc Cert.IdxKernelIdeal.main_arg0)) by rw [(hagree c).1]), ((h c).2.1).trans (show Cert.Proof.Idx.REF3 (m' ((c.tc : Thread Cert.IdxReferenceIdeal.nD Cert.IdxReferenceIdeal.τ).loc Cert.IdxReferenceIdeal.main_arg0)) (m' ((c.tc : Thread Cert.IdxReferenceIdeal.nD Cert.IdxReferenceIdeal.τ).loc Cert.IdxReferenceIdeal.main_arg1)) = Cert.Proof.Idx.REF3 (m ((c.tc : Thread Cert.IdxKernelIdeal.nD Cert.IdxKernelIdeal.τ).loc Cert.IdxKernelIdeal.main_arg0)) (m ((c.tc : Thread Cert.IdxKernelIdeal.nD Cert.IdxKernelIdeal.τ).loc Cert.IdxKernelIdeal.main_arg1)) by rw [(hagree c).1, (hagree c).2]), (h c).2.2⟩

/-- The reference of Conv runs from every memory, leaves its arguments as they were and every counter at zero. -/
theorem frameReferenceConv : Cert.quiescent_ConvReferenceIdeal (hConvReferenceIdeal := Cert.ConvReferenceIdeal.Gen.facts) := by
  intro m g _
  exact (θ_run Cert.ConvReferenceIdeal.defs _ _).mono (fun r h => ⟨fun c => (h c).2, sem_eq_zero_of_no_sems (by decide) r.2⟩)
    (Cert.ConvReferenceIdeal.Value.run m g)

/-- The reference of Glu runs from every memory, leaves its arguments as they were and every counter at zero. -/
theorem frameReferenceGlu : Cert.quiescent_GluReferenceIdeal (hGluReferenceIdeal := Cert.GluReferenceIdeal.Gen.facts) := by
  intro m g _
  exact (θ_run Cert.GluReferenceIdeal.defs _ _).mono (fun r h => ⟨fun c => (h c).2, sem_eq_zero_of_no_sems (by decide) r.2⟩)
    (Cert.GluReferenceIdeal.Value.run m g)

/-- The reference of Qkvi runs from every memory, leaves its arguments as they were and every counter at zero. -/
theorem frameReferenceQkvi : Cert.quiescent_QkviReferenceIdeal (hQkviReferenceIdeal := Cert.QkviReferenceIdeal.Gen.facts) := by
  intro m g _
  exact (θ_run Cert.QkviReferenceIdeal.defs _ _).mono (fun r h => ⟨fun c => (h c).2, sem_eq_zero_of_no_sems (by decide) r.2⟩)
    (Cert.QkviReferenceIdeal.Value.run m g)

/-- The reference of Idx runs from every memory, leaves its arguments as they were and every counter at zero. -/
theorem frameReferenceIdx : Cert.quiescent_IdxReferenceIdeal (hIdxReferenceIdeal := Cert.IdxReferenceIdeal.Gen.facts) := by
  intro m g _
  exact (θ_run Cert.IdxReferenceIdeal.defs _ _).mono (fun r h => ⟨fun c => (h c).2.2, sem_eq_zero_of_no_sems (by decide) r.2⟩)
    (Cert.IdxReferenceIdeal.Value.run m g)

/-- The reference of Out runs from every memory, leaves its arguments as they were and every counter at zero. -/
theorem frameReferenceOut : Cert.quiescent_OutReferenceIdeal (hOutReferenceIdeal := Cert.OutReferenceIdeal.Gen.facts) := by
  intro m g _
  exact (θ_run Cert.OutReferenceIdeal.defs _ _).mono (fun r h => ⟨fun c => (h c).2.2, sem_eq_zero_of_no_sems (by decide) r.2⟩)
    (Cert.OutReferenceIdeal.Value.run m g)

/-- At the ideal reading, the experts' second product and its reference end with the same results. -/
theorem algebraicDown : Cert.algebraic_DownKernelIdeal_DownReferenceIdeal (hDownKernelIdeal := Cert.DownKernelIdeal.Gen.facts) (hDownReferenceIdeal := Cert.DownReferenceIdeal.Gen.facts) (hPre_items_of_blocks := Cert.Pre_items_of_blocks.Gen.facts) := by
  intro m g m' g' hp hagree
  have hS : Cert.DownKernelIdeal.Gen.SaysAll m := fun t => Cert.Proof.Down.says_of (hp 0) t
  refine ⟨fun _ => Cert.Proof.Down.REFm m, (θ_run _ _ _).mono (fun r h c => ⟨((h.1 c).1).trans (Cert.Proof.Down.final m hS c), (h.1 c).2⟩) (Cert.DownKernelIdeal.Gen.run_said m g hS), (θ_run _ _ _).mono (fun r h c => ?_) (Cert.DownReferenceIdeal.Value.run m' g')⟩
  obtain rfl : c = 0 := Subsingleton.elim _ _
  obtain ⟨e0, e1, e2, e3, _, _, _, _, _, e9⟩ := hagree 0
  exact ⟨((h 0).1).trans (show Cert.Proof.Down.REF (m' (((0 : Dev Cert.DownReferenceIdeal.nD).tc : Thread Cert.DownReferenceIdeal.nD Cert.DownReferenceIdeal.τ).loc Cert.DownReferenceIdeal.main_arg0)) (m' (((0 : Dev Cert.DownReferenceIdeal.nD).tc : Thread Cert.DownReferenceIdeal.nD Cert.DownReferenceIdeal.τ).loc Cert.DownReferenceIdeal.main_arg1)) (m' (((0 : Dev Cert.DownReferenceIdeal.nD).tc : Thread Cert.DownReferenceIdeal.nD Cert.DownReferenceIdeal.τ).loc Cert.DownReferenceIdeal.main_arg2)) (m' (((0 : Dev Cert.DownReferenceIdeal.nD).tc : Thread Cert.DownReferenceIdeal.nD Cert.DownReferenceIdeal.τ).loc Cert.DownReferenceIdeal.main_arg3)) (m' (((0 : Dev Cert.DownReferenceIdeal.nD).tc : Thread Cert.DownReferenceIdeal.nD Cert.DownReferenceIdeal.τ).loc Cert.DownReferenceIdeal.main_arg9)) = Cert.Proof.Down.REFm m by rw [e0, e1, e2, e3, e9]; rfl), (h 0).2⟩

/-- The reference of Down runs from every memory, leaves its arguments as they were and every counter at zero. -/
theorem frameReferenceDown : Cert.quiescent_DownReferenceIdeal (hDownReferenceIdeal := Cert.DownReferenceIdeal.Gen.facts) := by
  intro m g _
  exact (θ_run Cert.DownReferenceIdeal.defs _ _).mono (fun r h => ⟨fun c => (h c).2, sem_eq_zero_of_no_sems (by decide) r.2⟩)
    (Cert.DownReferenceIdeal.Value.run m g)

/-- So it does from the memories of which the precondition speaks. -/
theorem frameReferenceDownPre : Cert.quiescent_DownReferenceIdeal_pre_items_of_blocks (hDownReferenceIdeal := Cert.DownReferenceIdeal.Gen.facts) (hPre_items_of_blocks := Cert.Pre_items_of_blocks.Gen.facts) := by
  intro m g _
  exact (θ_run Cert.DownReferenceIdeal.defs _ _).mono (fun r h => ⟨fun c => (h c).2, sem_eq_zero_of_no_sems (by decide) r.2⟩)
    (Cert.DownReferenceIdeal.Value.run m g)

/-- At the ideal reading, the second half of the experts' first products and its reference end with the same results. -/
theorem algebraicUp : Cert.algebraic_UpKernelIdeal_UpReferenceIdeal (hUpKernelIdeal := Cert.UpKernelIdeal.Gen.facts) (hUpReferenceIdeal := Cert.UpReferenceIdeal.Gen.facts) (hPre_items_of_up := Cert.Pre_items_of_up.Gen.facts) := by
  intro m g m' g' hp hagree
  have hS : Cert.UpKernelIdeal.Gen.SaysAll m := fun t => Cert.Proof.Up.says_of (hp 0) t
  refine ⟨fun _ => Cert.Proof.Up.REFm m, (θ_run _ _ _).mono (fun r h c => ⟨((h.1 c).1).trans (Cert.Proof.Up.final m hS c), (h.1 c).2⟩) (Cert.UpKernelIdeal.Gen.run_said m g hS), (θ_run _ _ _).mono (fun r h c => ?_) (Cert.UpReferenceIdeal.Value.run m' g')⟩
  obtain rfl : c = 0 := Subsingleton.elim _ _
  obtain ⟨e0, e1, e2, e3, _, _, _, _, _, e9⟩ := hagree 0
  exact ⟨((h 0).1).trans (show Cert.Proof.Up.REF (m' (((0 : Dev Cert.UpReferenceIdeal.nD).tc : Thread Cert.UpReferenceIdeal.nD Cert.UpReferenceIdeal.τ).loc Cert.UpReferenceIdeal.main_arg0)) (m' (((0 : Dev Cert.UpReferenceIdeal.nD).tc : Thread Cert.UpReferenceIdeal.nD Cert.UpReferenceIdeal.τ).loc Cert.UpReferenceIdeal.main_arg1)) (m' (((0 : Dev Cert.UpReferenceIdeal.nD).tc : Thread Cert.UpReferenceIdeal.nD Cert.UpReferenceIdeal.τ).loc Cert.UpReferenceIdeal.main_arg2)) (m' (((0 : Dev Cert.UpReferenceIdeal.nD).tc : Thread Cert.UpReferenceIdeal.nD Cert.UpReferenceIdeal.τ).loc Cert.UpReferenceIdeal.main_arg3)) (m' (((0 : Dev Cert.UpReferenceIdeal.nD).tc : Thread Cert.UpReferenceIdeal.nD Cert.UpReferenceIdeal.τ).loc Cert.UpReferenceIdeal.main_arg9)) = Cert.Proof.Up.REFm m by rw [e0, e1, e2, e3, e9]; rfl), (h 0).2⟩

/-- The reference of Up runs from every memory, leaves its arguments as they were and every counter at zero. -/
theorem frameReferenceUp : Cert.quiescent_UpReferenceIdeal (hUpReferenceIdeal := Cert.UpReferenceIdeal.Gen.facts) := by
  intro m g _
  exact (θ_run Cert.UpReferenceIdeal.defs _ _).mono (fun r h => ⟨fun c => (h c).2, sem_eq_zero_of_no_sems (by decide) r.2⟩)
    (Cert.UpReferenceIdeal.Value.run m g)

/-- So it does from the memories of which the precondition speaks. -/
theorem frameReferenceUpPre : Cert.quiescent_UpReferenceIdeal_pre_items_of_up (hUpReferenceIdeal := Cert.UpReferenceIdeal.Gen.facts) (hPre_items_of_up := Cert.Pre_items_of_up.Gen.facts) := by
  intro m g _
  exact (θ_run Cert.UpReferenceIdeal.defs _ _).mono (fun r h => ⟨fun c => (h c).2, sem_eq_zero_of_no_sems (by decide) r.2⟩)
    (Cert.UpReferenceIdeal.Value.run m g)

/-- Every claim of the certificate. -/
theorem claim : Cert.Claim := ⟨Cert.ConvKernel.Gen.facts, Cert.ConvKernelIdeal.Gen.facts, Cert.ConvReferenceIdeal.Gen.facts, Cert.OutKernel.Gen.facts, Cert.OutKernelIdeal.Gen.facts, Cert.OutReferenceIdeal.Gen.facts, Cert.GluKernel.Gen.facts, Cert.GluKernelIdeal.Gen.facts, Cert.GluReferenceIdeal.Gen.facts, Cert.QkviKernel.Gen.facts, Cert.QkviKernelIdeal.Gen.facts, Cert.QkviReferenceIdeal.Gen.facts, Cert.IdxKernel.Gen.facts, Cert.IdxKernelIdeal.Gen.facts, Cert.IdxReferenceIdeal.Gen.facts, Cert.DownKernel.Gen.facts, Cert.DownKernelIdeal.Gen.facts, Cert.DownReferenceIdeal.Gen.facts, Cert.UpKernel.Gen.facts, Cert.UpKernelIdeal.Gen.facts, Cert.UpReferenceIdeal.Gen.facts, Cert.Pre_items_of_blocks.Gen.facts, Cert.Pre_items_of_up.Gen.facts,
  fun m ρ _ => Cert.ConvKernel.Gen.frame m ρ,
  fun m ρ _ => Cert.ConvKernelIdeal.Gen.frame m ρ,
  frameReferenceConv,
  fun m ρ _ => Cert.OutKernel.Gen.frame m ρ,
  fun m ρ _ => Cert.OutKernelIdeal.Gen.frame m ρ,
  frameReferenceOut,
  fun m ρ _ => Cert.GluKernel.Gen.frame m ρ,
  fun m ρ _ => Cert.GluKernelIdeal.Gen.frame m ρ,
  frameReferenceGlu,
  fun m ρ _ => Cert.QkviKernel.Gen.frame m ρ,
  fun m ρ _ => Cert.QkviKernelIdeal.Gen.frame m ρ,
  frameReferenceQkvi,
  fun m ρ _ => Cert.IdxKernel.Gen.frame m ρ,
  fun m ρ _ => Cert.IdxKernelIdeal.Gen.frame m ρ,
  frameReferenceIdx,
  Cert.Proof.Down.frameBits,
  Cert.Proof.Down.frameIdeal,
  frameReferenceDown,
  frameReferenceDownPre,
  Cert.Proof.Up.frameBits,
  Cert.Proof.Up.frameIdeal,
  frameReferenceUp,
  frameReferenceUpPre,
  trivial,
  algebraicConv,
  preservesOut,
  algebraicOut,
  trivial,
  algebraicGlu,
  trivial,
  algebraicQkvi,
  trivial,
  algebraicIdx,
  trivial,
  algebraicDown,
  trivial,
  algebraicUp⟩

end Cert.Proof

end
